-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal_on_gate_columns [hKernelIdeal : Cert.KernelIdeal.Facts] [hReferenceIdeal : Cert.ReferenceIdeal.Facts] [hOn_gate_columns : Cert.On_gate_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v33_1)) (v2 : (c : Dev Cert.KernelIdeal.nD) → Buf (Elt Ideal) ((c.tc : Thread Cert.KernelIdeal.nD Cert.KernelIdeal.τ).loc Cert.KernelIdeal.main_v33_2)) (v3 : (c : Dev Cert.KernelIdeal.nD) → Buf (Elt Ideal) ((c.tc : Thread Cert.KernelIdeal.nD Cert.KernelIdeal.τ).loc Cert.KernelIdeal.main_v33_3)) (v4 : (c : Dev Cert.KernelIdeal.nD) → Buf (Elt Ideal) ((c.tc : Thread Cert.KernelIdeal.nD Cert.KernelIdeal.τ).loc Cert.KernelIdeal.main_v33_4)) (v5 : (c : Dev Cert.KernelIdeal.nD) → Buf (Elt Ideal) ((c.tc : Thread Cert.KernelIdeal.nD Cert.KernelIdeal.τ).loc Cert.KernelIdeal.main_v33_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 7424]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.KernelIdeal.nD Cert.KernelIdeal.τ).loc Cert.KernelIdeal.main_v33_0) i = v0 c i)
          ∧ (∀ i : (⟨2, ![4096, 512]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.KernelIdeal.nD Cert.KernelIdeal.τ).loc Cert.KernelIdeal.main_v33_1) i = v1 c i)
          ∧ (∀ i : (⟨2, ![4096, 512]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.KernelIdeal.nD Cert.KernelIdeal.τ).loc Cert.KernelIdeal.main_v33_2) i = v2 c i)
          ∧ (∀ i : (⟨2, ![4096, 512]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 i = 1#1 → r.2.mem ((c.tc : Thread Cert.KernelIdeal.nD Cert.KernelIdeal.τ).loc Cert.KernelIdeal.main_v33_3) i = v3 c i)
          ∧ (∀ i : (⟨3, ![3, 512, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 i = 1#1 → r.2.mem ((c.tc : Thread Cert.KernelIdeal.nD Cert.KernelIdeal.τ).loc Cert.KernelIdeal.main_v33_4) i = v4 c i)
          ∧ (∀ i : (⟨2, ![1024, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2 i = 1#1 → r.2.mem ((c.tc : Thread Cert.KernelIdeal.nD Cert.KernelIdeal.τ).loc Cert.KernelIdeal.main_v33_5) i = v5 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 7424]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.ReferenceIdeal.nD Cert.ReferenceIdeal.τ).loc Cert.ReferenceIdeal.main_v55) i = v0 c i)
          ∧ (∀ i : (⟨2, ![4096, 512]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.ReferenceIdeal.nD Cert.ReferenceIdeal.τ).loc Cert.ReferenceIdeal.main_v48) i = v1 c i)
          ∧ (∀ i : (⟨2, ![4096, 512]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.ReferenceIdeal.nD Cert.ReferenceIdeal.τ).loc Cert.ReferenceIdeal.main_v40) i = v2 c i)
          ∧ (∀ i : (⟨2, ![4096, 512]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 i = 1#1 → r.2.mem ((c.tc : Thread Cert.ReferenceIdeal.nD Cert.ReferenceIdeal.τ).loc Cert.ReferenceIdeal.main_v33) i = v3 c i)
          ∧ (∀ i : (⟨3, ![3, 512, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 i = 1#1 → r.2.mem ((c.tc : Thread Cert.ReferenceIdeal.nD Cert.ReferenceIdeal.τ).loc Cert.ReferenceIdeal.main_v60) i = v4 c i)
          ∧ (∀ i : (⟨2, ![1024, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2 i = 1#1 → r.2.mem ((c.tc : Thread Cert.ReferenceIdeal.nD Cert.ReferenceIdeal.τ).loc Cert.ReferenceIdeal.main_v61) i = v5 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v13_0)) (v1 : (c : Dev Cert.Kernel4Ideal.nD) → Buf (Elt Ideal) ((c.tc : Thread Cert.Kernel4Ideal.nD Cert.Kernel4Ideal.τ).loc Cert.Kernel4Ideal.main_v13_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13_0) = v0 c
          ∧ r.2.mem ((c.tc : Thread Cert.Kernel4Ideal.nD Cert.Kernel4Ideal.τ).loc Cert.Kernel4Ideal.main_v13_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_v22) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v9_0)) (v1 : (c : Dev Cert.Kernel5Ideal.nD) → Buf (Elt Ideal) ((c.tc : Thread Cert.Kernel5Ideal.nD Cert.Kernel5Ideal.τ).loc Cert.Kernel5Ideal.main_v9_1)) (v2 : (c : Dev Cert.Kernel5Ideal.nD) → Buf (Elt Ideal) ((c.tc : Thread Cert.Kernel5Ideal.nD Cert.Kernel5Ideal.τ).loc Cert.Kernel5Ideal.main_v9_2)) (v3 : (c : Dev Cert.Kernel5Ideal.nD) → Buf (Elt Ideal) ((c.tc : Thread Cert.Kernel5Ideal.nD Cert.Kernel5Ideal.τ).loc Cert.Kernel5Ideal.main_v9_3)) (v4 : (c : Dev Cert.Kernel5Ideal.nD) → Buf (Elt Ideal) ((c.tc : Thread Cert.Kernel5Ideal.nD Cert.Kernel5Ideal.τ).loc Cert.Kernel5Ideal.main_v9_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_0) = v0 c
          ∧ r.2.mem ((c.tc : Thread Cert.Kernel5Ideal.nD Cert.Kernel5Ideal.τ).loc Cert.Kernel5Ideal.main_v9_1) = v1 c
          ∧ r.2.mem ((c.tc : Thread Cert.Kernel5Ideal.nD Cert.Kernel5Ideal.τ).loc Cert.Kernel5Ideal.main_v9_2) = v2 c
          ∧ r.2.mem ((c.tc : Thread Cert.Kernel5Ideal.nD Cert.Kernel5Ideal.τ).loc Cert.Kernel5Ideal.main_v9_3) = v3 c
          ∧ r.2.mem ((c.tc : Thread Cert.Kernel5Ideal.nD Cert.Kernel5Ideal.τ).loc Cert.Kernel5Ideal.main_v9_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v73) = v0 c
          ∧ r.2.mem ((c.tc : Thread Cert.Reference5Ideal.nD Cert.Reference5Ideal.τ).loc Cert.Reference5Ideal.main_v74) = v1 c
          ∧ r.2.mem ((c.tc : Thread Cert.Reference5Ideal.nD Cert.Reference5Ideal.τ).loc Cert.Reference5Ideal.main_v53) = v2 c
          ∧ r.2.mem ((c.tc : Thread Cert.Reference5Ideal.nD Cert.Reference5Ideal.τ).loc Cert.Reference5Ideal.main_v56) = v3 c
          ∧ r.2.mem ((c.tc : Thread Cert.Reference5Ideal.nD Cert.Reference5Ideal.τ).loc Cert.Reference5Ideal.main_v75) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hOn_gate_columns : Cert.On_gate_columns.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_on_gate_columns (hKernelIdeal := hKernelIdeal) (hReferenceIdeal := hReferenceIdeal) (hOn_gate_columns := hOn_gate_columns)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== On_gate_columns.lean ====
abbrev S4096x1024 : Shape := ⟨2, ![4096, 1024]⟩
abbrev S4096x512 : Shape := ⟨2, ![4096, 512]⟩
abbrev S4096x7424 : Shape := ⟨2, ![4096, 7424]⟩
abbrev S512x1024 : Shape := ⟨2, ![512, 1024]⟩
abbrev S1024x1024 : Shape := ⟨2, ![1024, 1024]⟩
abbrev S_ : Shape := ⟨0, ![]⟩
abbrev S3x512x1024 : Shape := ⟨3, ![3, 512, 1024]⟩

class Facts : Prop where
  bcast_S_S4096x7424 : S_.BroadcastsInDim S4096x7424 (![] : Fin 0 → Fin S4096x7424.rank)
  bcast_S_S4096x512 : S_.BroadcastsInDim S4096x512 (![] : Fin 0 → Fin S4096x512.rank)
  bcast_S_S3x512x1024 : S_.BroadcastsInDim S3x512x1024 (![] : Fin 0 → Fin S3x512x1024.rank)
  bcast_S_S1024x1024 : S_.BroadcastsInDim S1024x1024 (![] : Fin 0 → Fin S1024x1024.rank)

variable [Facts]

def fn {F : FTy → Type} [FloatOps F] (main_arg0 : FVec F S4096x1024 .f32) (main_arg1 : FVec F S4096x512 .f32) (main_arg2 : FVec F S4096x512 .f32) (main_arg3 : FVec F S4096x512 .f32) (main_arg4 : FVec F S4096x7424 .f32) (main_arg5 : FVec F S512x1024 .f32) (main_arg6 : FVec F S512x1024 .f32) (main_arg7 : FVec F S512x1024 .f32) (main_arg8 : FVec F S1024x1024 .f32) : IVec S4096x7424 1 × IVec S4096x512 1 × IVec S4096x512 1 × IVec S4096x512 1 × IVec S3x512x1024 1 × IVec S1024x1024 1 :=
  let main_v0 : IVec S4096x7424 32 := iotaInDim S4096x7424 32 1
  let main_c : IVec S_ 32 := constantI S_ 32 3072#32
  let main_v1 : IVec S4096x7424 32 := broadcastInDim S4096x7424 ![] bcast_S_S4096x7424 main_c
  let main_v2 : IVec S4096x7424 1 := cmpi .sge main_v0 main_v1
  let main_c_0 : IVec S_ 32 := constantI S_ 32 6144#32
  let main_v3 : IVec S4096x7424 32 := broadcastInDim S4096x7424 ![] bcast_S_S4096x7424 main_c_0
  let main_v4 : IVec S4096x7424 1 := cmpi .slt main_v0 main_v3
  let main_v5 : IVec S4096x7424 1 := andi main_v2 main_v4
  let main_c_1 : IVec S_ 1 := constantI S_ 1 1#1
  let main_v6 : IVec S4096x512 1 := broadcastInDim S4096x512 ![] bcast_S_S4096x512 main_c_1
  let main_c_2 : IVec S_ 1 := constantI S_ 1 1#1
  let main_v7 : IVec S4096x512 1 := broadcastInDim S4096x512 ![] bcast_S_S4096x512 main_c_2
  let main_c_3 : IVec S_ 1 := constantI S_ 1 1#1
  let main_v8 : IVec S4096x512 1 := broadcastInDim S4096x512 ![] bcast_S_S4096x512 main_c_3
  let main_c_4 : IVec S_ 1 := constantI S_ 1 1#1
  let main_v9 : IVec S3x512x1024 1 := broadcastInDim S3x512x1024 ![] bcast_S_S3x512x1024 main_c_4
  let main_c_5 : IVec S_ 1 := constantI S_ 1 1#1
  let main_v10 : IVec S1024x1024 1 := broadcastInDim S1024x1024 ![] bcast_S_S1024x1024 main_c_5
  (main_v5, main_v6, main_v7, main_v8, main_v9, main_v10)
-- ==== Kernel.lean ====
abbrev S4096x1024 : Shape := ⟨2, ![4096, 1024]⟩
abbrev S4096x512 : Shape := ⟨2, ![4096, 512]⟩
abbrev S4096x7424 : Shape := ⟨2, ![4096, 7424]⟩
abbrev S512x1024 : Shape := ⟨2, ![512, 1024]⟩
abbrev S1024x1024 : Shape := ⟨2, ![1024, 1024]⟩
abbrev S4096x3072 : Shape := ⟨2, ![4096, 3072]⟩
abbrev S_ : Shape := ⟨0, ![]⟩
abbrev S4096x3x1024 : Shape := ⟨3, ![4096, 3, 1024]⟩
abbrev S4096x1x1024 : Shape := ⟨3, ![4096, 1, 1024]⟩
abbrev S1x512x1024 : Shape := ⟨3, ![1, 512, 1024]⟩
abbrev S3x512x1024 : Shape := ⟨3, ![3, 512, 1024]⟩
abbrev S256x1024 : Shape := ⟨2, ![256, 1024]⟩
abbrev S256x512 : Shape := ⟨2, ![256, 512]⟩
abbrev S256x3072 : Shape := ⟨2, ![256, 3072]⟩
abbrev S3x256x3072 : Shape := ⟨3, ![3, 256, 3072]⟩
abbrev S3 : Shape := ⟨1, ![3]⟩
abbrev S1 : Shape := ⟨1, ![1]⟩
abbrev S1x256x3072 : Shape := ⟨3, ![1, 256, 3072]⟩

abbrev nBuf : Space → Nat
  | .hbm => 50
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x7424, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S4096x3072, .f32⟩
  | .hbm, ⟨10, _⟩ => ⟨S4096x3072, .f32⟩
  | .hbm, ⟨11, _⟩ => ⟨S4096x3072, .f32⟩
  | .hbm, ⟨12, _⟩ => ⟨S_, .f32⟩
  | .hbm, ⟨13, _⟩ => ⟨S4096x3072, .f32⟩
  | .hbm, ⟨14, _⟩ => ⟨S4096x3072, .f32⟩
  | .hbm, ⟨15, _⟩ => ⟨S_, .f32⟩
  | .hbm, ⟨16, _⟩ => ⟨S4096x3072, .f32⟩
  | .hbm, ⟨17, _⟩ => ⟨S4096x3072, .f32⟩
  | .hbm, ⟨18, _⟩ => ⟨S4096x3x1024, .f32⟩
  | .hbm, ⟨19, _⟩ => ⟨S4096x1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .bf16⟩
  | .hbm, ⟨34, _⟩ => ⟨S1x512x1024, .f32⟩
  | .hbm, ⟨35, _⟩ => ⟨S1x512x1024, .f32⟩
  | .hbm, ⟨36, _⟩ => ⟨S1x512x1024, .f32⟩
  | .hbm, ⟨37, _⟩ => ⟨S3x512x1024, .f32⟩
  | .hbm, ⟨38, _⟩ => ⟨S3x512x1024, .bf16⟩
  | .hbm, ⟨39, _⟩ => ⟨S4096x1024, .bf16⟩
  | .hbm, ⟨40, _⟩ => ⟨S4096x512, .bf16⟩
  | .hbm, ⟨41, _⟩ => ⟨S4096x512, .bf16⟩
  | .hbm, ⟨42, _⟩ => ⟨S4096x512, .bf16⟩
  | .hbm, ⟨43, _⟩ => ⟨S1024x1024, .bf16⟩
  | .hbm, ⟨44, _⟩ => ⟨S4096x7424, .bf16⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S3x512x1024, .bf16⟩
  | .hbm, ⟨49, _⟩ => ⟨S1024x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S3x512x1024, .bf16⟩
  | .local _ .vmem, ⟨11, _⟩ => ⟨S1024x1024, .bf16⟩
  | .local _ .vmem, ⟨12, _⟩ => ⟨S256x3072, .bf16⟩
  | .local _ .vmem, ⟨13, _⟩ => ⟨S256x3072, .bf16⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S3x512x1024, .f32⟩
  | .local _ .vmem, ⟨21, _⟩ => ⟨S1024x1024, .f32⟩
  | .local _ .vmem, ⟨22, _⟩ => ⟨S3x512x1024, .bf16⟩
  | .local _ .vmem, ⟨23, _⟩ => ⟨S1024x1024, .bf16⟩
  | .local _ .vmem, ⟨24, _⟩ => ⟨S3x256x3072, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33_0 : Ref sig .tc := ⟨.hbm, 44, rfl⟩
abbrev main_v33_1 : Ref sig .tc := ⟨.hbm, 45, rfl⟩
abbrev main_v33_2 : Ref sig .tc := ⟨.hbm, 46, rfl⟩
abbrev main_v33_3 : Ref sig .tc := ⟨.hbm, 47, rfl⟩
abbrev main_v33_4 : Ref sig .tc := ⟨.hbm, 48, rfl⟩
abbrev main_v33_5 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_103 : BitVec 32 := 0#32
  c0_i32_103
def k0_mult2 : BitVec 32 :=
  let c256_i32_109 : BitVec 32 := 256#32
  c256_i32_109
def k0_cond2 (i : grid0.Coords) : BitVec 1 :=
  let arg0 : BitVec 32 := BitVec.ofNat 32 (i 0).val
  let c2_i32 : BitVec 32 := 2#32
  let v3 : BitVec 32 := Scalar.addi arg0 c2_i32
  let c15_i32 : BitVec 32 := 15#32
  let v4 : BitVec 1 := Scalar.cmpi .sle v3 c15_i32
  let v5 : BitVec 32 := Scalar.extui v4
  let c0_i32_1 : BitVec 32 := 0#32
  let v6 : BitVec 1 := Scalar.cmpi .ne v5 c0_i32_1
  v6

def k0_mult3 (i : grid0.Coords) : BitVec 32 :=
  let arg0 : BitVec 32 := BitVec.ofNat 32 (i 0).val
  let c2_i32_96 : BitVec 32 := 2#32
  let v140 : BitVec 32 := Scalar.addi arg0 c2_i32_96
  let c256_i32_104 : BitVec 32 := 256#32
  let v152 : BitVec 32 := Scalar.muli v140 c256_i32_104
  v152
def k0_off1 (i : grid0.Coords) : Fin 1 → Nat :=
  let arg0 : BitVec 32 := BitVec.ofNat 32 (i 0).val
  let c2_i32_97 : BitVec 32 := 2#32
  let v141 : BitVec 32 := Scalar.addi arg0 c2_i32_97
  let c3_i32_98 : BitVec 32 := 3#32
  let c0_i32_99 : BitVec 32 := 0#32
  let v142 : BitVec 1 := Scalar.cmpi .eq c3_i32_98 c0_i32_99
  let c1_i32_100 : BitVec 32 := 1#32
  let v143 : BitVec 32 := Scalar.select v142 c1_i32_100 c3_i32_98
  let v144 : BitVec 32 := Scalar.remsi v141 v143
  let c0_i32_102 : BitVec 32 := 0#32
  let v146 : BitVec 1 := Scalar.cmpi .slt v144 c0_i32_102
  let c0_i32_103 : BitVec 32 := 0#32
  let v147 : BitVec 1 := Scalar.cmpi .slt v143 c0_i32_103
  let v148 : BitVec 1 := Scalar.xori v146 v147
  let c0_i32_101 : BitVec 32 := 0#32
  let v145 : BitVec 1 := Scalar.cmpi .ne v144 c0_i32_101
  let v149 : BitVec 1 := Scalar.andi v148 v145
  let v150 : BitVec 32 := Scalar.addi v144 v143
  let v151 : BitVec 32 := Scalar.select v149 v150 v144
  ![v151.toNat]
def k0_off2 (i : grid0.Coords) : Fin 3 → Nat :=
  let arg0 : BitVec 32 := BitVec.ofNat 32 (i 0).val
  let c2_i32_97 : BitVec 32 := 2#32
  let v141 : BitVec 32 := Scalar.addi arg0 c2_i32_97
  let c3_i32_98 : BitVec 32 := 3#32
  let c0_i32_99 : BitVec 32 := 0#32
  let v142 : BitVec 1 := Scalar.cmpi .eq c3_i32_98 c0_i32_99
  let c1_i32_100 : BitVec 32 := 1#32
  let v143 : BitVec 32 := Scalar.select v142 c1_i32_100 c3_i32_98
  let v144 : BitVec 32 := Scalar.remsi v141 v143
  let c0_i32_102 : BitVec 32 := 0#32
  let v146 : BitVec 1 := Scalar.cmpi .slt v144 c0_i32_102
  let c0_i32_103 : BitVec 32 := 0#32
  let v147 : BitVec 1 := Scalar.cmpi .slt v143 c0_i32_103
  let v148 : BitVec 1 := Scalar.xori v146 v147
  let c0_i32_101 : BitVec 32 := 0#32
  let v145 : BitVec 1 := Scalar.cmpi .ne v144 c0_i32_101
  let v149 : BitVec 1 := Scalar.andi v148 v145
  let v150 : BitVec 32 := Scalar.addi v144 v143
  let v151 : BitVec 32 := Scalar.select v149 v150 v144
  let c0_i32_105 : BitVec 32 := 0#32
  let c0_i32_106 : BitVec 32 := 0#32
  ![v151.toNat, 0, 0]
def k0_off3 (i : grid0.Coords) : Fin 2 → Nat :=
  let arg0 : BitVec 32 := BitVec.ofNat 32 (i 0).val
  let c2_i32_96 : BitVec 32 := 2#32
  let v140 : BitVec 32 := Scalar.addi arg0 c2_i32_96
  let c256_i32_104 : BitVec 32 := 256#32
  let v152 : BitVec 32 := Scalar.muli v140 c256_i32_104
  let v153 : BitVec 32 := v152
  let c3072_i32_107 : BitVec 32 := 3072#32
  ![v153.toNat, 3072]
def k0_mult4 (i : grid0.Coords) : BitVec 32 :=
  let arg0 : BitVec 32 := BitVec.ofNat 32 (i 0).val
  let c256_i32 : BitVec 32 := 256#32
  let v17 : BitVec 32 := Scalar.muli arg0 c256_i32
  v17
def k0_off4 (i : grid0.Coords) : Fin 1 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  ![v16.toNat]
def k0_off5 (i : grid0.Coords) : Fin 3 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c0_i32_6 : BitVec 32 := 0#32
  let c0_i32_7 : BitVec 32 := 0#32
  ![v16.toNat, 0, 0]
def k0_off6 (i : grid0.Coords) : Fin 2 → Nat :=
  let arg0 : BitVec 32 := BitVec.ofNat 32 (i 0).val
  let c256_i32 : BitVec 32 := 256#32
  let v17 : BitVec 32 := Scalar.muli arg0 c256_i32
  let v18 : BitVec 32 := v17
  let c3072_i32 : BitVec 32 := 3072#32
  ![v18.toNat, 3072]
def k0_off7 (i : grid0.Coords) : Fin 3 → Nat :=
  let arg0 : BitVec 32 := BitVec.ofNat 32 (i 0).val
  let c3_i32_8 : BitVec 32 := 3#32
  let c0_i32_9 : BitVec 32 := 0#32
  let v24 : BitVec 1 := Scalar.cmpi .eq c3_i32_8 c0_i32_9
  let c1_i32_10 : BitVec 32 := 1#32
  let v25 : BitVec 32 := Scalar.select v24 c1_i32_10 c3_i32_8
  let v26 : BitVec 32 := Scalar.remsi arg0 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let v34 : Index := Scalar.indexCast v33
  let c0 : Index := 0#32
  let c0_14 : Index := 0#32
  ![v34.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S4096x1024 : Shape := ⟨2, ![4096, 1024]⟩
abbrev S4096x512 : Shape := ⟨2, ![4096, 512]⟩
abbrev S4096x7424 : Shape := ⟨2, ![4096, 7424]⟩
abbrev S512x1024 : Shape := ⟨2, ![512, 1024]⟩
abbrev S1024x1024 : Shape := ⟨2, ![1024, 1024]⟩
abbrev S4096x3072 : Shape := ⟨2, ![4096, 3072]⟩
abbrev S_ : Shape := ⟨0, ![]⟩
abbrev S4096x3x1024 : Shape := ⟨3, ![4096, 3, 1024]⟩
abbrev S4096x1x1024 : Shape := ⟨3, ![4096, 1, 1024]⟩
abbrev S1024x512 : Shape := ⟨2, ![1024, 512]⟩
abbrev S1x512x1024 : Shape := ⟨3, ![1, 512, 1024]⟩
abbrev S3x512x1024 : Shape := ⟨3, ![3, 512, 1024]⟩

abbrev nBuf : Space → Nat
  | .hbm => 78
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x7424, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S4096x3072, .f32⟩
  | .hbm, ⟨10, _⟩ => ⟨S4096x3072, .f32⟩
  | .hbm, ⟨11, _⟩ => ⟨S4096x3072, .f32⟩
  | .hbm, ⟨12, _⟩ => ⟨S_, .f32⟩
  | .hbm, ⟨13, _⟩ => ⟨S4096x3072, .f32⟩
  | .hbm, ⟨14, _⟩ => ⟨S4096x3072, .f32⟩
  | .hbm, ⟨15, _⟩ => ⟨S_, .f32⟩
  | .hbm, ⟨16, _⟩ => ⟨S4096x3072, .f32⟩
  | .hbm, ⟨17, _⟩ => ⟨S4096x3072, .f32⟩
  | .hbm, ⟨18, _⟩ => ⟨S_, .f32⟩
  | .hbm, ⟨19, _⟩ => ⟨S4096x3072, .f32⟩
  | .hbm, ⟨20, _⟩ => ⟨S4096x3072, .f32⟩
  | .hbm, ⟨21, _⟩ => ⟨S4096x3072, .f32⟩
  | .hbm, ⟨22, _⟩ => ⟨S4096x3x1024, .f32⟩
  | .hbm, ⟨23, _⟩ => ⟨S4096x1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S1024x1024, .f32⟩
  | .hbm, ⟨39, _⟩ => ⟨S1024x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S1024x512, .f32⟩
  | .hbm, ⟨44, _⟩ => ⟨S512x1024, .f32⟩
  | .hbm, ⟨45, _⟩ => ⟨S4096x512, .f32⟩
  | .hbm, ⟨46, _⟩ => ⟨S4096x1x1024, .f32⟩
  | .hbm, ⟨47, _⟩ => ⟨S_, .f32⟩
  | .hbm, ⟨48, _⟩ => ⟨S4096x3x1024, .f32⟩
  | .hbm, ⟨49, _⟩ => ⟨S4096x1024, .f32⟩
  | .hbm, ⟨50, _⟩ => ⟨S4096x1024, .f32⟩
  | .hbm, ⟨51, _⟩ => ⟨S1024x512, .f32⟩
  | .hbm, ⟨52, _⟩ => ⟨S512x1024, .f32⟩
  | .hbm, ⟨53, _⟩ => ⟨S4096x512, .f32⟩
  | .hbm, ⟨54, _⟩ => ⟨S4096x1x1024, .f32⟩
  | .hbm, ⟨55, _⟩ => ⟨S_, .f32⟩
  | .hbm, ⟨56, _⟩ => ⟨S4096x3x1024, .f32⟩
  | .hbm, ⟨57, _⟩ => ⟨S4096x3x1024, .f32⟩
  | .hbm, ⟨58, _⟩ => ⟨S4096x1024, .f32⟩
  | .hbm, ⟨59, _⟩ => ⟨S4096x1024, .f32⟩
  | .hbm, ⟨60, _⟩ => ⟨S1024x512, .f32⟩
  | .hbm, ⟨61, _⟩ => ⟨S512x1024, .f32⟩
  | .hbm, ⟨62, _⟩ => ⟨S4096x512, .f32⟩
  | .hbm, ⟨63, _⟩ => ⟨S4096x1x1024, .f32⟩
  | .hbm, ⟨64, _⟩ => ⟨S_, .f32⟩
  | .hbm, ⟨65, _⟩ => ⟨S4096x3x1024, .f32⟩
  | .hbm, ⟨66, _⟩ => ⟨S4096x3x1024, .f32⟩
  | .hbm, ⟨67, _⟩ => ⟨S4096x3072, .f32⟩
  | .hbm, ⟨68, _⟩ => ⟨S4096x3072, .f32⟩
  | .hbm, ⟨69, _⟩ => ⟨S_, .f32⟩
  | .hbm, ⟨70, _⟩ => ⟨S4096x7424, .f32⟩
  | .hbm, ⟨71, _⟩ => ⟨S4096x7424, .bf16⟩
  | .hbm, ⟨72, _⟩ => ⟨S1x512x1024, .f32⟩
  | .hbm, ⟨73, _⟩ => ⟨S1x512x1024, .f32⟩
  | .hbm, ⟨74, _⟩ => ⟨S1x512x1024, .f32⟩
  | .hbm, ⟨75, _⟩ => ⟨S3x512x1024, .f32⟩
  | .hbm, ⟨76, _⟩ => ⟨S3x512x1024, .bf16⟩
  | .hbm, ⟨77, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_3 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_4 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_5 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩

abbrev nD : Nat := 1
abbrev τ : Topo := Topo.v7x

variable {F : FTy → Type} [FloatOps F]
-- ==== Kernel2.lean ====
abbrev S4096x1024 : Shape := ⟨2, ![4096, 1024]⟩
abbrev S1024x7424 : Shape := ⟨2, ![1024, 7424]⟩
abbrev S4096x7424 : Shape := ⟨2, ![4096, 7424]⟩
abbrev S4096x2560 : Shape := ⟨2, ![4096, 2560]⟩
abbrev S4096x512 : Shape := ⟨2, ![4096, 512]⟩
abbrev S4096x3072 : Shape := ⟨2, ![4096, 3072]⟩
abbrev S4096x256 : Shape := ⟨2, ![4096, 256]⟩
abbrev S1024x4096 : Shape := ⟨2, ![1024, 4096]⟩
abbrev S_ : Shape := ⟨0, ![]⟩
abbrev S1 : Shape := ⟨1, ![1]⟩
abbrev S3 : Shape := ⟨1, ![3]⟩
abbrev S7424x512 : Shape := ⟨2, ![7424, 512]⟩
abbrev S512x4096 : Shape := ⟨2, ![512, 4096]⟩
abbrev S256x512 : Shape := ⟨2, ![256, 512]⟩
abbrev S512x256 : Shape := ⟨2, ![512, 256]⟩

abbrev nBuf : Space → Nat
  | .hbm => 19
  | .vmem => 5
  | .smem => 1
  | _ => 0

abbrev bufTy : (tb : Table) → Fin (tcTables nBuf tb) → BufTy
  | .hbm, ⟨0, _⟩ => ⟨S4096x1024, .f32⟩
  | .hbm, ⟨1, _⟩ => ⟨S1024x7424, .f32⟩
  | .hbm, ⟨2, _⟩ => ⟨S4096x7424, .f32⟩
  | .hbm, ⟨3, _⟩ => ⟨S4096x2560, .f32⟩
  | .hbm, ⟨4, _⟩ => ⟨S4096x512, .f32⟩
  | .hbm, ⟨5, _⟩ => ⟨S4096x3072, .f32⟩
  | .hbm, ⟨6, _⟩ => ⟨S4096x1024, .f32⟩
  | .hbm, ⟨7, _⟩ => ⟨S4096x256, .f32⟩
  | .hbm, ⟨8, _⟩ => ⟨S4096x7424, .f32⟩
  | .hbm, ⟨9, _⟩ => ⟨S4096x7424, .bf16⟩
  | .hbm, ⟨10, _⟩ => ⟨S1024x4096, .f32⟩
  | .hbm, ⟨11, _⟩ => ⟨S1024x4096, .bf16⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1, .i32⟩
  | .hbm, ⟨16, _⟩ => ⟨S1, .i32⟩
  | .hbm, ⟨17, _⟩ => ⟨S1, .i32⟩
  | .hbm, ⟨18, _⟩ => ⟨S7424x512, .bf16⟩
  | .local _ .vmem, ⟨0, _⟩ => ⟨S4096x256, .bf16⟩
  | .local _ .vmem, ⟨1, _⟩ => ⟨S4096x256, .bf16⟩
  | .local _ .vmem, ⟨2, _⟩ => ⟨S512x4096, .bf16⟩
  | .local _ .vmem, ⟨3, _⟩ => ⟨S256x512, .bf16⟩
  | .local _ .vmem, ⟨4, _⟩ => ⟨S256x512, .bf16⟩
  | .local _ .smem, ⟨0, _⟩ => ⟨S3, .i32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_c_0 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v13 : Ref sig .tc := ⟨.hbm, 18, rfl⟩
abbrev main_v12 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![29], ![false]⟩

abbrev pre0 : Pipeline.Prefetch sig := ⟨1, ![main_v12.idx], fun | 0 => main_v12.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let v0 : BitVec 1 := Scalar.cmpi .sge arg0 c0_i32
  let c10_i32 : BitVec 32 := 10#32
  let v1 : BitVec 1 := Scalar.cmpi .slt arg0 c10_i32
  let v2 : BitVec 1 := Scalar.andi v0 v1
  let c0_i32_0 : BitVec 32 := 0#32
  let v3 : BitVec 32 := Scalar.subi arg0 c0_i32_0
  let c0_i32_1 : BitVec 32 := 0#32
  let v4 : BitVec 32 := Scalar.addi v3 c0_i32_1
  let v5 : BitVec 32 := Scalar.select v2 v4 arg0
  let c11_i32 : BitVec 32 := 11#32
  let v6 : BitVec 1 := Scalar.cmpi .sge arg0 c11_i32
  let c13_i32 : BitVec 32 := 13#32
  let v7 : BitVec 1 := Scalar.cmpi .slt arg0 c13_i32
  let v8 : BitVec 1 := Scalar.andi v6 v7
  let c11_i32_2 : BitVec 32 := 11#32
  let v9 : BitVec 32 := Scalar.subi arg0 c11_i32_2
  let c10_i32_3 : BitVec 32 := 10#32
  let v10 : BitVec 32 := Scalar.addi v9 c10_i32_3
  let v11 : BitVec 32 := Scalar.select v8 v10 v5
  let c17_i32 : BitVec 32 := 17#32
  let v12 : BitVec 1 := Scalar.cmpi .sge arg0 c17_i32
  let c29_i32 : BitVec 32 := 29#32
  let v13 : BitVec 1 := Scalar.cmpi .slt arg0 c29_i32
  let v14 : BitVec 1 := Scalar.andi v12 v13
  let c17_i32_4 : BitVec 32 := 17#32
  let v15 : BitVec 32 := Scalar.subi arg0 c17_i32_4
  let c12_i32 : BitVec 32 := 12#32
  let v16 : BitVec 32 := Scalar.addi v15 c12_i32
  let v17 : BitVec 32 := Scalar.select v14 v16 v11
  let c13_i32_5 : BitVec 32 := 13#32
  let v18 : BitVec 1 := Scalar.cmpi .sge arg0 c13_i32_5
  let c17_i32_6 : BitVec 32 := 17#32
  let v19 : BitVec 1 := Scalar.cmpi .slt arg0 c17_i32_6
  let v20 : BitVec 1 := Scalar.andi v18 v19
  let c13_i32_7 : BitVec 32 := 13#32
  let v21 : BitVec 32 := Scalar.subi arg0 c13_i32_7
  let c24_i32 : BitVec 32 := 24#32
  let v22 : BitVec 32 := Scalar.addi v21 c24_i32
  let v23 : BitVec 32 := Scalar.select v20 v22 v17
  let c10_i32_8 : BitVec 32 := 10#32
  let v24 : BitVec 1 := Scalar.cmpi .sge arg0 c10_i32_8
  let c11_i32_9 : BitVec 32 := 11#32
  let v25 : BitVec 1 := Scalar.cmpi .slt arg0 c11_i32_9
  let v26 : BitVec 1 := Scalar.andi v24 v25
  let c10_i32_10 : BitVec 32 := 10#32
  let v27 : BitVec 32 := Scalar.subi arg0 c10_i32_10
  let c28_i32 : BitVec 32 := 28#32
  let v28 : BitVec 32 := Scalar.addi v27 c28_i32
  let v29 : BitVec 32 := Scalar.select v26 v28 v23
  let c0_i32_11 : BitVec 32 := 0#32
  let c0_i32_12 : BitVec 32 := 0#32
  ![c0_i32_11.toNat, v29.toNat]

def cc0_transform_1 (inb_S3_S1_1 : ∀ a, (![1] : Fin 1 → Nat) a + S1.size a ≤ S3.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S3) ![1] S1.size inb_S3_S1_1) numel1_S1
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S4096x1024 : Shape := ⟨2, ![4096, 1024]⟩
abbrev S1024x7424 : Shape := ⟨2, ![1024, 7424]⟩
abbrev S4096x7424 : Shape := ⟨2, ![4096, 7424]⟩
abbrev S7424x1024 : Shape := ⟨2, ![7424, 1024]⟩
abbrev S512x7424 : Shape := ⟨2, ![512, 7424]⟩
abbrev S7424x512 : Shape := ⟨2, ![7424, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x7424, .f32⟩
  | .hbm, ⟨2, _⟩ => ⟨S4096x7424, .f32⟩
  | .hbm, ⟨3, _⟩ => ⟨S4096x7424, .f32⟩
  | .hbm, ⟨4, _⟩ => ⟨S7424x1024, .f32⟩
  | .hbm, ⟨5, _⟩ => ⟨S1024x7424, .f32⟩
  | .hbm, ⟨6, _⟩ => ⟨S512x7424, .f32⟩
  | .hbm, ⟨7, _⟩ => ⟨S7424x512, .f32⟩
  | .hbm, ⟨8, _⟩ => ⟨S7424x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S4096x1024 : Shape := ⟨2, ![4096, 1024]⟩
abbrev S1024x7424 : Shape := ⟨2, ![1024, 7424]⟩
abbrev S4096x7424 : Shape := ⟨2, ![4096, 7424]⟩
abbrev S4096x2560 : Shape := ⟨2, ![4096, 2560]⟩
abbrev S4096x512 : Shape := ⟨2, ![4096, 512]⟩
abbrev S4096x3072 : Shape := ⟨2, ![4096, 3072]⟩
abbrev S4096x256 : Shape := ⟨2, ![4096, 256]⟩
abbrev S1024x4096 : Shape := ⟨2, ![1024, 4096]⟩
abbrev S_ : Shape := ⟨0, ![]⟩
abbrev S1 : Shape := ⟨1, ![1]⟩
abbrev S3 : Shape := ⟨1, ![3]⟩
abbrev S7424x512 : Shape := ⟨2, ![7424, 512]⟩
abbrev S512x4096 : Shape := ⟨2, ![512, 4096]⟩
abbrev S256x512 : Shape := ⟨2, ![256, 512]⟩
abbrev S512x256 : Shape := ⟨2, ![512, 256]⟩

abbrev nBuf : Space → Nat
  | .hbm => 19
  | .vmem => 5
  | .smem => 1
  | _ => 0

abbrev bufTy : (tb : Table) → Fin (tcTables nBuf tb) → BufTy
  | .hbm, ⟨0, _⟩ => ⟨S4096x1024, .f32⟩
  | .hbm, ⟨1, _⟩ => ⟨S1024x7424, .f32⟩
  | .hbm, ⟨2, _⟩ => ⟨S4096x7424, .f32⟩
  | .hbm, ⟨3, _⟩ => ⟨S4096x2560, .f32⟩
  | .hbm, ⟨4, _⟩ => ⟨S4096x512, .f32⟩
  | .hbm, ⟨5, _⟩ => ⟨S4096x3072, .f32⟩
  | .hbm, ⟨6, _⟩ => ⟨S4096x1024, .f32⟩
  | .hbm, ⟨7, _⟩ => ⟨S4096x256, .f32⟩
  | .hbm, ⟨8, _⟩ => ⟨S4096x7424, .f32⟩
  | .hbm, ⟨9, _⟩ => ⟨S4096x7424, .bf16⟩
  | .hbm, ⟨10, _⟩ => ⟨S1024x4096, .f32⟩
  | .hbm, ⟨11, _⟩ => ⟨S1024x4096, .bf16⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1, .i32⟩
  | .hbm, ⟨16, _⟩ => ⟨S1, .i32⟩
  | .hbm, ⟨17, _⟩ => ⟨S1, .i32⟩
  | .hbm, ⟨18, _⟩ => ⟨S7424x512, .bf16⟩
  | .local _ .vmem, ⟨0, _⟩ => ⟨S4096x256, .bf16⟩
  | .local _ .vmem, ⟨1, _⟩ => ⟨S4096x256, .bf16⟩
  | .local _ .vmem, ⟨2, _⟩ => ⟨S512x4096, .bf16⟩
  | .local _ .vmem, ⟨3, _⟩ => ⟨S256x512, .bf16⟩
  | .local _ .vmem, ⟨4, _⟩ => ⟨S256x512, .bf16⟩
  | .local _ .smem, ⟨0, _⟩ => ⟨S3, .i32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_c_0 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v13 : Ref sig .tc := ⟨.hbm, 18, rfl⟩
abbrev main_v12 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![29], ![false]⟩

abbrev pre0 : Pipeline.Prefetch sig := ⟨1, ![main_v12.idx], fun | 0 => main_v12.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let v0 : BitVec 1 := Scalar.cmpi .sge arg0 c0_i32
  let c10_i32 : BitVec 32 := 10#32
  let v1 : BitVec 1 := Scalar.cmpi .slt arg0 c10_i32
  let v2 : BitVec 1 := Scalar.andi v0 v1
  let c0_i32_0 : BitVec 32 := 0#32
  let v3 : BitVec 32 := Scalar.subi arg0 c0_i32_0
  let c0_i32_1 : BitVec 32 := 0#32
  let v4 : BitVec 32 := Scalar.addi v3 c0_i32_1
  let v5 : BitVec 32 := Scalar.select v2 v4 arg0
  let c11_i32 : BitVec 32 := 11#32
  let v6 : BitVec 1 := Scalar.cmpi .sge arg0 c11_i32
  let c13_i32 : BitVec 32 := 13#32
  let v7 : BitVec 1 := Scalar.cmpi .slt arg0 c13_i32
  let v8 : BitVec 1 := Scalar.andi v6 v7
  let c11_i32_2 : BitVec 32 := 11#32
  let v9 : BitVec 32 := Scalar.subi arg0 c11_i32_2
  let c10_i32_3 : BitVec 32 := 10#32
  let v10 : BitVec 32 := Scalar.addi v9 c10_i32_3
  let v11 : BitVec 32 := Scalar.select v8 v10 v5
  let c17_i32 : BitVec 32 := 17#32
  let v12 : BitVec 1 := Scalar.cmpi .sge arg0 c17_i32
  let c29_i32 : BitVec 32 := 29#32
  let v13 : BitVec 1 := Scalar.cmpi .slt arg0 c29_i32
  let v14 : BitVec 1 := Scalar.andi v12 v13
  let c17_i32_4 : BitVec 32 := 17#32
  let v15 : BitVec 32 := Scalar.subi arg0 c17_i32_4
  let c12_i32 : BitVec 32 := 12#32
  let v16 : BitVec 32 := Scalar.addi v15 c12_i32
  let v17 : BitVec 32 := Scalar.select v14 v16 v11
  let c13_i32_5 : BitVec 32 := 13#32
  let v18 : BitVec 1 := Scalar.cmpi .sge arg0 c13_i32_5
  let c17_i32_6 : BitVec 32 := 17#32
  let v19 : BitVec 1 := Scalar.cmpi .slt arg0 c17_i32_6
  let v20 : BitVec 1 := Scalar.andi v18 v19
  let c13_i32_7 : BitVec 32 := 13#32
  let v21 : BitVec 32 := Scalar.subi arg0 c13_i32_7
  let c24_i32 : BitVec 32 := 24#32
  let v22 : BitVec 32 := Scalar.addi v21 c24_i32
  let v23 : BitVec 32 := Scalar.select v20 v22 v17
  let c10_i32_8 : BitVec 32 := 10#32
  let v24 : BitVec 1 := Scalar.cmpi .sge arg0 c10_i32_8
  let c11_i32_9 : BitVec 32 := 11#32
  let v25 : BitVec 1 := Scalar.cmpi .slt arg0 c11_i32_9
  let v26 : BitVec 1 := Scalar.andi v24 v25
  let c10_i32_10 : BitVec 32 := 10#32
  let v27 : BitVec 32 := Scalar.subi arg0 c10_i32_10
  let c28_i32 : BitVec 32 := 28#32
  let v28 : BitVec 32 := Scalar.addi v27 c28_i32
  let v29 : BitVec 32 := Scalar.select v26 v28 v23
  let c0_i32_11 : BitVec 32 := 0#32
  let c0_i32_12 : BitVec 32 := 0#32
  ![c0_i32_11.toNat, v29.toNat]

def cc0_transform_1 (inb_S3_S1_1 : ∀ a, (![1] : Fin 1 → Nat) a + S1.size a ≤ S3.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S3) ![1] S1.size inb_S3_S1_1) numel1_S1
  let c1_i32 : BitVec 32 := 1#32
  let v1 : BitVec 32 := Scalar.subi c1_i32 v0
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S4096x1024 : Shape := ⟨2, ![4096, 1024]⟩
abbrev S1024x7424 : Shape := ⟨2, ![1024, 7424]⟩
abbrev S4096x7424 : Shape := ⟨2, ![4096, 7424]⟩
abbrev S7424x1024 : Shape := ⟨2, ![7424, 1024]⟩
abbrev S512x7424 : Shape := ⟨2, ![512, 7424]⟩
abbrev S7424x512 : Shape := ⟨2, ![7424, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x7424, .f32⟩
  | .hbm, ⟨2, _⟩ => ⟨S4096x7424, .f32⟩
  | .hbm, ⟨3, _⟩ => ⟨S4096x7424, .f32⟩
  | .hbm, ⟨4, _⟩ => ⟨S7424x1024, .f32⟩
  | .hbm, ⟨5, _⟩ => ⟨S1024x7424, .f32⟩
  | .hbm, ⟨6, _⟩ => ⟨S512x7424, .f32⟩
  | .hbm, ⟨7, _⟩ => ⟨S7424x512, .f32⟩
  | .hbm, ⟨8, _⟩ => ⟨S7424x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S7424x1024 : Shape := ⟨2, ![7424, 1024]⟩
abbrev S1856x1024 : Shape := ⟨2, ![1856, 1024]⟩
abbrev S4096x7424 : Shape := ⟨2, ![4096, 7424]⟩
abbrev S4096x2560 : Shape := ⟨2, ![4096, 2560]⟩
abbrev S4096x512 : Shape := ⟨2, ![4096, 512]⟩
abbrev S4096x3072 : Shape := ⟨2, ![4096, 3072]⟩
abbrev S4096x256 : Shape := ⟨2, ![4096, 256]⟩
abbrev S_ : Shape := ⟨0, ![]⟩
abbrev S1 : Shape := ⟨1, ![1]⟩
abbrev S3 : Shape := ⟨1, ![3]⟩
abbrev S256x7424 : Shape := ⟨2, ![256, 7424]⟩
abbrev S256x1024 : Shape := ⟨2, ![256, 1024]⟩
abbrev S256x2560 : Shape := ⟨2, ![256, 2560]⟩
abbrev S2560x1024 : Shape := ⟨2, ![2560, 1024]⟩
abbrev S256x512 : Shape := ⟨2, ![256, 512]⟩
abbrev S512x1024 : Shape := ⟨2, ![512, 1024]⟩
abbrev S256x3072 : Shape := ⟨2, ![256, 3072]⟩
abbrev S3072x1024 : Shape := ⟨2, ![3072, 1024]⟩
abbrev S1024x1024 : Shape := ⟨2, ![1024, 1024]⟩
abbrev S256x256 : Shape := ⟨2, ![256, 256]⟩
abbrev S256 : Shape := ⟨1, ![256]⟩
abbrev S256x1 : Shape := ⟨2, ![256, 1]⟩
abbrev S1024 : Shape := ⟨1, ![1024]⟩

abbrev nBuf : Space → Nat
  | .hbm => 24
  | .vmem => 13
  | .smem => 1
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S7424x1024, .f32⟩
  | .hbm, ⟨3, _⟩ => ⟨S1856x1024, .f32⟩
  | .hbm, ⟨4, _⟩ => ⟨S4096x1024, .f32⟩
  | .hbm, ⟨5, _⟩ => ⟨S4096x7424, .f32⟩
  | .hbm, ⟨6, _⟩ => ⟨S4096x2560, .f32⟩
  | .hbm, ⟨7, _⟩ => ⟨S4096x512, .f32⟩
  | .hbm, ⟨8, _⟩ => ⟨S4096x3072, .f32⟩
  | .hbm, ⟨9, _⟩ => ⟨S4096x1024, .f32⟩
  | .hbm, ⟨10, _⟩ => ⟨S4096x256, .f32⟩
  | .hbm, ⟨11, _⟩ => ⟨S4096x7424, .f32⟩
  | .hbm, ⟨12, _⟩ => ⟨S4096x7424, .bf16⟩
  | .hbm, ⟨13, _⟩ => ⟨S7424x1024, .bf16⟩
  | .hbm, ⟨14, _⟩ => ⟨S1856x1024, .bf16⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S3, .i32⟩
  | .hbm, ⟨22, _⟩ => ⟨S4096x1024, .f32⟩
  | .hbm, ⟨23, _⟩ => ⟨S1x1024, .f32⟩
  | .local _ .vmem, ⟨0, _⟩ => ⟨S256x7424, .bf16⟩
  | .local _ .vmem, ⟨1, _⟩ => ⟨S256x7424, .bf16⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S7424x1024, .bf16⟩
  | .local _ .vmem, ⟨11, _⟩ => ⟨S256x1024, .f32⟩
  | .local _ .vmem, ⟨12, _⟩ => ⟨S256x1024, .f32⟩
  | .local _ .smem, ⟨0, _⟩ => ⟨S3, .i32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_c_0 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch2 : Ref sig .tc := ⟨.vmem, 11, rfl⟩
abbrev cc0_scratch3 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (v36 : BitVec 32) : BitVec 32 :=
  let c1856_i32 : BitVec 32 := 1856#32
  let v37 : BitVec 32 := Scalar.muli v36 c1856_i32
  v37

def k0_off1 (v36 : BitVec 32) : Fin 2 → Nat :=
  let c1856_i32 : BitVec 32 := 1856#32
  let v37 : BitVec 32 := Scalar.muli v36 c1856_i32
  let v38 : BitVec 32 := v37
  let c0_i32_18 : BitVec 32 := 0#32
  ![v38.toNat, 0]

def k0_chk1 (i : grid0.Coords) (v36 : BitVec 32) : Prop :=
  (∀ (k0_h1 : k0_cond1 i = 1#1), 16 ∣ (k0_mult1 v36).toNat) ∧
  (∀ (k0_h1 : k0_cond1 i = 1#1), ∀ a, (k0_off1 v36) a + S1856x1024.size a ≤ S7424x1024.size a) ∧
  (∀ (k0_h1 : k0_cond1 i = 1#1), ∀ (hinb : ∀ a, (k0_off1 v36) a + S1856x1024.size a ≤ S7424x1024.size a), (Rect.unit (s := S7424x1024) (k0_off1 v36) S1856x1024.size hinb).WholeWords (EltTy.packing .bf16))
theorem k0_mult1_dvd : ∀ (i : grid0.Coords) (v36 : BitVec 32) (k0_hw1 : k0_chk1 i v36), ∀ (k0_h1 : k0_cond1 i = 1#1), 16 ∣ (k0_mult1 v36).toNat := fun i v36 k0_hw1 k0_h1 => k0_hw1.1 k0_h1
theorem k0_off1_inb : ∀ (i : grid0.Coords) (v36 : BitVec 32) (k0_hw1 : k0_chk1 i v36), ∀ (k0_h1 : k0_cond1 i = 1#1), ∀ a, (k0_off1 v36) a + S1856x1024.size a ≤ S7424x1024.size a := fun i v36 k0_hw1 k0_h1 => k0_hw1.2.1 k0_h1
theorem k0_off1_wordsbf16 : ∀ (i : grid0.Coords) (v36 : BitVec 32) (k0_hw1 : k0_chk1 i v36), ∀ (k0_h1 : k0_cond1 i = 1#1), (Rect.unit (s := S7424x1024) (k0_off1 v36) S1856x1024.size (k0_off1_inb i v36 k0_hw1 k0_h1)).WholeWords (EltTy.packing .bf16) := fun i v36 k0_hw1 k0_h1 => k0_hw1.2.2 k0_h1 (k0_off1_inb i v36 k0_hw1 k0_h1)

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let c0_i32_6 : BitVec 32 := 0#32
  let v14 : BitVec 1 := Scalar.cmpi .sgt arg0 c0_i32_6
  let v15 : BitVec 1 := Scalar.andi v13 v14
  let c16_i32 : BitVec 32 := 16#32
  let v16 : BitVec 1 := Scalar.cmpi .slt arg0 c16_i32
  let v17 : BitVec 1 := Scalar.andi v15 v16
  let v18 : BitVec 32 := Scalar.extui v17
  let c0_i32_7 : BitVec 32 := 0#32
  let v19 : BitVec 1 := Scalar.cmpi .ne v18 c0_i32_7
  v19

def k0_cond3 (i : grid0.Coords) : BitVec 1 :=
  let arg0 : BitVec 32 := BitVec.ofNat 32 (i 0).val
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi arg0 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let c1_i32_14 : BitVec 32 := 1#32
  let v30 : BitVec 1 := Scalar.cmpi .eq v29 c1_i32_14
  let v31 : BitVec 32 := Scalar.extui v30
  let c0_i32_15 : BitVec 32 := 0#32
  let v32 : BitVec 1 := Scalar.cmpi .ne v31 c0_i32_15
  v32

def k0_cond4 (i : grid0.Coords) : BitVec 1 :=
  let arg0 : BitVec 32 := BitVec.ofNat 32 (i 0).val
  let c16_i32_16 : BitVec 32 := 16#32
  let v33 : BitVec 1 := Scalar.cmpi .eq arg0 c16_i32_16
  let v34 : BitVec 32 := Scalar.extui v33
  let c0_i32_17 : BitVec 32 := 0#32
  let v35 : BitVec 1 := Scalar.cmpi .ne v34 c0_i32_17
  v35

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S3 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x7424 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference4Ideal.lean ====
abbrev S4096x1024 : Shape := ⟨2, ![4096, 1024]⟩
abbrev S1x1024 : Shape := ⟨2, ![1, 1024]⟩
abbrev S7424x1024 : Shape := ⟨2, ![7424, 1024]⟩
abbrev S1856x1024 : Shape := ⟨2, ![1856, 1024]⟩
abbrev S4096x7424 : Shape := ⟨2, ![4096, 7424]⟩
abbrev S5568x1024 : Shape := ⟨2, ![5568, 1024]⟩
abbrev S1024x7424 : Shape := ⟨2, ![1024, 7424]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S7424x1024, .f32⟩
  | .hbm, ⟨3, _⟩ => ⟨S1856x1024, .f32⟩
  | .hbm, ⟨4, _⟩ => ⟨S4096x1024, .f32⟩
  | .hbm, ⟨5, _⟩ => ⟨S4096x7424, .f32⟩
  | .hbm, ⟨6, _⟩ => ⟨S5568x1024, .f32⟩
  | .hbm, ⟨7, _⟩ => ⟨S7424x1024, .f32⟩
  | .hbm, ⟨8, _⟩ => ⟨S1024x7424, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x7424, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel5.lean ====
abbrev S4096x512 : Shape := ⟨2, ![4096, 512]⟩
abbrev S4096x7424 : Shape := ⟨2, ![4096, 7424]⟩
abbrev S4096x1024 : Shape := ⟨2, ![4096, 1024]⟩
abbrev S512x1024 : Shape := ⟨2, ![512, 1024]⟩
abbrev S1024x1024 : Shape := ⟨2, ![1024, 1024]⟩
abbrev S1x1024 : Shape := ⟨2, ![1, 1024]⟩
abbrev S1x512x1024 : Shape := ⟨3, ![1, 512, 1024]⟩
abbrev S3x512x1024 : Shape := ⟨3, ![3, 512, 1024]⟩
abbrev S1x128 : Shape := ⟨2, ![1, 128]⟩
abbrev S256x512 : Shape := ⟨2, ![256, 512]⟩
abbrev S256x3072 : Shape := ⟨2, ![256, 3072]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 25
  | .vmem => 23
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x7424, .f32⟩
  | .hbm, ⟨4, _⟩ => ⟨S4096x1024, .f32⟩
  | .hbm, ⟨5, _⟩ => ⟨S4096x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1x1024, .f32⟩
  | .hbm, ⟨11, _⟩ => ⟨S1x512x1024, .f32⟩
  | .hbm, ⟨12, _⟩ => ⟨S1x512x1024, .f32⟩
  | .hbm, ⟨13, _⟩ => ⟨S1x512x1024, .f32⟩
  | .hbm, ⟨14, _⟩ => ⟨S3x512x1024, .f32⟩
  | .hbm, ⟨15, _⟩ => ⟨S3x512x1024, .bf16⟩
  | .hbm, ⟨16, _⟩ => ⟨S4096x512, .bf16⟩
  | .hbm, ⟨17, _⟩ => ⟨S4096x512, .bf16⟩
  | .hbm, ⟨18, _⟩ => ⟨S4096x512, .bf16⟩
  | .hbm, ⟨19, _⟩ => ⟨S1024x1024, .bf16⟩
  | .hbm, ⟨20, _⟩ => ⟨S4096x1024, .bf16⟩
  | .hbm, ⟨21, _⟩ => ⟨S4096x1024, .bf16⟩
  | .hbm, ⟨22, _⟩ => ⟨S4096x1024, .f32⟩
  | .hbm, ⟨23, _⟩ => ⟨S1x1024, .f32⟩
  | .hbm, ⟨24, _⟩ => ⟨S1x128, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x3072, .f32⟩
  | .local _ .vmem, ⟨7, _⟩ => ⟨S256x3072, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S3x512x1024, .bf16⟩
  | .local _ .vmem, ⟨13, _⟩ => ⟨S1024x1024, .bf16⟩
  | .local _ .vmem, ⟨14, _⟩ => ⟨S1x1024, .f32⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .f32⟩
  | .local _ .vmem, ⟨20, _⟩ => ⟨S256x1024, .f32⟩
  | .local _ .vmem, ⟨21, _⟩ => ⟨S1x1024, .f32⟩
  | .local _ .vmem, ⟨22, _⟩ => ⟨S1x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev main_v9_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v63 : BitVec 1 := Scalar.cmpi .eq arg0 c0_i32
  let v64 : BitVec 32 := Scalar.extui v63
  let c0_i32_36 : BitVec 32 := 0#32
  let v65 : BitVec 1 := Scalar.cmpi .ne v64 c0_i32_36
  v65

def k0_cond2 (i : grid0.Coords) : BitVec 1 :=
  let arg0 : BitVec 32 := BitVec.ofNat 32 (i 0).val
  let c0_i32_37 : BitVec 32 := 0#32
  let v66 : BitVec 1 := Scalar.cmpi .sgt arg0 c0_i32_37
  let v67 : BitVec 32 := Scalar.extui v66
  let c0_i32_38 : BitVec 32 := 0#32
  let v68 : BitVec 1 := Scalar.cmpi .ne v67 c0_i32_38
  v68

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference5Ideal.lean ====
abbrev S4096x512 : Shape := ⟨2, ![4096, 512]⟩
abbrev S4096x7424 : Shape := ⟨2, ![4096, 7424]⟩
abbrev S4096x1024 : Shape := ⟨2, ![4096, 1024]⟩
abbrev S512x1024 : Shape := ⟨2, ![512, 1024]⟩
abbrev S1024x1024 : Shape := ⟨2, ![1024, 1024]⟩
abbrev S1x1024 : Shape := ⟨2, ![1, 1024]⟩
abbrev S4096x3072 : Shape := ⟨2, ![4096, 3072]⟩
abbrev S_ : Shape := ⟨0, ![]⟩
abbrev S4096x3x1024 : Shape := ⟨3, ![4096, 3, 1024]⟩
abbrev S4096x1x1024 : Shape := ⟨3, ![4096, 1, 1024]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 105
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x7424, .f32⟩
  | .hbm, ⟨4, _⟩ => ⟨S4096x1024, .f32⟩
  | .hbm, ⟨5, _⟩ => ⟨S4096x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1x1024, .f32⟩
  | .hbm, ⟨11, _⟩ => ⟨S4096x3072, .f32⟩
  | .hbm, ⟨12, _⟩ => ⟨S4096x3072, .f32⟩
  | .hbm, ⟨13, _⟩ => ⟨S4096x3072, .f32⟩
  | .hbm, ⟨14, _⟩ => ⟨S_, .f32⟩
  | .hbm, ⟨15, _⟩ => ⟨S4096x3072, .f32⟩
  | .hbm, ⟨16, _⟩ => ⟨S4096x3072, .f32⟩
  | .hbm, ⟨17, _⟩ => ⟨S_, .f32⟩
  | .hbm, ⟨18, _⟩ => ⟨S4096x3072, .f32⟩
  | .hbm, ⟨19, _⟩ => ⟨S4096x3072, .f32⟩
  | .hbm, ⟨20, _⟩ => ⟨S4096x3x1024, .f32⟩
  | .hbm, ⟨21, _⟩ => ⟨S4096x1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S_, .f32⟩
  | .hbm, ⟨64, _⟩ => ⟨S4096, .f32⟩
  | .hbm, ⟨65, _⟩ => ⟨S4096, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S4096, .f32⟩
  | .hbm, ⟨74, _⟩ => ⟨S_, .f32⟩
  | .hbm, ⟨75, _⟩ => ⟨S4096, .f32⟩
  | .hbm, ⟨76, _⟩ => ⟨S4096, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S4096, .f32⟩
  | .hbm, ⟨88, _⟩ => ⟨S4096x1, .f32⟩
  | .hbm, ⟨89, _⟩ => ⟨S4096x1024, .f32⟩
  | .hbm, ⟨90, _⟩ => ⟨S4096x1024, .f32⟩
  | .hbm, ⟨91, _⟩ => ⟨S4096x1, .f32⟩
  | .hbm, ⟨92, _⟩ => ⟨S_, .f32⟩
  | .hbm, ⟨93, _⟩ => ⟨S4096x1, .f32⟩
  | .hbm, ⟨94, _⟩ => ⟨S4096x1, .f32⟩
  | .hbm, ⟨95, _⟩ => ⟨S_, .f32⟩
  | .hbm, ⟨96, _⟩ => ⟨S4096, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .bf16⟩
  | .hbm, ⟨103, _⟩ => ⟨S4096x1024, .bf16⟩
  | .hbm, ⟨104, _⟩ => ⟨S1x128, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_cst_10 : Ref sig .tc := ⟨.hbm, 70, rfl⟩
abbrev main_cst_11 : Ref sig .tc := ⟨.hbm, 71, rfl⟩
abbrev main_v48 : Ref sig .tc := ⟨.hbm, 72, rfl⟩
abbrev main_v49 : Ref sig .tc := ⟨.hbm, 73, rfl⟩
abbrev main_cst_12 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_13 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_15 : Ref sig .tc := ⟨.hbm, 92, rfl⟩
abbrev main_v65 : Ref sig .tc := ⟨.hbm, 93, rfl⟩
abbrev main_v66 : Ref sig .tc := ⟨.hbm, 94, rfl⟩
abbrev main_cst_16 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩

abbrev nD : Nat := 1
abbrev τ : Topo := Topo.v7x

variable {F : FTy → Type} [FloatOps F]
-- ==== Kernel6.lean ====
abbrev S4096x1024 : Shape := ⟨2, ![4096, 1024]⟩
abbrev S7424x1024 : Shape := ⟨2, ![7424, 1024]⟩
abbrev S1856x1024 : Shape := ⟨2, ![1856, 1024]⟩
abbrev S4096x7424 : Shape := ⟨2, ![4096, 7424]⟩
abbrev S_ : Shape := ⟨0, ![]⟩
abbrev S1 : Shape := ⟨1, ![1]⟩
abbrev S3 : Shape := ⟨1, ![3]⟩
abbrev S4096x256 : Shape := ⟨2, ![4096, 256]⟩
abbrev S2048x1024 : Shape := ⟨2, ![2048, 1024]⟩
abbrev S256x1024 : Shape := ⟨2, ![256, 1024]⟩

abbrev nBuf : Space → Nat
  | .hbm => 17
  | .vmem => 4
  | .smem => 2
  | _ => 0

abbrev bufTy : (tb : Table) → Fin (tcTables nBuf tb) → BufTy
  | .hbm, ⟨0, _⟩ => ⟨S4096x1024, .f32⟩
  | .hbm, ⟨1, _⟩ => ⟨S7424x1024, .f32⟩
  | .hbm, ⟨2, _⟩ => ⟨S1856x1024, .f32⟩
  | .hbm, ⟨3, _⟩ => ⟨S4096x7424, .f32⟩
  | .hbm, ⟨4, _⟩ => ⟨S4096x1024, .bf16⟩
  | .hbm, ⟨5, _⟩ => ⟨S7424x1024, .bf16⟩
  | .hbm, ⟨6, _⟩ => ⟨S1856x1024, .bf16⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S1, .i32⟩
  | .hbm, ⟨11, _⟩ => ⟨S1, .i32⟩
  | .hbm, ⟨12, _⟩ => ⟨S1, .i32⟩
  | .hbm, ⟨13, _⟩ => ⟨S3, .i32⟩
  | .hbm, ⟨14, _⟩ => ⟨S_, .i32⟩
  | .hbm, ⟨15, _⟩ => ⟨S3, .i32⟩
  | .hbm, ⟨16, _⟩ => ⟨S4096x7424, .f32⟩
  | .local _ .vmem, ⟨0, _⟩ => ⟨S4096x1024, .bf16⟩
  | .local _ .vmem, ⟨1, _⟩ => ⟨S4096x256, .f32⟩
  | .local _ .vmem, ⟨2, _⟩ => ⟨S4096x256, .f32⟩
  | .local _ .vmem, ⟨3, _⟩ => ⟨S2048x1024, .bf16⟩
  | .local _ .smem, ⟨0, _⟩ => ⟨S3, .i32⟩
  | .local _ .smem, ⟨1, _⟩ => ⟨S3, .i32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v9 : Ref sig .tc := ⟨.hbm, 16, rfl⟩
abbrev main_v8 : Ref sig .tc := ⟨.smem, 0, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_scratch0 : Ref sig .tc := ⟨.vmem, 3, rfl⟩
abbrev cc0_stg0_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v8.idx], fun | 0 => main_v8.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (v11 : BitVec 32) : BitVec 32 :=
  let c1792_i32 : BitVec 32 := 1792#32
  let v12 : BitVec 32 := Scalar.muli v11 c1792_i32
  v12

def k0_off1 (v11 : BitVec 32) : Fin 2 → Nat :=
  let c1792_i32 : BitVec 32 := 1792#32
  let v12 : BitVec 32 := Scalar.muli v11 c1792_i32
  let v13 : BitVec 32 := v12
  let c0_i32_5 : BitVec 32 := 0#32
  ![v13.toNat, 0]
def k0_mult2 (v11 : BitVec 32) : BitVec 32 :=
  let c64_i32 : BitVec 32 := 64#32
  let v16 : BitVec 32 := Scalar.muli v11 c64_i32
  v16
def k0_off2 (v11 : BitVec 32) : Fin 2 → Nat :=
  let c64_i32 : BitVec 32 := 64#32
  let v16 : BitVec 32 := Scalar.muli v11 c64_i32
  let v17 : BitVec 32 := v16
  let c0_i32_7 : BitVec 32 := 0#32
  ![v17.toNat, 0]

def k0_chk1 (i : grid0.Coords) (v11 : BitVec 32) : Prop :=
  (∀ (k0_h1 : k0_cond1 i = 1#1), 256 ∣ (k0_mult1 v11).toNat) ∧
  (∀ (k0_h1 : k0_cond1 i = 1#1), ∀ a, (k0_off1 v11) a + S2048x1024.size a ≤ S7424x1024.size a) ∧
  (∀ (k0_h1 : k0_cond1 i = 1#1), ∀ (hinb : ∀ a, (k0_off1 v11) a + S2048x1024.size a ≤ S7424x1024.size a), (Rect.unit (s := S7424x1024) (k0_off1 v11) S2048x1024.size hinb).WholeWords (EltTy.packing .bf16)) ∧
  (∀ (k0_h1 : k0_cond1 i = 1#1), 16 ∣ (k0_mult2 v11).toNat) ∧
  (∀ (k0_h1 : k0_cond1 i = 1#1), ∀ a, (k0_off2 v11) a + S1856x1024.size a ≤ S2048x1024.size a) ∧
  (∀ (k0_h1 : k0_cond1 i = 1#1), ∀ (hinb : ∀ a, (k0_off2 v11) a + S1856x1024.size a ≤ S2048x1024.size a), (Rect.unit (s := S2048x1024) (k0_off2 v11) S1856x1024.size hinb).WholeWords (EltTy.packing .bf16))
theorem k0_mult1_dvd : ∀ (i : grid0.Coords) (v11 : BitVec 32) (k0_hw1 : k0_chk1 i v11), ∀ (k0_h1 : k0_cond1 i = 1#1), 256 ∣ (k0_mult1 v11).toNat := fun i v11 k0_hw1 k0_h1 => k0_hw1.1 k0_h1
theorem k0_off1_inb : ∀ (i : grid0.Coords) (v11 : BitVec 32) (k0_hw1 : k0_chk1 i v11), ∀ (k0_h1 : k0_cond1 i = 1#1), ∀ a, (k0_off1 v11) a + S2048x1024.size a ≤ S7424x1024.size a := fun i v11 k0_hw1 k0_h1 => k0_hw1.2.1 k0_h1
theorem k0_off1_wordsbf16 : ∀ (i : grid0.Coords) (v11 : BitVec 32) (k0_hw1 : k0_chk1 i v11), ∀ (k0_h1 : k0_cond1 i = 1#1), (Rect.unit (s := S7424x1024) (k0_off1 v11) S2048x1024.size (k0_off1_inb i v11 k0_hw1 k0_h1)).WholeWords (EltTy.packing .bf16) := fun i v11 k0_hw1 k0_h1 => k0_hw1.2.2.1 k0_h1 (k0_off1_inb i v11 k0_hw1 k0_h1)
theorem k0_mult2_dvd : ∀ (i : grid0.Coords) (v11 : BitVec 32) (k0_hw1 : k0_chk1 i v11), ∀ (k0_h1 : k0_cond1 i = 1#1), 16 ∣ (k0_mult2 v11).toNat := fun i v11 k0_hw1 k0_h1 => k0_hw1.2.2.2.1 k0_h1
theorem k0_off2_inb : ∀ (i : grid0.Coords) (v11 : BitVec 32) (k0_hw1 : k0_chk1 i v11), ∀ (k0_h1 : k0_cond1 i = 1#1), ∀ a, (k0_off2 v11) a + S1856x1024.size a ≤ S2048x1024.size a := fun i v11 k0_hw1 k0_h1 => k0_hw1.2.2.2.2.1 k0_h1
theorem k0_off2_wordsbf16 : ∀ (i : grid0.Coords) (v11 : BitVec 32) (k0_hw1 : k0_chk1 i v11), ∀ (k0_h1 : k0_cond1 i = 1#1), (Rect.unit (s := S2048x1024) (k0_off2 v11) S1856x1024.size (k0_off2_inb i v11 k0_hw1 k0_h1)).WholeWords (EltTy.packing .bf16) := fun i v11 k0_hw1 k0_h1 => k0_hw1.2.2.2.2.2 k0_h1 (k0_off2_inb i v11 k0_hw1 k0_h1)

def k0_mult3 (i : grid0.Coords) : BitVec 32 :=
  let arg0 : BitVec 32 := BitVec.ofNat 32 (i 0).val
  let c256_i32 : BitVec 32 := 256#32
  let v3 : BitVec 32 := Scalar.muli arg0 c256_i32
  v3
def k0_off3 (i : grid0.Coords) : Fin 2 → Nat :=
  let arg0 : BitVec 32 := BitVec.ofNat 32 (i 0).val
  let c256_i32 : BitVec 32 := 256#32
  let v3 : BitVec 32 := Scalar.muli arg0 c256_i32
  let v4 : BitVec 32 := v3
  let v5 : Index := Scalar.indexCast v4
  let c0 : Index := 0#32
  ![v5.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (inb_S3_S1_2 : ∀ a, (![2] : Fin 1 → Nat) a + S1.size a ≤ S3.size a) (numel1_S1 : S1.numel = 1) (pf : pre0.Contents (Elt F)) (i : grid0.Coords) : Fin 2 → Nat :=
  let arg0 : BitVec 32 := BitVec.ofNat 32 (i 0).val
  let c2 : Index := 2#32
  let v0 : BitVec 32 := pf.at 0 (Rect.unit (s := S3) ![2] S1.size inb_S3_S1_2) numel1_S1
  let c7_i32 : BitVec 32 := 7#32
  let v1 : BitVec 32 := Scalar.muli c7_i32 v0
  let v2 : BitVec 32 := Scalar.addi arg0 v1
  let c0_i32 : BitVec 32 := 0#32
  let v3 : BitVec 1 := Scalar.cmpi .sge v2 c0_i32
  let c10_i32 : BitVec 32 := 10#32
  let v4 : BitVec 1 := Scalar.cmpi .slt v2 c10_i32
  let v5 : BitVec 1 := Scalar.andi v3 v4
  let c0_i32_0 : BitVec 32 := 0#32
  let v6 : BitVec 32 := Scalar.subi v2 c0_i32_0
  let c0_i32_1 : BitVec 32 := 0#32
  let v7 : BitVec 32 := Scalar.addi v6 c0_i32_1
  let v8 : BitVec 32 := Scalar.select v5 v7 v2
  let c11_i32 : BitVec 32 := 11#32
  let v9 : BitVec 1 := Scalar.cmpi .sge v2 c11_i32
  let c13_i32 : BitVec 32 := 13#32
  let v10 : BitVec 1 := Scalar.cmpi .slt v2 c13_i32
  let v11 : BitVec 1 := Scalar.andi v9 v10
  let c11_i32_2 : BitVec 32 := 11#32
  let v12 : BitVec 32 := Scalar.subi v2 c11_i32_2
  let c10_i32_3 : BitVec 32 := 10#32
  let v13 : BitVec 32 := Scalar.addi v12 c10_i32_3
  let v14 : BitVec 32 := Scalar.select v11 v13 v8
  let c17_i32 : BitVec 32 := 17#32
  let v15 : BitVec 1 := Scalar.cmpi .sge v2 c17_i32
  let c29_i32 : BitVec 32 := 29#32
  let v16 : BitVec 1 := Scalar.cmpi .slt v2 c29_i32
  let v17 : BitVec 1 := Scalar.andi v15 v16
  let c17_i32_4 : BitVec 32 := 17#32
  let v18 : BitVec 32 := Scalar.subi v2 c17_i32_4
  let c12_i32 : BitVec 32 := 12#32
  let v19 : BitVec 32 := Scalar.addi v18 c12_i32
  let v20 : BitVec 32 := Scalar.select v17 v19 v14
  let c13_i32_5 : BitVec 32 := 13#32
  let v21 : BitVec 1 := Scalar.cmpi .sge v2 c13_i32_5
  let c17_i32_6 : BitVec 32 := 17#32
  let v22 : BitVec 1 := Scalar.cmpi .slt v2 c17_i32_6
  let v23 : BitVec 1 := Scalar.andi v21 v22
  let c13_i32_7 : BitVec 32 := 13#32
  let v24 : BitVec 32 := Scalar.subi v2 c13_i32_7
  let c24_i32 : BitVec 32 := 24#32
  let v25 : BitVec 32 := Scalar.addi v24 c24_i32
  let v26 : BitVec 32 := Scalar.select v23 v25 v20
  let c10_i32_8 : BitVec 32 := 10#32
  let v27 : BitVec 1 := Scalar.cmpi .sge v2 c10_i32_8
  let c11_i32_9 : BitVec 32 := 11#32
  let v28 : BitVec 1 := Scalar.cmpi .slt v2 c11_i32_9
  let v29 : BitVec 1 := Scalar.andi v27 v28
  let c10_i32_10 : BitVec 32 := 10#32
  let v30 : BitVec 32 := Scalar.subi v2 c10_i32_10
  let c28_i32 : BitVec 32 := 28#32
  let v31 : BitVec 32 := Scalar.addi v30 c28_i32
  let v32 : BitVec 32 := Scalar.select v29 v31 v26
  let c0_i32_11 : BitVec 32 := 0#32
  let c0_i32_12 : BitVec 32 := 0#32
  ![c0_i32_11.toNat, v32.toNat]

abbrev stage0_0 : Fin 1 → Memref sig .tc .smem S3 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S4096x1024 : Shape := ⟨2, ![4096, 1024]⟩
abbrev S7424x1024 : Shape := ⟨2, ![7424, 1024]⟩
abbrev S1856x1024 : Shape := ⟨2, ![1856, 1024]⟩
abbrev S4096x7424 : Shape := ⟨2, ![4096, 7424]⟩
abbrev S5568x1024 : Shape := ⟨2, ![5568, 1024]⟩
abbrev S1024x7424 : Shape := ⟨2, ![1024, 7424]⟩
abbrev S4096x4096 : Shape := ⟨2, ![4096, 4096]⟩
abbrev S4096x2048 : Shape := ⟨2, ![4096, 2048]⟩
abbrev S4096x1280 : Shape := ⟨2, ![4096, 1280]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S7424x1024, .f32⟩
  | .hbm, ⟨2, _⟩ => ⟨S1856x1024, .f32⟩
  | .hbm, ⟨3, _⟩ => ⟨S4096x7424, .f32⟩
  | .hbm, ⟨4, _⟩ => ⟨S5568x1024, .f32⟩
  | .hbm, ⟨5, _⟩ => ⟨S7424x1024, .f32⟩
  | .hbm, ⟨6, _⟩ => ⟨S1024x7424, .f32⟩
  | .hbm, ⟨7, _⟩ => ⟨S4096x4096, .f32⟩
  | .hbm, ⟨8, _⟩ => ⟨S4096x7424, .f32⟩
  | .hbm, ⟨9, _⟩ => ⟨S4096x2048, .f32⟩
  | .hbm, ⟨10, _⟩ => ⟨S4096x1280, .f32⟩
  | .hbm, ⟨11, _⟩ => ⟨S4096x7424, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Ring.lean ====
/- The gates' ring of the branch-merge backward kernel: how the gate logits of the projection reach the three slots of the
   kernel's ring buffer, one block of 256 rows per grid point, two points ahead. This module names the ring's slots, blocks
   and semaphore cells, states what is held before each point (`ringAt`), and gives the kernel's own offsets in these names. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameValue
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Mid

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-! ## The guards of the body, over the points -/

/-- The guard of the start-up (accumulators cleared, the first two blocks started). -/
abbrev atStart (i : grid0.Coords) : Prop := k0_cond1 i = 1#1
/-- The guard of starting the block two points ahead. -/
abbrev ahead (i : grid0.Coords) : Prop := k0_cond2 i = 1#1
/-- The guard of the finish (both accumulators rounded and copied out). -/
abbrev atEnd (i : grid0.Coords) : Prop :=
  Scalar.cmpi .ne (Scalar.extui (Scalar.cmpi .eq (BitVec.ofNat 32 (i 0).val) 15#32) : BitVec 32) 0#32 = 1#1

theorem atStart_iff : ∀ t : Fin cfg0.N, atStart (grid0.coords t) ↔ t.val = 0 :=
  (by decide +kernel : ∀ t : Fin grid0.N, atStart (grid0.coords t) ↔ t.val = 0)
theorem ahead_iff : ∀ t : Fin cfg0.N, ahead (grid0.coords t) ↔ t.val < 14 :=
  (by decide +kernel : ∀ t : Fin grid0.N, ahead (grid0.coords t) ↔ t.val < 14)
theorem atEnd_iff : ∀ t : Fin cfg0.N, atEnd (grid0.coords t) ↔ t.val = 15 :=
  (by decide +kernel : ∀ t : Fin grid0.N, atEnd (grid0.coords t) ↔ t.val = 15)

/-! ## The operands -/

abbrev accUpM : Memref sig .tc .vmem S3x512x1024 .f32 := Memref.whole cc0_scratch0
abbrev accOutM : Memref sig .tc .vmem S1024x1024 .f32 := Memref.whole cc0_scratch1
abbrev castUpM : Memref sig .tc .vmem S3x512x1024 .bf16 := Memref.whole cc0_scratch2
abbrev castOutM : Memref sig .tc .vmem S1024x1024 .bf16 := Memref.whole cc0_scratch3
abbrev ringM : Memref sig .tc .vmem S3x256x3072 .f32 := Memref.whole cc0_scratch4
/-- The projection, left in HBM and read by the ring. -/
abbrev projM : Memref sig .tc .hbm S4096x7424 .f32 := Memref.whole main_arg4
/-- The two results the kernel itself copies to HBM at the last point. -/
abbrev dUpM : Memref sig .tc .hbm S3x512x1024 .bf16 := Memref.whole main_v33_4
abbrev dOutM : Memref sig .tc .hbm S1024x1024 .bf16 := Memref.whole main_v33_5

/-- The contents of a memref's buffer on core `c`, and the buffer held whole at them. -/
abbrev BufOf (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : BufOf (F := F) c M) : sProp 𝕄 :=
  M.view.loc (c : Thread nD τ) ↦{fullShare} f

/-! ## Slots, blocks, cells -/

instance : NeZero grid0.N := ⟨by rw [N_0]; decide⟩
theorem slot_inb (s : Fin 3) : ∀ a, (![s.val, 0, 0] : Fin 3 → Nat) a + S1x256x3072.size a ≤ S3x256x3072.size a := by
  have := s.isLt; intro a; fin_cases a <;> simp <;> omega
theorem block_inb (b : Fin 16) : ∀ a, (![256 * b.val, 3072] : Fin 2 → Nat) a + S256x3072.size a ≤ S4096x7424.size a := by
  have := b.isLt; intro a; fin_cases a <;> simp <;> omega
theorem cell_inb (s : Fin 3) : ∀ a, (![s.val] : Fin 1 → Nat) a + S1.size a ≤ S3.size a := by
  have := s.isLt; intro a; fin_cases a <;> simp <;> omega
/-- Slot `s` of the ring buffer, as a transfer's destination. -/
def slot (s : Fin 3) : Memref sig .tc .vmem S256x3072 .f32 :=
  (ringM.slice (Rect.unit (s := S3x256x3072) ![s.val, 0, 0] S1x256x3072.size (slot_inb s)) (fun _ => rfl)).squeeze S256x3072 squeezes_S1x256x3072_S256x3072
/-- Block `b` of the projection: rows `256 b … 256 b + 255` of the gates' columns. -/
def block (b : Fin 16) : Memref sig .tc .hbm S256x3072 .f32 :=
  projM.slice (Rect.unit (s := S4096x7424) ![256 * b.val, 3072] S256x3072.size (block_inb b)) (fun _ => rfl)
/-- Cell `s` of the ring's semaphores. -/
def cell (s : Fin 3) : DmaSems sig S_ := (cc0_scratch5.slice (Rect.unit (s := S3) ![s.val] S1.size (cell_inb s))).squeeze S_ squeezes_S1_S_
abbrev cellLoc (s : Fin 3) : SemLoc sig := SemLoc.dma (cell s).sem
theorem cellLoc_0 : cellLoc 0 = SemLoc.dma 20 := by decide
theorem cellLoc_1 : cellLoc 1 = SemLoc.dma 21 := by decide
theorem cellLoc_2 : cellLoc 2 = SemLoc.dma 22 := by decide

section Families
variable (c : Dev nD) (W : BufOf (F := F) c projM)
/-- The share of the projection each slot's transfers borrow from: a half, and two quarters. -/
abbrev lent (s : Fin 3) : PosShare TreeShare := if s.val = 0 then fullShare.left else if s.val = 1 then fullShare.right.left else fullShare.right.right
abbrev slotHeld (s : Fin 3) (f : BufOf (F := F) c (slot s)) : sProp 𝕄 := (slot s).view.loc (c : Thread nD τ) ↦[(slot s).view.set]{fullShare} f
abbrev cellZero (s : Fin 3) : sProp 𝕄 := semVal ((c : Thread nD τ), cellLoc s) 0
abbrev blockLent (s : Fin 3) (b : Fin 16) : sProp 𝕄 := (block b).view.loc (c : Thread nD τ) ↦[(block b).view.set]{lent s} W
/-- What is left of slot `s`'s share of the projection while block `b` is lent out. -/
def restLent (s : Fin 3) (b : Fin 16) : sProp 𝕄 := ((c : Thread nD τ).loc main_arg4) ↦[Finset.univ \ (block b).view.set]{lent s} W
abbrev wholeLent (s : Fin 3) : sProp 𝕄 := ((c : Thread nD τ).loc main_arg4) ↦[Finset.univ]{lent s} W
/-- Slot `s` once block `b` has landed in it over `f`. -/
abbrev landed (s : Fin 3) (b : Fin 16) (f : BufOf (F := F) c (slot s)) : BufOf (F := F) c (slot s) :=
  (slot s).view.writes (Elt F) f [⟨Rect.whole S256x3072, ReadAs.same.apply ((block b).view.read (Elt F) W)⟩]
abbrev flight (s : Fin 3) (b : Fin 16) (f : BufOf (F := F) c (slot s)) : sProp 𝕄 :=
  Transfers.Flight countersEmb (c : Thread nD τ) (cellLoc s) default ((slot s).view.amount (cellLoc s))
    iprop(slotHeld c s (landed c W s b f) ∗ blockLent c W s b)
abbrev slotFree (s : Fin 3) (f : BufOf (F := F) c (slot s)) : sProp 𝕄 := iprop(slotHeld c s f ∗ wholeLent c W s)
abbrev slotFlying (s : Fin 3) (b : Fin 16) (f : BufOf (F := F) c (slot s)) : sProp 𝕄 := iprop(flight c W s b f ∗ restLent c W s b)
abbrev noHome (b : Fin 16) : sProp 𝕄 := iprop(emp)
/-- The ring before point `k`: all three slots free before the first; afterwards blocks `k` and `k + 1` (where they exist) on
    their way into their slots and the third slot free. -/
def ringAt (k : ℕ) : sProp 𝕄 :=
  if k = 0 then Ring.At₀ (cellZero c) (slotFree c W) noHome
  else Ring.At 2 (cellZero c) (slotFree c W) noHome (slotFlying c W) k
omit [FloatOps F] in
theorem cellZero_0 : cellZero (F := F) c 0 = semVal ((c : Thread nD τ), SemLoc.dma 20) 0 := congrArg (fun x => (semVal ((c : Thread nD τ), x) 0 : sProp 𝕄)) cellLoc_0
omit [FloatOps F] in
theorem cellZero_1 : cellZero (F := F) c 1 = semVal ((c : Thread nD τ), SemLoc.dma 21) 0 := congrArg (fun x => (semVal ((c : Thread nD τ), x) 0 : sProp 𝕄)) cellLoc_1
omit [FloatOps F] in
theorem cellZero_2 : cellZero (F := F) c 2 = semVal ((c : Thread nD τ), SemLoc.dma 22) 0 := congrArg (fun x => (semVal ((c : Thread nD τ), x) 0 : sProp 𝕄)) cellLoc_2

/-- A slot's share of the projection is block `b` of it and the rest. -/
theorem lent_split (s : Fin 3) (b : Fin 16) : wholeLent (F := F) c W s ⊣⊢ iprop(blockLent c W s b ∗ restLent c W s b) := by
  unfold restLent; exact pointsTo_split_subset (Finset.subset_univ _)
/-- The projection whole is the three slots' shares of it. -/
theorem proj_split : (held c projM W : sProp 𝕄) ⊣⊢ iprop(wholeLent c W 0 ∗ wholeLent c W 1 ∗ wholeLent c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
end Families

/-! ## The slots are disjoint and fill the ring buffer -/

abbrev slotSet (s : Fin 3) : Finset S3x256x3072.Idx := (Rect.unit (s := S3x256x3072) ![s.val, 0, 0] S1x256x3072.size (slot_inb s)).set
theorem slot_set (s : Fin 3) : (slot s).view.set = slotSet s := by
  simp only [slot, Memref.view_squeeze, View.set_reshape]; exact View.set_slice_whole _ _
theorem slotSet_disjoint (s s' : Fin 3) (h : s ≠ s') : Disjoint (slotSet s) (slotSet s') :=
  Ring.lead_disjoint (s := S3x256x3072) (0 : Fin 3) 1 (fun s : Fin 3 => (![s.val, 0, 0] : Fin 3 → Nat)) S1x256x3072.size slot_inb (fun s => by simp) rfl s s' h
theorem slotSet_cover : Finset.univ.biUnion slotSet = Finset.univ :=
  Ring.lead_cover (s := S3x256x3072) (0 : Fin 3) 1 (fun s : Fin 3 => (![s.val, 0, 0] : Fin 3 → Nat)) S1x256x3072.size slot_inb (fun s => by simp)
    (fun s a ha => by fin_cases a <;> first | exact absurd rfl ha | rfl) rfl (fun a ha => by fin_cases a <;> first | exact absurd rfl ha | rfl) rfl

theorem slotHeld_eq (c : Dev nD) (s : Fin 3) (f) :
    slotHeld (F := F) c s f = (((c : Thread nD τ).loc cc0_scratch4) ↦[slotSet s]{fullShare} f : sProp 𝕄) := by
  unfold slotHeld; rw [slot_set]; rfl

set_option maxHeartbeats 1000000 in
theorem ring_split (c : Dev nD) : iprop(∃ d, owns (c : Thread nD τ) ringM fullShare d) ⊢ (iprop((∃ f, slotHeld (F := F) c 0 f) ∗ (∃ f, slotHeld (F := F) c 1 f) ∗ ∃ f, slotHeld (F := F) c 2 f) : sProp 𝕄) := by
  simp only [ringM, owns_whole]
  exact Ring.slots3_split (U := Pipeline.UD sig nD τ) (ℓ := (c : Thread nD τ).loc cc0_scratch4) (q := fullShare) slotSet slotSet_disjoint slotSet_cover
    (slotHeld c 0) (slotHeld c 1) (slotHeld c 2) (slotHeld_eq c 0) (slotHeld_eq c 1) (slotHeld_eq c 2)
set_option maxHeartbeats 1000000 in
theorem ring_join (c : Dev nD) : (iprop((∃ f, slotHeld (F := F) c 0 f) ∗ (∃ f, slotHeld (F := F) c 1 f) ∗ ∃ f, slotHeld (F := F) c 2 f) : sProp 𝕄) ⊢ iprop(∃ d, owns (c : Thread nD τ) ringM fullShare d) := by
  simp only [ringM, owns_whole]
  exact Ring.slots3_join (U := Pipeline.UD sig nD τ) (ℓ := (c : Thread nD τ).loc cc0_scratch4) (q := fullShare) slotSet slotSet_disjoint slotSet_cover
    (slotHeld c 0) (slotHeld c 1) (slotHeld c 2) (slotHeld_eq c 0) (slotHeld_eq c 1) (slotHeld_eq c 2)

/-- The ring's three cells at zero. -/
abbrev cellsZero (c : Dev nD) : sProp 𝕄 :=
  iprop(semVal ((c : Thread nD τ), SemLoc.dma 20) 0 ∗ semVal ((c : Thread nD τ), SemLoc.dma 21) 0 ∗ semVal ((c : Thread nD τ), SemLoc.dma 22) 0)

/-- Into the ring: buffer, cells and projection, whole, are the ring before the first point. -/
theorem ring_in (c : Dev nD) (W : BufOf (F := F) c projM) :
    iprop((∃ d, owns (c : Thread nD τ) ringM fullShare d) ∗ cellsZero c ∗ held c projM W) ⊢ ringAt c W 0 := by
  unfold ringAt; rw [if_pos rfl]; unfold Ring.At₀
  rw [Ring.bigSep_fin3]
  simp only [Ring.free, cellZero_0, cellZero_1, cellZero_2]
  iintro ⟨HS, Hc, HW⟩
  iapply Ring.with_homes₀
  icases Hc with ⟨H0, H1, H2⟩
  ihave HS' := (ring_split (F := F) c) $$ HS
  icases HS' with ⟨⟨%d0, HS0⟩, ⟨%d1, HS1⟩, ⟨%d2, HS2⟩⟩
  ihave HW' := (proj_split (F := F) c W).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
/-- Out of the ring: after the last point the same pieces again. -/
theorem ring_out (c : Dev nD) (W : BufOf (F := F) c projM) :
    ringAt c W 16 ⊢ iprop((∃ d, owns (c : Thread nD τ) ringM fullShare d) ∗ cellsZero c ∗ held c projM W) := by
  unfold ringAt; rw [if_neg (by decide)]
  iintro H
  ihave H' := (Ring.free3_of_At_last _ _ _ _) $$ H
  simp only [Ring.free, cellZero_0, cellZero_1, cellZero_2]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (ring_join (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (proj_split (F := F) c W).2; isplitl [HW0]; · iexact HW0
    isplitl [HW1]; · iexact HW1
    iexact HW2

/-! ## The body's offsets, in the ring's names

Point `t` waits block `t` in slot `t mod 3` and, while it may, starts block `t + 2` into slot `(t + 2) mod 3`; point 0 starts
blocks 0 and 1 as well. -/

section Names
omit [FloatOps F]

theorem slot_named {o : Fin 3 → Nat} (h) (s : Fin 3) (e : o = ![s.val, 0, 0]) :
    (ringM.slice (Rect.unit (s := S3x256x3072) o S1x256x3072.size h) (fun _ => rfl)).squeeze S256x3072 squeezes_S1x256x3072_S256x3072 = slot s := by
  subst e; rfl
theorem cell_named {o : Fin 1 → Nat} (h) (s : Fin 3) (e : o = ![s.val]) :
    (cc0_scratch5.slice (Rect.unit (s := S3) o S1.size h)).squeeze S_ squeezes_S1_S_ = cell s := by subst e; rfl
theorem block_named {o : Fin 2 → Nat} (h) (b : Fin 16) (e : o = ![256 * b.val, 3072]) :
    projM.slice (Rect.unit (s := S4096x7424) o S256x3072.size h) (fun _ => rfl) = block b := by subst e; rfl

set_option synthInstance.maxSize 4096
theorem off1_eq : ∀ t : Fin grid0.N, k0_off1 (grid0.coords t) = ![(Ring.sl 3 (t.val + 2)).val] := by decide +kernel
theorem off2_eq : ∀ t : Fin grid0.N, k0_off2 (grid0.coords t) = ![(Ring.sl 3 (t.val + 2)).val, 0, 0] := by decide +kernel
theorem off3_eq : ∀ t : Fin grid0.N, ahead (grid0.coords t) → k0_off3 (grid0.coords t) = ![256 * (Ring.bk 16 (t.val + 2)).val, 3072] := by decide +kernel
theorem off4_eq : ∀ t : Fin grid0.N, k0_off4 (grid0.coords t) = ![(Ring.sl 3 t.val).val] := by decide +kernel
theorem off5_eq : ∀ t : Fin grid0.N, k0_off5 (grid0.coords t) = ![(Ring.sl 3 t.val).val, 0, 0] := by decide +kernel
theorem off7_eq : ∀ t : Fin grid0.N, k0_off7 (grid0.coords t) = ![(Ring.sl 3 t.val).val, 0, 0] := by decide +kernel

@[sl_canon] theorem slot_ahead (t : Fin grid0.N) (h : ahead (grid0.coords t)) :
    (ringM.slice (Rect.unit (s := S3x256x3072) (k0_off2 (grid0.coords t)) S1x256x3072.size (k0_off2_inb (grid0.coords t) h)) (fun _ => rfl)).squeeze S256x3072 squeezes_S1x256x3072_S256x3072 = slot (Ring.sl 3 (t.val + 2)) :=
  slot_named _ _ (off2_eq t)
@[sl_canon] theorem cell_ahead (t : Fin grid0.N) (h : ahead (grid0.coords t)) :
    (cc0_scratch5.slice (Rect.unit (s := S3) (k0_off1 (grid0.coords t)) S1.size (k0_off1_inb (grid0.coords t) h))).squeeze S_ squeezes_S1_S_ = cell (Ring.sl 3 (t.val + 2)) :=
  cell_named _ _ (off1_eq t)
@[sl_canon] theorem block_ahead (t : Fin grid0.N) (h : ahead (grid0.coords t)) :
    projM.slice (Rect.unit (s := S4096x7424) (k0_off3 (grid0.coords t)) S256x3072.size (k0_off3_inb (grid0.coords t) h)) (fun _ => rfl) = block (Ring.bk 16 (t.val + 2)) :=
  block_named _ _ (off3_eq t h)
@[sl_canon] theorem slot_here (t : Fin grid0.N) :
    (ringM.slice (Rect.unit (s := S3x256x3072) (k0_off5 (grid0.coords t)) S1x256x3072.size (k0_off5_inb (grid0.coords t))) (fun _ => rfl)).squeeze S256x3072 squeezes_S1x256x3072_S256x3072 = slot (Ring.sl 3 t.val) :=
  slot_named _ _ (off5_eq t)
@[sl_canon] theorem cell_here (t : Fin grid0.N) :
    (cc0_scratch5.slice (Rect.unit (s := S3) (k0_off4 (grid0.coords t)) S1.size (k0_off4_inb (grid0.coords t)))).squeeze S_ squeezes_S1_S_ = cell (Ring.sl 3 t.val) :=
  cell_named _ _ (off4_eq t)
/-- The load of the gates at point `t` reads slot `t mod 3`. -/
instance (priority := high) gates_off (t : Fin grid0.N) : ClosedOff (k0_off7 (grid0.coords t)) := ⟨![(Ring.sl 3 t.val).val, 0, 0], off7_eq t⟩
end Names

end Cert.KernelIdeal.Mid

end
-- ==== Proof.Body.lean ====
/- The body of the branch-merge backward kernel in three pieces: the transfers and the wait for the gates, the arithmetic of
   one block of rows (`crunch`), and the finish. What `crunch` leaves in every buffer is named as a value of what it reads. -/
module

public import proofs.«01_k».proof.Proof.Ring
public import Idealize.ShloMosaic.Lib.Pipeline.ValueKit

@[expose] public section

set_option maxRecDepth 16384

noncomputable section

namespace Cert.KernelIdeal.Mid

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-! ## What one block of rows leaves, as values of what it reads -/

/-- One of the three branches' slabs of a `[3, 512, 1024]` value. -/
abbrev slabA : Rect S3x512x1024 := Rect.unit (s := S3x512x1024) ![0, 0, 0] S1x512x1024.size inb_S3x512x1024_S1x512x1024_0_0_0
abbrev slabB : Rect S3x512x1024 := Rect.unit (s := S3x512x1024) ![1, 0, 0] S1x512x1024.size inb_S3x512x1024_S1x512x1024_1_0_0
abbrev slabM : Rect S3x512x1024 := Rect.unit (s := S3x512x1024) ![2, 0, 0] S1x512x1024.size inb_S3x512x1024_S1x512x1024_2_0_0
/-- One of the three branches' columns of a `[256, 3072]` value. -/
abbrev colsA : Rect S256x3072 := Rect.unit (s := S256x3072) ![0, 0] S256x1024.size inb_S256x3072_S256x1024_0_0
abbrev colsB : Rect S256x3072 := Rect.unit (s := S256x3072) ![0, 1024] S256x1024.size inb_S256x3072_S256x1024_0_1024
abbrev colsM : Rect S256x3072 := Rect.unit (s := S256x3072) ![0, 2048] S256x1024.size inb_S256x3072_S256x1024_0_2048

section Values
variable (dO : Vec F S256x1024 .bf16) (ya yb ym : Vec F S256x512 .bf16) (wUp : Vec F S3x512x1024 .bf16) (wOut : Vec F S1024x1024 .bf16)
  (gates : Vec F S1x256x3072 .f32)

/-- The gradient of the merged rows. -/
def dMerged : FVec F S256x1024 .f32 := k0_pay16 (k0_pay13 dO) wOut
/-- The gates' gradient, three groups of columns. -/
def dGates : Vec F S256x3072 .bf16 := View.canon
  [⟨colsM, k0_pay25 (k0_pay9 ym (View.ld wUp slabM)) (k0_pay12 gates) (dMerged dO wOut)⟩,
   ⟨colsB, k0_pay21 (k0_pay8 yb (View.ld wUp slabB)) (k0_pay11 gates) (k0_pay13 dO) wOut⟩,
   ⟨colsA, k0_pay17 (k0_pay7 ya (View.ld wUp slabA)) (k0_pay10 gates) (k0_pay13 dO) wOut⟩]
/-- The three branches' gradients. -/
def dBranchA : Vec F S256x512 .f32 := k0_pay19 (k0_pay10 gates) (k0_pay13 dO) wOut (View.ld wUp slabA)
def dBranchB : Vec F S256x512 .f32 := k0_pay23 (k0_pay11 gates) (dMerged dO wOut) (View.ld wUp slabB)
def dBranchM : Vec F S256x512 .f32 := k0_pay27 (k0_pay12 gates) (dMerged dO wOut) (View.ld wUp slabM)
/-- The up-projections' accumulated gradient after this block of rows, from `up` before it. -/
def stepUp (up : Vec F S3x512x1024 .f32) : Vec F S3x512x1024 .f32 := View.canon
  [⟨slabM, k0_pay1 (k0_pay26 (k0_pay12 gates) (dMerged dO wOut)) (View.ld up slabM) ym⟩,
   ⟨slabB, k0_pay24 (k0_pay11 gates) (dMerged dO wOut) (View.ld up slabB) yb⟩,
   ⟨slabA, k0_pay20 (k0_pay10 gates) (k0_pay13 dO) wOut (View.ld up slabA) ya⟩]
/-- The out-projection's accumulated gradient after this block of rows, from `out` before it. -/
def stepOut (merged : Vec F S256x1024 .bf16) (out : Vec F S1024x1024 .f32) : Vec F S1024x1024 .f32 :=
  k0_pay15 (k0_pay14 dO out merged)
end Values

/-- A load of the whole block is the block. -/
theorem ld_rows (X : Vec F S256x512 .bf16) (h) : View.ld X (Rect.unit (s := S256x512) ![0, 0] ![256, 512] h) = X := View.ld_unit_lit h X (by decide)
theorem ld_wide (X : Vec F S256x1024 .bf16) (h) : View.ld X (Rect.unit (s := S256x1024) ![0, 0] ![256, 1024] h) = X := View.ld_unit_lit h X (by decide)
theorem ld_square (X : Vec F S1024x1024 .bf16) (h) : View.ld X (Rect.unit (s := S1024x1024) ![0, 0] ![1024, 1024] h) = X := View.ld_unit_lit h X (by decide)
theorem ld_square32 (X : Vec F S1024x1024 .f32) (h) : View.ld X (Rect.unit (s := S1024x1024) ![0, 0] ![1024, 1024] h) = X := View.ld_unit_lit h X (by decide)

/-- An accumulator's contents read back. -/
theorem read_up (X : Vec F S3x512x1024 .f32) (h) : View.read (Elt F) (View.whole cc0_scratch0) (Memref.IsWhole.unread (m := Memref.whole cc0_scratch0) h X) = X := h.read_unread X
theorem read_out (X : Vec F S1024x1024 .f32) (h) : View.read (Elt F) (View.whole cc0_scratch1) (Memref.IsWhole.unread (m := Memref.whole cc0_scratch1) h X) = X := h.read_unread X

/-- The gates the body loads at point `t`, from the ring buffer's contents. -/
abbrev gatesRead (c : Dev nD) (t : Fin cfg0.N) (f : BufOf (F := F) c ringM) : Vec F S1x256x3072 .f32 :=
  ringM.view.readAt (Elt F) (Rect.unit (s := S3x256x3072) (k0_off7 (grid0.coords t)) S1x256x3072.size (k0_off7_inb (grid0.coords t))).toLoadRect f

section Body
variable (i : grid0.Coords)
variable (arg1 : Memref sig .tc .vmem S256x1024 .bf16) (harg1 : arg1.IsWhole)
variable (arg2 : Memref sig .tc .vmem S256x1024 .bf16) (harg2 : arg2.IsWhole)
variable (arg3 : Memref sig .tc .vmem S256x512 .bf16) (harg3 : arg3.IsWhole)
variable (arg4 : Memref sig .tc .vmem S256x512 .bf16) (harg4 : arg4.IsWhole)
variable (arg5 : Memref sig .tc .vmem S256x512 .bf16) (harg5 : arg5.IsWhole)
variable (arg7 : Memref sig .tc .vmem S3x512x1024 .bf16) (harg7 : arg7.IsWhole)
variable (arg8 : Memref sig .tc .vmem S1024x1024 .bf16) (harg8 : arg8.IsWhole)
variable (arg9 : Memref sig .tc .vmem S256x3072 .bf16) (harg9 : arg9.IsWhole)
variable (arg10 : Memref sig .tc .vmem S256x512 .f32) (harg10 : arg10.IsWhole)
variable (arg11 : Memref sig .tc .vmem S256x512 .f32) (harg11 : arg11.IsWhole)
variable (arg12 : Memref sig .tc .vmem S256x512 .f32) (harg12 : arg12.IsWhole)

/-- The part of the body between the wait for the gates and the finish: every gradient of this block of rows. -/
def crunch : Prog (TpuEff nD τ sig (Elt F) Λ₀ .tc) PUnit := do
  let p ← k0_part2 i arg1 harg1 arg2 harg2 arg3 harg3 arg4 harg4 arg5 harg5 projM (Memref.isWhole_whole _) arg7 harg7 arg8 harg8 arg9 harg9 arg10 harg10 arg11 harg11 arg12 harg12 dUpM (Memref.isWhole_whole _) dOutM (Memref.isWhole_whole _) accUpM (Memref.isWhole_whole _) accOutM (Memref.isWhole_whole _) castUpM (Memref.isWhole_whole _) castOutM (Memref.isWhole_whole _) ringM (Memref.isWhole_whole _) cc0_scratch5 cc0_scoped0 cc0_scoped1
  let q ← k0_part3 i arg1 harg1 arg2 harg2 arg3 harg3 arg4 harg4 arg5 harg5 projM (Memref.isWhole_whole _) arg7 harg7 arg8 harg8 arg9 harg9 arg10 harg10 arg11 harg11 arg12 harg12 dUpM (Memref.isWhole_whole _) dOutM (Memref.isWhole_whole _) accUpM (Memref.isWhole_whole _) accOutM (Memref.isWhole_whole _) castUpM (Memref.isWhole_whole _) castOutM (Memref.isWhole_whole _) ringM (Memref.isWhole_whole _) cc0_scratch5 cc0_scoped0 cc0_scoped1 p.1 p.2.1 p.2.2.2.1 p.2.2.2.2.1 p.2.2.2.2.2.2.1 p.2.2.2.2.2.2.2.1 p.2.2.2.2.2.2.2.2
  let v123 : FVec F S256x1024 .bf16 ← k0_part4 i arg1 harg1 arg2 harg2 arg3 harg3 arg4 harg4 arg5 harg5 projM (Memref.isWhole_whole _) arg7 harg7 arg8 harg8 arg9 harg9 arg10 harg10 arg11 harg11 arg12 harg12 dUpM (Memref.isWhole_whole _) dOutM (Memref.isWhole_whole _) accUpM (Memref.isWhole_whole _) accOutM (Memref.isWhole_whole _) castUpM (Memref.isWhole_whole _) castOutM (Memref.isWhole_whole _) ringM (Memref.isWhole_whole _) cc0_scratch5 cc0_scoped0 cc0_scoped1 p.2.2.1 p.2.2.2.2.1 p.2.2.2.2.2.1 q.1 q.2
  let v128 : Vec F S1x512x1024 .f32 ← Prog.lift (.load accUpM (Rect.unit (s := S3x512x1024) ![2, 0, 0] S1x512x1024.size inb_S3x512x1024_S1x512x1024_2_0_0).toLoadRect (View.loadsAt_vmem h_S1x512x1024))
  let v130 : Vec F S256x512 .bf16 ← Prog.lift (.load arg5 (Rect.unit (s := S256x512) ![0, 0] S256x512.size inb_S256x512_S256x512_0_0).toLoadRect (View.loadsAt_vmem h_S256x512))
  let v134 : Vec F S1x512x1024 .f32 ← Prog.lift (.load accUpM (Rect.unit (s := S3x512x1024) ![2, 0, 0] S1x512x1024.size inb_S3x512x1024_S1x512x1024_2_0_0).toLoadRect (View.loadsAt_vmem h_S1x512x1024))
  Prog.lift (.store accUpM (Rect.unit (s := S3x512x1024) ![2, 0, 0] S1x512x1024.size inb_S3x512x1024_S1x512x1024_2_0_0) (k0_pay1 v123 v128 v130) Finset.univ (View.stores_vmem_bits_univ h_S1x512x1024 rfl) (.inl rfl))

/-- The guard of the finish. -/
abbrev last (arg0 : BitVec 32) : Prop := Scalar.cmpi .ne (Scalar.extui (Scalar.cmpi .eq arg0 15#32) : BitVec 32) 0#32 = 1#1

/-- The finish: at the last point both accumulators are rounded and copied to the results in HBM. -/
def finish (arg0 : BitVec 32) : Prog (TpuEff nD τ sig (Elt F) Λ₀ .tc) PUnit :=
  if last arg0 then do
    let v140 : Vec F S3x512x1024 .f32 ← Prog.lift (.load accUpM (Rect.unit (s := S3x512x1024) ![0, 0, 0] S3x512x1024.size inb_S3x512x1024_S3x512x1024_0_0_0).toLoadRect (View.loadsAt_vmem h_S3x512x1024))
    let v142 : Vec F S3x512x1024 .bf16 ← Prog.lift (.load castUpM (Rect.unit (s := S3x512x1024) ![0, 0, 0] S3x512x1024.size inb_S3x512x1024_S3x512x1024_0_0_0).toLoadRect (View.loadsAt_vmem h_S3x512x1024))
    Prog.lift (.store castUpM (Rect.unit (s := S3x512x1024) ![0, 0, 0] S3x512x1024.size inb_S3x512x1024_S3x512x1024_0_0_0) (k0_pay2 v140) Finset.univ (View.stores_vmem h_S3x512x1024 ((Memref.isWhole_whole _).storeExact_slice rfl _ packedbf16_S3x512x1024_S3x512x1024_0_0_0) (fun _ => rfl)) (.inl rfl))
    let v145 : Vec F S1024x1024 .f32 ← Prog.lift (.load accOutM (Rect.unit (s := S1024x1024) ![0, 0] S1024x1024.size inb_S1024x1024_S1024x1024_0_0).toLoadRect (View.loadsAt_vmem h_S1024x1024))
    let v147 : Vec F S1024x1024 .bf16 ← Prog.lift (.load castOutM (Rect.unit (s := S1024x1024) ![0, 0] S1024x1024.size inb_S1024x1024_S1024x1024_0_0).toLoadRect (View.loadsAt_vmem h_S1024x1024))
    Prog.lift (.store castOutM (Rect.unit (s := S1024x1024) ![0, 0] S1024x1024.size inb_S1024x1024_S1024x1024_0_0) (k0_pay3 v145) Finset.univ (View.stores_vmem h_S1024x1024 ((Memref.isWhole_whole _).storeExact_slice rfl _ packedbf16_S1024x1024_S1024x1024_0_0) (fun _ => rfl)) (.inl rfl))
    Prog.lift (.enqueueDma castUpM (.here dUpM) (.dma cc0_scoped0.sem) (Memref.isWhole_whole _).wordExact (Memref.isWhole_whole _).wordExact ⟨Or.inl rfl, trivial⟩)
    Prog.lift (.waitDma2 cc0_scoped0.sem castUpM dUpM (Memref.isWhole_whole _).wordExact (Memref.isWhole_whole _).wordExact)
    Prog.lift (.enqueueDma castOutM (.here dOutM) (.dma cc0_scoped1.sem) (Memref.isWhole_whole _).wordExact (Memref.isWhole_whole _).wordExact ⟨Or.inl rfl, trivial⟩)
    Prog.lift (.waitDma2 cc0_scoped1.sem castOutM dOutM (Memref.isWhole_whole _).wordExact (Memref.isWhole_whole _).wordExact)
    pure ⟨⟩
  else pure ⟨⟩

theorem body_eq : cc0_mid_bwd (F := F) i arg1 harg1 arg2 harg2 arg3 harg3 arg4 harg4 arg5 harg5 projM (Memref.isWhole_whole _) arg7 harg7 arg8 harg8 arg9 harg9 arg10 harg10 arg11 harg11 arg12 harg12 dUpM (Memref.isWhole_whole _) dOutM (Memref.isWhole_whole _) accUpM (Memref.isWhole_whole _) accOutM (Memref.isWhole_whole _) castUpM (Memref.isWhole_whole _) castOutM (Memref.isWhole_whole _) ringM (Memref.isWhole_whole _) cc0_scratch5 cc0_scoped0 cc0_scoped1
    = (k0_part1 i arg1 harg1 arg2 harg2 arg3 harg3 arg4 harg4 arg5 harg5 projM (Memref.isWhole_whole _) arg7 harg7 arg8 harg8 arg9 harg9 arg10 harg10 arg11 harg11 arg12 harg12 dUpM (Memref.isWhole_whole _) dOutM (Memref.isWhole_whole _) accUpM (Memref.isWhole_whole _) accOutM (Memref.isWhole_whole _) castUpM (Memref.isWhole_whole _) castOutM (Memref.isWhole_whole _) ringM (Memref.isWhole_whole _) cc0_scratch5 cc0_scoped0 cc0_scoped1 >>= fun a => crunch i arg1 harg1 arg2 harg2 arg3 harg3 arg4 harg4 arg5 harg5 arg7 harg7 arg8 harg8 arg9 harg9 arg10 harg10 arg11 harg11 arg12 harg12 >>= fun _ => finish a) := by
  rw [cc0_mid_bwd_eq_skeleton]; unfold cc0_mid_bwd_skel
  refine congrArg (fun f => k0_part1 i arg1 harg1 arg2 harg2 arg3 harg3 arg4 harg4 arg5 harg5 projM (Memref.isWhole_whole _) arg7 harg7 arg8 harg8 arg9 harg9 arg10 harg10 arg11 harg11 arg12 harg12 dUpM (Memref.isWhole_whole _) dOutM (Memref.isWhole_whole _) accUpM (Memref.isWhole_whole _) accOutM (Memref.isWhole_whole _) castUpM (Memref.isWhole_whole _) castOutM (Memref.isWhole_whole _) ringM (Memref.isWhole_whole _) cc0_scratch5 cc0_scoped0 cc0_scoped1 >>= f) (funext fun a => ?_)
  unfold crunch; simp only [bind_assoc]
  refine congrArg (fun f => k0_part2 i arg1 harg1 arg2 harg2 arg3 harg3 arg4 harg4 arg5 harg5 projM (Memref.isWhole_whole _) arg7 harg7 arg8 harg8 arg9 harg9 arg10 harg10 arg11 harg11 arg12 harg12 dUpM (Memref.isWhole_whole _) dOutM (Memref.isWhole_whole _) accUpM (Memref.isWhole_whole _) accOutM (Memref.isWhole_whole _) castUpM (Memref.isWhole_whole _) castOutM (Memref.isWhole_whole _) ringM (Memref.isWhole_whole _) cc0_scratch5 cc0_scoped0 cc0_scoped1 >>= f) (funext fun p => ?_)
  refine congrArg (fun f => k0_part3 i arg1 harg1 arg2 harg2 arg3 harg3 arg4 harg4 arg5 harg5 projM (Memref.isWhole_whole _) arg7 harg7 arg8 harg8 arg9 harg9 arg10 harg10 arg11 harg11 arg12 harg12 dUpM (Memref.isWhole_whole _) dOutM (Memref.isWhole_whole _) accUpM (Memref.isWhole_whole _) accOutM (Memref.isWhole_whole _) castUpM (Memref.isWhole_whole _) castOutM (Memref.isWhole_whole _) ringM (Memref.isWhole_whole _) cc0_scratch5 cc0_scoped0 cc0_scoped1 p.1 p.2.1 p.2.2.2.1 p.2.2.2.2.1 p.2.2.2.2.2.2.1 p.2.2.2.2.2.2.2.1 p.2.2.2.2.2.2.2.2 >>= f) (funext fun q => ?_)
  refine congrArg (fun f => k0_part4 i arg1 harg1 arg2 harg2 arg3 harg3 arg4 harg4 arg5 harg5 projM (Memref.isWhole_whole _) arg7 harg7 arg8 harg8 arg9 harg9 arg10 harg10 arg11 harg11 arg12 harg12 dUpM (Memref.isWhole_whole _) dOutM (Memref.isWhole_whole _) accUpM (Memref.isWhole_whole _) accOutM (Memref.isWhole_whole _) castUpM (Memref.isWhole_whole _) castOutM (Memref.isWhole_whole _) ringM (Memref.isWhole_whole _) cc0_scratch5 cc0_scoped0 cc0_scoped1 p.2.2.1 p.2.2.2.2.1 p.2.2.2.2.2.1 q.1 q.2 >>= f) (funext fun v => ?_)
  unfold finish last
  by_cases h : Scalar.cmpi .ne (Scalar.extui (Scalar.cmpi .eq a 15#32) : BitVec 32) 0#32 = 1#1
  · simp only [dif_pos h, if_pos h]
  · simp only [dif_neg h, if_neg h]
end Body
end Cert.KernelIdeal.Mid

end
-- ==== Proof.Crunch.lean ====
/- The arithmetic of one block of rows, run: what it leaves in the outputs' buffers and in both accumulators. -/
module

public import proofs.«01_k».proof.Proof.Body

@[expose] public section

set_option maxRecDepth 16384

noncomputable section

namespace Cert.KernelIdeal.Mid

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section Body
variable (i : grid0.Coords)
variable (arg1 : Memref sig .tc .vmem S256x1024 .bf16) (harg1 : arg1.IsWhole)
variable (arg2 : Memref sig .tc .vmem S256x1024 .bf16) (harg2 : arg2.IsWhole)
variable (arg3 : Memref sig .tc .vmem S256x512 .bf16) (harg3 : arg3.IsWhole)
variable (arg4 : Memref sig .tc .vmem S256x512 .bf16) (harg4 : arg4.IsWhole)
variable (arg5 : Memref sig .tc .vmem S256x512 .bf16) (harg5 : arg5.IsWhole)
variable (arg7 : Memref sig .tc .vmem S3x512x1024 .bf16) (harg7 : arg7.IsWhole)
variable (arg8 : Memref sig .tc .vmem S1024x1024 .bf16) (harg8 : arg8.IsWhole)
variable (arg9 : Memref sig .tc .vmem S256x3072 .bf16) (harg9 : arg9.IsWhole)
variable (arg10 : Memref sig .tc .vmem S256x512 .f32) (harg10 : arg10.IsWhole)
variable (arg11 : Memref sig .tc .vmem S256x512 .f32) (harg11 : arg11.IsWhole)
variable (arg12 : Memref sig .tc .vmem S256x512 .f32) (harg12 : arg12.IsWhole)

/-- What the body's arithmetic is handed: the inputs' blocks; the outputs' buffers, at anything; both accumulators; the
    slot its gates are in. -/
abbrev inputsAre (c : Dev nD) (dO merged : Vec F S256x1024 .bf16) (ya yb ym : Vec F S256x512 .bf16) (wUp : Vec F S3x512x1024 .bf16) (wOut : Vec F S1024x1024 .bf16) : sProp 𝕄 :=
  iprop(owns (c : Thread nD τ) arg1 fullShare dO ∗ owns (c : Thread nD τ) arg2 fullShare merged ∗ owns (c : Thread nD τ) arg3 fullShare ya ∗ owns (c : Thread nD τ) arg4 fullShare yb ∗ owns (c : Thread nD τ) arg5 fullShare ym ∗ owns (c : Thread nD τ) arg7 fullShare wUp ∗ owns (c : Thread nD τ) arg8 fullShare wOut)
abbrev outputsAny (c : Dev nD) : sProp 𝕄 :=
  iprop((∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d))
/-- The four outputs of this block of rows. -/
abbrev outputsAre (c : Dev nD) (dO : Vec F S256x1024 .bf16) (ya yb ym : Vec F S256x512 .bf16) (wUp : Vec F S3x512x1024 .bf16) (wOut : Vec F S1024x1024 .bf16) (gates : Vec F S1x256x3072 .f32) : sProp 𝕄 :=
  iprop(owns (c : Thread nD τ) arg9 fullShare (dGates dO ya yb ym wUp wOut gates) ∗ owns (c : Thread nD τ) arg10 fullShare (dBranchA dO wUp wOut gates) ∗ owns (c : Thread nD τ) arg11 fullShare (dBranchB dO wUp wOut gates) ∗ owns (c : Thread nD τ) arg12 fullShare (dBranchM dO wUp wOut gates))

set_option maxHeartbeats 2000000 in
/-- The arithmetic of one block of rows: the outputs and both accumulators at their named values. -/
theorem crunch_run (c : Dev nD) (t : Fin cfg0.N) (dO merged : Vec F S256x1024 .bf16) (ya yb ym : Vec F S256x512 .bf16)
    (wUp : Vec F S3x512x1024 .bf16) (wOut : Vec F S1024x1024 .bf16) (up : Vec F S3x512x1024 .f32) (out : Vec F S1024x1024 .f32)
    (fr : BufOf (F := F) c (slot (Ring.sl 3 t.val))) (K : PUnit → sProp 𝕄) :
    iprop(inputsAre arg1 arg2 arg3 arg4 arg5 arg7 arg8 c dO merged ya yb ym wUp wOut ∗ outputsAny arg9 arg10 arg11 arg12 c
      ∗ owns (c : Thread nD τ) accUpM fullShare up ∗ owns (c : Thread nD τ) accOutM fullShare out ∗ slotHeld c (Ring.sl 3 t.val) fr
      ∗ (iprop(inputsAre arg1 arg2 arg3 arg4 arg5 arg7 arg8 c dO merged ya yb ym wUp wOut
          ∗ outputsAre arg9 arg10 arg11 arg12 c dO ya yb ym wUp wOut (gatesRead c t fr)
          ∗ owns (c : Thread nD τ) accUpM fullShare (stepUp dO ya yb ym wOut (gatesRead c t fr) up) ∗ owns (c : Thread nD τ) accOutM fullShare (stepOut dO merged out)
          ∗ slotHeld c (Ring.sl 3 t.val) fr) -∗ K ⟨⟩))
    ⊢ wp frame (wpE (defs₀ (F := F)) Variants.none c none) Set.univ (crunch (grid0.coords t) arg1 harg1 arg2 harg2 arg3 harg3 arg4 harg4 arg5 harg5 arg7 harg7 arg8 harg8 arg9 harg9 arg10 harg10 arg11 harg11 arg12 harg12) K := by
  unfold crunch
  simp only [k0_part2_eq_skeleton, k0_part3_eq_skeleton, k0_part4_eq_skeleton]
  unfold inputsAre outputsAny outputsAre owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨⟨%d7, %f7, -, H7⟩, ⟨%d8, %f8, -, H8⟩, ⟨%d9, %f9, -, H9⟩, ⟨%d10, %f10, -, H10⟩⟩, ⟨%fu, %hfu, HU⟩, ⟨%fo, %hfo, HO⟩, HR, Hk⟩
  obtain rfl := harg1.eq_unread hf0; obtain rfl := harg2.eq_unread hf1; obtain rfl := harg3.eq_unread hf2; obtain rfl := harg4.eq_unread hf3; obtain rfl := harg5.eq_unread hf4; obtain rfl := harg7.eq_unread hf5; obtain rfl := harg8.eq_unread hf6
  obtain rfl := (Memref.isWhole_whole _).eq_unread hfu; obtain rfl := (Memref.isWhole_whole _).eq_unread hfo
  sl_exec
  sl_step
  iapply Hk
  isplitl [H0 H1 H2 H3 H4 H5 H6]
  · isplitl [H0]; · iexists _; isplitr; swap; · iexact H0
                    ipureintro; exact hf0
    isplitl [H1]; · iexists _; isplitr; swap; · iexact H1
                    ipureintro; exact hf1
    isplitl [H2]; · iexists _; isplitr; swap; · iexact H2
                    ipureintro; exact hf2
    isplitl [H3]; · iexists _; isplitr; swap; · iexact H3
                    ipureintro; exact hf3
    isplitl [H4]; · iexists _; isplitr; swap; · iexact H4
                    ipureintro; exact hf4
    isplitl [H5]; · iexists _; isplitr; swap; · iexact H5
                    ipureintro; exact hf5
    iexists _; isplitr; swap; · iexact H6
    ipureintro; exact hf6
  isplitl [H7 H8 H9 H10]
  · isplitl [H7]
    · iexists _; isplitr; swap; · iexact H7
      ipureintro
      refine (View.read_writes_eq_canon _ _ _ (View.cover_of_tiled _ ![256, 1024] rfl)).trans ?_
      sl_unfold_run_names
      simp only [View.readAt_eq_ld, Memref.IsWhole.read_unread, ld_rows, ld_wide, ld_square, ld_square32, read_up, read_out]
      rfl
    isplitl [H8]
    · iexists _; isplitr; swap; · iexact H8
      ipureintro
      refine (View.read_writes_eq_canon _ _ _ (View.cover_of_tiled _ ![256, 512] rfl)).trans ?_
      refine (View.canon_cons_unit_lit _ _ _ (by decide)).trans ?_
      sl_unfold_run_names
      simp only [View.readAt_eq_ld, Memref.IsWhole.read_unread, ld_rows, ld_wide, ld_square, ld_square32, read_up, read_out]
      rfl
    isplitl [H9]
    · iexists _; isplitr; swap; · iexact H9
      ipureintro
      refine (View.read_writes_eq_canon _ _ _ (View.cover_of_tiled _ ![256, 512] rfl)).trans ?_
      refine (View.canon_cons_unit_lit _ _ _ (by decide)).trans ?_
      sl_unfold_run_names
      simp only [View.readAt_eq_ld, Memref.IsWhole.read_unread, ld_rows, ld_wide, ld_square, ld_square32, read_up, read_out]
      rfl
    · iexists _; isplitr; swap; · iexact H10
      ipureintro
      refine (View.read_writes_eq_canon _ _ _ (View.cover_of_tiled _ ![256, 512] rfl)).trans ?_
      refine (View.canon_cons_unit_lit _ _ _ (by decide)).trans ?_
      sl_unfold_run_names
      simp only [View.readAt_eq_ld, Memref.IsWhole.read_unread, ld_rows, ld_wide, ld_square, ld_square32, read_up, read_out]
      rfl
  isplitl [HU]
  · iexists _; isplitr; swap; · iexact HU
    ipureintro
    refine (View.read_writes_eq_canon _ _ _ (View.cover_of_tiled _ ![1, 512, 1024] rfl)).trans ?_
    sl_unfold_run_names
    simp only [View.readAt_eq_ld, Memref.IsWhole.read_unread, ld_rows, ld_wide, ld_square, ld_square32, read_up, read_out]
    rfl
  isplitl [HO]
  · iexists _; isplitr; swap; · iexact HO
    ipureintro
    refine (View.read_writes_eq_canon _ _ _ (View.cover_of_tiled _ ![1024, 1024] rfl)).trans ?_
    refine (View.canon_cons_unit_lit _ _ _ (by decide)).trans ?_
    sl_unfold_run_names
    simp only [View.readAt_eq_ld, Memref.IsWhole.read_unread, ld_rows, ld_wide, ld_square, ld_square32, read_up, read_out]
    rfl
  iexact HR
end Body
end Cert.KernelIdeal.Mid

end
-- ==== Proof.Ends.lean ====
/- The body's transfers, run: the start-up and the wait for a block of gates (`k0_part1`, by where the point stands), and the
   finish that copies both accumulators out. -/
module

public import proofs.«01_k».proof.Proof.Body

@[expose] public section

set_option maxRecDepth 16384

noncomputable section

namespace Cert.KernelIdeal.Mid

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-- The ring's slot at point `t` with its block of gates in it, its cell and its share of the projection back. -/
def gatesIn (c : Dev nD) (W : BufOf (F := F) c projM) (t : Fin cfg0.N) (f : BufOf (F := F) c (slot (Ring.sl 3 t.val))) : sProp 𝕄 :=
  iprop(cellZero c (Ring.sl 3 t.val) ∗ slotHeld c (Ring.sl 3 t.val) (landed c W (Ring.sl 3 t.val) (Ring.bk 16 t.val) f) ∗ wholeLent c W (Ring.sl 3 t.val))

abbrev freeAt (c : Dev nD) (W : BufOf (F := F) c projM) (k : ℕ) : sProp 𝕄 := Ring.free (cellZero c) (slotFree c W) (Ring.sl 3 k)
abbrev flyingAt (c : Dev nD) (W : BufOf (F := F) c projM) (k : ℕ) : sProp 𝕄 := Ring.inflight (slotFlying c W) (Ring.sl 3 k) (Ring.bk 16 k)

section Body
variable (arg1 : Memref sig .tc .vmem S256x1024 .bf16) (harg1 : arg1.IsWhole)
variable (arg2 : Memref sig .tc .vmem S256x1024 .bf16) (harg2 : arg2.IsWhole)
variable (arg3 : Memref sig .tc .vmem S256x512 .bf16) (harg3 : arg3.IsWhole)
variable (arg4 : Memref sig .tc .vmem S256x512 .bf16) (harg4 : arg4.IsWhole)
variable (arg5 : Memref sig .tc .vmem S256x512 .bf16) (harg5 : arg5.IsWhole)
variable (arg7 : Memref sig .tc .vmem S3x512x1024 .bf16) (harg7 : arg7.IsWhole)
variable (arg8 : Memref sig .tc .vmem S1024x1024 .bf16) (harg8 : arg8.IsWhole)
variable (arg9 : Memref sig .tc .vmem S256x3072 .bf16) (harg9 : arg9.IsWhole)
variable (arg10 : Memref sig .tc .vmem S256x512 .f32) (harg10 : arg10.IsWhole)
variable (arg11 : Memref sig .tc .vmem S256x512 .f32) (harg11 : arg11.IsWhole)
variable (arg12 : Memref sig .tc .vmem S256x512 .f32) (harg12 : arg12.IsWhole)

set_option maxHeartbeats 1000000 in
/-- The first point: both accumulators cleared, blocks 0, 1 and 2 started, block 0 waited for. -/
theorem part1_first (c : Dev nD) (W : BufOf (F := F) c projM) (t : Fin cfg0.N) (h0 : atStart (grid0.coords t)) (h1 : ahead (grid0.coords t))
    (Q : Waits sig Unit) (K : BitVec 32 → sProp 𝕄) :
    iprop((∃ d, owns (c : Thread nD τ) accUpM fullShare d) ∗ (∃ d, owns (c : Thread nD τ) accOutM fullShare d)
      ∗ freeAt c W t.val ∗ freeAt c W (t.val + 1) ∗ freeAt c W (t.val + 2) ∗ owes (c : Thread nD τ) 0 Q
      ∗ (iprop(owns (c : Thread nD τ) accUpM fullShare (k0_pay4 (F := F)) ∗ owns (c : Thread nD τ) accOutM fullShare (k0_pay5 (F := F))
          ∗ (∃ f, gatesIn c W t f) ∗ flyingAt c W (t.val + 1) ∗ flyingAt c W (t.val + 2) ∗ (∃ Q', owes (c : Thread nD τ) 0 Q')) -∗ K (BitVec.ofNat 32 ((grid0.coords t) 0).val)))
    ⊢ wp frame (wpE (defs₀ (F := F)) Variants.none c none) Set.univ (k0_part1 (grid0.coords t) arg1 harg1 arg2 harg2 arg3 harg3 arg4 harg4 arg5 harg5 projM (Memref.isWhole_whole _) arg7 harg7 arg8 harg8 arg9 harg9 arg10 harg10 arg11 harg11 arg12 harg12 dUpM (Memref.isWhole_whole _) dOutM (Memref.isWhole_whole _) accUpM (Memref.isWhole_whole _) accOutM (Memref.isWhole_whole _) castUpM (Memref.isWhole_whole _) castOutM (Memref.isWhole_whole _) ringM (Memref.isWhole_whole _) cc0_scratch5 cc0_scoped0 cc0_scoped1) K := by
  haveI : Fact (atStart (grid0.coords t)) := ⟨h0⟩
  haveI : Fact (ahead (grid0.coords t)) := ⟨h1⟩
  have e0 : t.val = 0 := (atStart_iff t).1 h0
  have hcanon1 := slot_named inb_S3x256x3072_S1x256x3072_0_0_0 (Ring.sl 3 t.val) (by rw [e0]; rfl)
  have hcanon2 := cell_named inb_S3_S1_0 (Ring.sl 3 t.val) (by rw [e0]; rfl)
  have hcanon3 := block_named inb_S4096x7424_S256x3072_0_3072 (Ring.bk 16 t.val) (by rw [e0]; rfl)
  have hcanon4 := slot_named inb_S3x256x3072_S1x256x3072_1_0_0 (Ring.sl 3 (t.val + 1)) (by rw [e0]; rfl)
  have hcanon5 := cell_named inb_S3_S1_1 (Ring.sl 3 (t.val + 1)) (by rw [e0]; rfl)
  have hcanon6 := block_named inb_S4096x7424_S256x3072_256_3072 (Ring.bk 16 (t.val + 1)) (by rw [e0]; rfl)
  simp only [k0_part1_eq_skeleton]; unfold k0_part1_skel
  unfold gatesIn freeAt flyingAt owns Ring.free Ring.inflight
  iintro ⟨⟨%du, %fu, -, HU⟩, ⟨%do', %fo, -, HO⟩, ⟨Hc0, ⟨%f0, Hs0, Hw0⟩⟩, ⟨Hc1, ⟨%f1, Hs1, Hw1⟩⟩, ⟨Hc2, ⟨%f2, Hs2, Hw2⟩⟩, HQ, Hk⟩
  ihave Hp0 := (lent_split c W (Ring.sl 3 t.val) (Ring.bk 16 t.val)).1 $$ Hw0
  icases Hp0 with ⟨Hh0, Hr0⟩
  ihave Hp1 := (lent_split c W (Ring.sl 3 (t.val + 1)) (Ring.bk 16 (t.val + 1))).1 $$ Hw1
  icases Hp1 with ⟨Hh1, Hr1⟩
  ihave Hp2 := (lent_split c W (Ring.sl 3 (t.val + 2)) (Ring.bk 16 (t.val + 2))).1 $$ Hw2
  icases Hp2 with ⟨Hh2, Hr2⟩
  sl_exec (disch := first | sl_exact h0 | sl_exact h1)
  sl_step
  iapply Hk
  isplitl [HU]
  · iexists _; isplitr; swap; · iexact HU
    ipureintro
    refine (View.read_writes_eq_canon _ _ _ (View.cover_of_tiled _ ![3, 512, 1024] rfl)).trans ?_
    refine (View.canon_cons_unit_lit _ _ _ (by decide)).trans ?_
    rfl
  isplitl [HO]
  · iexists _; isplitr; swap; · iexact HO
    ipureintro
    refine (View.read_writes_eq_canon _ _ _ (View.cover_of_tiled _ ![1024, 1024] rfl)).trans ?_
    refine (View.canon_cons_unit_lit _ _ _ (by decide)).trans ?_
    rfl
  isplitl [Hc0 Hs0 Hh0 Hr0]
  · iexists f0; isplitl [Hc0]; · iexact Hc0
    isplitl [Hs0]; · iexact Hs0
    iapply (lent_split c W (Ring.sl 3 t.val) (Ring.bk 16 t.val)).2; isplitl [Hh0]; · iexact Hh0
    iexact Hr0
  isplitl [Hc1 Hr1]
  · iexists _; isplitl [Hc1]; · iexact Hc1
    iexact Hr1
  isplitl [Hc2 Hr2]
  · iexists _; isplitl [Hc2]; · iexact Hc2
    iexact Hr2
  iexists _; iexact HQ

set_option maxHeartbeats 1000000 in
/-- A point in the middle: the block two ahead started, the point's block waited for. -/
theorem part1_middle (c : Dev nD) (W : BufOf (F := F) c projM) (t : Fin cfg0.N) (h0 : ¬atStart (grid0.coords t)) (h1 : ahead (grid0.coords t))
    (Q : Waits sig Unit) (K : BitVec 32 → sProp 𝕄) :
    iprop(flyingAt c W t.val ∗ freeAt c W (t.val + 2) ∗ owes (c : Thread nD τ) 0 Q
      ∗ (iprop((∃ f, gatesIn c W t f) ∗ flyingAt c W (t.val + 2) ∗ (∃ Q', owes (c : Thread nD τ) 0 Q')) -∗ K (BitVec.ofNat 32 ((grid0.coords t) 0).val)))
    ⊢ wp frame (wpE (defs₀ (F := F)) Variants.none c none) Set.univ (k0_part1 (grid0.coords t) arg1 harg1 arg2 harg2 arg3 harg3 arg4 harg4 arg5 harg5 projM (Memref.isWhole_whole _) arg7 harg7 arg8 harg8 arg9 harg9 arg10 harg10 arg11 harg11 arg12 harg12 dUpM (Memref.isWhole_whole _) dOutM (Memref.isWhole_whole _) accUpM (Memref.isWhole_whole _) accOutM (Memref.isWhole_whole _) castUpM (Memref.isWhole_whole _) castOutM (Memref.isWhole_whole _) ringM (Memref.isWhole_whole _) cc0_scratch5 cc0_scoped0 cc0_scoped1) K := by
  haveI : Fact (¬atStart (grid0.coords t)) := ⟨h0⟩
  haveI : Fact (ahead (grid0.coords t)) := ⟨h1⟩
  simp only [k0_part1_eq_skeleton]; unfold k0_part1_skel
  unfold gatesIn freeAt flyingAt Ring.free Ring.inflight
  iintro ⟨⟨%f0, Hf0, Hr0⟩, ⟨Hc2, ⟨%f2, Hs2, Hw2⟩⟩, HQ, Hk⟩
  ihave Hp2 := (lent_split c W (Ring.sl 3 (t.val + 2)) (Ring.bk 16 (t.val + 2))).1 $$ Hw2
  icases Hp2 with ⟨Hh2, Hr2⟩
  sl_exec (disch := first | sl_exact h0 | sl_exact h1)
  sl_step
  iapply Hk
  isplitl [Hf0 Hf0_dst Hf0_src Hr0]
  · iexists f0; isplitl [Hf0]; · iexact Hf0
    isplitl [Hf0_dst]; · iexact Hf0_dst
    iapply (lent_split c W (Ring.sl 3 t.val) (Ring.bk 16 t.val)).2; isplitl [Hf0_src]; · iexact Hf0_src
    iexact Hr0
  isplitl [Hc2 Hr2]
  · iexists _; isplitl [Hc2]; · iexact Hc2
    iexact Hr2
  iexists _; iexact HQ

set_option maxHeartbeats 1000000 in
/-- The last two points: the point's block waited for. -/
theorem part1_late (c : Dev nD) (W : BufOf (F := F) c projM) (t : Fin cfg0.N) (h0 : ¬atStart (grid0.coords t)) (h1 : ¬ahead (grid0.coords t))
    (Q : Waits sig Unit) (K : BitVec 32 → sProp 𝕄) :
    iprop(flyingAt c W t.val ∗ owes (c : Thread nD τ) 0 Q
      ∗ (iprop((∃ f, gatesIn c W t f) ∗ (∃ Q', owes (c : Thread nD τ) 0 Q')) -∗ K (BitVec.ofNat 32 ((grid0.coords t) 0).val)))
    ⊢ wp frame (wpE (defs₀ (F := F)) Variants.none c none) Set.univ (k0_part1 (grid0.coords t) arg1 harg1 arg2 harg2 arg3 harg3 arg4 harg4 arg5 harg5 projM (Memref.isWhole_whole _) arg7 harg7 arg8 harg8 arg9 harg9 arg10 harg10 arg11 harg11 arg12 harg12 dUpM (Memref.isWhole_whole _) dOutM (Memref.isWhole_whole _) accUpM (Memref.isWhole_whole _) accOutM (Memref.isWhole_whole _) castUpM (Memref.isWhole_whole _) castOutM (Memref.isWhole_whole _) ringM (Memref.isWhole_whole _) cc0_scratch5 cc0_scoped0 cc0_scoped1) K := by
  haveI : Fact (¬atStart (grid0.coords t)) := ⟨h0⟩
  haveI : Fact (¬ahead (grid0.coords t)) := ⟨h1⟩
  simp only [k0_part1_eq_skeleton]; unfold k0_part1_skel
  unfold gatesIn flyingAt Ring.inflight
  iintro ⟨⟨%f0, Hf0, Hr0⟩, HQ, Hk⟩
  sl_exec (disch := first | sl_exact h0 | sl_exact h1)
  sl_step
  iapply Hk
  isplitl [Hf0 Hf0_dst Hf0_src Hr0]
  · iexists f0; isplitl [Hf0]; · iexact Hf0
    isplitl [Hf0_dst]; · iexact Hf0_dst
    iapply (lent_split c W (Ring.sl 3 t.val) (Ring.bk 16 t.val)).2; isplitl [Hf0_src]; · iexact Hf0_src
    iexact Hr0
  iexists _; iexact HQ
end Body

set_option maxHeartbeats 1000000 in
/-- The finish before the last point does nothing. -/
theorem finish_not (c : Dev nD) (t : Fin cfg0.N) (h2 : ¬atEnd (grid0.coords t)) (K : PUnit → sProp 𝕄) :
    K ⟨⟩ ⊢ wp frame (wpE (defs₀ (F := F)) Variants.none c none) Set.univ (finish (F := F) (BitVec.ofNat 32 ((grid0.coords t) 0).val)) K := by
  unfold finish
  rw [if_neg h2]
  exact le_wp_ret (Fr := frame) (wpE := wpE (defs₀ (F := F)) Variants.none c none) (E := Set.univ) (⟨⟩ : PUnit) K
set_option maxHeartbeats 1000000 in
/-- The finish at the last point: both results hold the rounded accumulators. -/
theorem finish_last (c : Dev nD) (t : Fin cfg0.N) (h2 : atEnd (grid0.coords t)) (up : Vec F S3x512x1024 .f32) (out : Vec F S1024x1024 .f32)
    (Q : Waits sig Unit) (K : PUnit → sProp 𝕄) :
    iprop(owns (c : Thread nD τ) accUpM fullShare up ∗ owns (c : Thread nD τ) accOutM fullShare out
      ∗ (∃ d, owns (c : Thread nD τ) castUpM fullShare d) ∗ (∃ d, owns (c : Thread nD τ) castOutM fullShare d)
      ∗ (∃ d, owns (c : Thread nD τ) dUpM fullShare d) ∗ (∃ d, owns (c : Thread nD τ) dOutM fullShare d)
      ∗ semVal ((c : Thread nD τ), SemLoc.dma 23) 0 ∗ semVal ((c : Thread nD τ), SemLoc.dma 24) 0 ∗ owes (c : Thread nD τ) 0 Q
      ∗ (iprop(owns (c : Thread nD τ) accUpM fullShare up ∗ owns (c : Thread nD τ) accOutM fullShare out
        ∗ (∃ d, owns (c : Thread nD τ) castUpM fullShare d) ∗ (∃ d, owns (c : Thread nD τ) castOutM fullShare d)
        ∗ owns (c : Thread nD τ) dUpM fullShare (k0_pay2 up) ∗ owns (c : Thread nD τ) dOutM fullShare (k0_pay3 out)
        ∗ semVal ((c : Thread nD τ), SemLoc.dma 23) 0 ∗ semVal ((c : Thread nD τ), SemLoc.dma 24) 0 ∗ (∃ Q', owes (c : Thread nD τ) 0 Q')) -∗ K ⟨⟩))
    ⊢ wp frame (wpE (defs₀ (F := F)) Variants.none c none) Set.univ (finish (F := F) (BitVec.ofNat 32 ((grid0.coords t) 0).val)) K := by
  unfold finish
  rw [if_pos h2]
  unfold owns
  iintro ⟨⟨%fu, %hfu, HU⟩, ⟨%fo, %hfo, HO⟩, ⟨%dcu, %fcu, -, HCU⟩, ⟨%dco, %fco, -, HCO⟩, ⟨%ddu, %fdu, -, HDU⟩, ⟨%ddo, %fdo, -, HDO⟩, H23, H24, HQ, Hk⟩
  obtain rfl := (Memref.isWhole_whole _).eq_unread hfu; obtain rfl := (Memref.isWhole_whole _).eq_unread hfo
  sl_exec
  sl_step
  iapply Hk
  isplitl [HU]
  · iexists _; isplitr; swap; · iexact HU
    ipureintro; exact hfu
  isplitl [HO]
  · iexists _; isplitr; swap; · iexact HO
    ipureintro; exact hfo
  isplitl [HCU]
  · iexists _, _; isplitr; swap; · iexact HCU
    ipureintro; rfl
  isplitl [HCO]
  · iexists _, _; isplitr; swap; · iexact HCO
    ipureintro; rfl
  isplitl [HDU]
  · iexists _; isplitr; swap; · iexact HDU
    ipureintro
    refine (View.read_writes_whole _ _ _).trans ?_
    refine (View.read_writes_eq_canon _ _ _ (View.cover_of_tiled _ ![3, 512, 1024] rfl)).trans ?_
    refine (View.canon_cons_unit_lit _ _ _ (by decide)).trans ?_
    refine congrArg k0_pay2 ((View.readAt_eq_ld _ _ _).trans ?_)
    exact (View.ld_unit_lit _ _ (by decide)).trans (read_up up _)
  isplitl [HDO]
  · iexists _; isplitr; swap; · iexact HDO
    ipureintro
    refine (View.read_writes_whole _ _ _).trans ?_
    refine (View.read_writes_eq_canon _ _ _ (View.cover_of_tiled _ ![1024, 1024] rfl)).trans ?_
    refine (View.canon_cons_unit_lit _ _ _ (by decide)).trans ?_
    refine congrArg k0_pay3 ((View.readAt_eq_ld _ _ _).trans ?_)
    exact (View.ld_unit_lit _ _ (by decide)).trans (read_out out _)
  isplitl [H23]; · iexact H23
  isplitl [H24]; · iexact H24
  iexists _; iexact HQ
end Cert.KernelIdeal.Mid

end
-- ==== Proof.Launched.lean ====
/- The launch of the branch-merge backward kernel: what the pipeline's buffers, both accumulators and the two results the kernel
   copies out itself hold before and after every grid point, the body's obligation, and the run of the whole program. -/
module

public import proofs.«01_k».proof.Proof.Crunch
public import proofs.«01_k».proof.Proof.Ends

@[expose] public section

set_option maxRecDepth 16384

noncomputable section

namespace Cert.KernelIdeal.Mid

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-! ## The gates a point loads are its block of the projection -/

theorem shapeCast_back {s t : Shape} {α : Type} (x : s.Idx → α) (h : s.ShapeCasts t) (h' : t.ShapeCasts s) :
    shapeCast s (shapeCast t x h) h' = x := by
  funext j; unfold shapeCast
  refine congrArg x ?_
  simp [Shape.reshapeEquiv]

theorem slot_load {o : Fin 3 → Nat} (h : ∀ a, o a + S1x256x3072.size a ≤ S3x256x3072.size a) (s : Fin 3) (e : o = ![s.val, 0, 0]) (g : ringM.view.ty.Contents (Elt F)) :
    ringM.view.readAt (Elt F) (Rect.unit (s := S3x256x3072) o S1x256x3072.size h).toLoadRect g
      = shapeCast S1x256x3072 ((slot s).view.read (Elt F) g) (by decide) := by
  subst e
  exact (shapeCast_back (s := S1x256x3072) (t := S256x3072) _ (by decide) (by decide)).symm

/-- Block `t` of the gates' columns of a projection. -/
def gatesBlock (c : Dev nD) (W : BufOf (F := F) c projM) (t : ℕ) : Vec F S1x256x3072 .f32 :=
  shapeCast S1x256x3072 ((block (Ring.bk 16 t)).view.read (Elt F) W) (by decide)

theorem gates_landed (c : Dev nD) (W : BufOf (F := F) c projM) (t : Fin cfg0.N) (f : BufOf (F := F) c (slot (Ring.sl 3 t.val))) :
    gatesRead c t (landed c W (Ring.sl 3 t.val) (Ring.bk 16 t.val) f) = gatesBlock c W t.val := by
  refine (slot_load _ (Ring.sl 3 t.val) (off7_eq t) _).trans ?_
  unfold gatesBlock
  exact congrArg (fun x => shapeCast S1x256x3072 x _) (View.read_writes_whole _ _ _)

/-! ## The windows' buffers at a point -/

abbrev win0 (t : Fin cfg0.N) : Memref sig .tc .vmem S256x1024 .bf16 := win0_0.stage (cfg0.slots t 0)
abbrev win1 (t : Fin cfg0.N) : Memref sig .tc .vmem S256x1024 .bf16 := win0_1.stage (cfg0.slots t 1)
abbrev win2 (t : Fin cfg0.N) : Memref sig .tc .vmem S256x512 .bf16 := win0_2.stage (cfg0.slots t 2)
abbrev win3 (t : Fin cfg0.N) : Memref sig .tc .vmem S256x512 .bf16 := win0_3.stage (cfg0.slots t 3)
abbrev win4 (t : Fin cfg0.N) : Memref sig .tc .vmem S256x512 .bf16 := win0_4.stage (cfg0.slots t 4)
abbrev win5 (t : Fin cfg0.N) : Memref sig .tc .vmem S3x512x1024 .bf16 := win0_5.stage (cfg0.slots t 5)
abbrev win6 (t : Fin cfg0.N) : Memref sig .tc .vmem S1024x1024 .bf16 := win0_6.stage (cfg0.slots t 6)
abbrev win7 (t : Fin cfg0.N) : Memref sig .tc .vmem S256x3072 .bf16 := win0_7.stage (cfg0.slots t 7)
abbrev win8 (t : Fin cfg0.N) : Memref sig .tc .vmem S256x512 .f32 := win0_8.stage (cfg0.slots t 8)
abbrev win9 (t : Fin cfg0.N) : Memref sig .tc .vmem S256x512 .f32 := win0_9.stage (cfg0.slots t 9)
abbrev win10 (t : Fin cfg0.N) : Memref sig .tc .vmem S256x512 .f32 := win0_10.stage (cfg0.slots t 10)
theorem whole0 (t : Fin cfg0.N) : (win0 t).IsWhole := hstage0_0 ((cfg0.slots t 0).cast nbuf0_0)
theorem whole1 (t : Fin cfg0.N) : (win1 t).IsWhole := hstage0_1 ((cfg0.slots t 1).cast nbuf0_1)
theorem whole2 (t : Fin cfg0.N) : (win2 t).IsWhole := hstage0_2 ((cfg0.slots t 2).cast nbuf0_2)
theorem whole3 (t : Fin cfg0.N) : (win3 t).IsWhole := hstage0_3 ((cfg0.slots t 3).cast nbuf0_3)
theorem whole4 (t : Fin cfg0.N) : (win4 t).IsWhole := hstage0_4 ((cfg0.slots t 4).cast nbuf0_4)
theorem whole5 (t : Fin cfg0.N) : (win5 t).IsWhole := hstage0_5 ((cfg0.slots t 5).cast nbuf0_5)
theorem whole6 (t : Fin cfg0.N) : (win6 t).IsWhole := hstage0_6 ((cfg0.slots t 6).cast nbuf0_6)
theorem whole7 (t : Fin cfg0.N) : (win7 t).IsWhole := hstage0_7 ((cfg0.slots t 7).cast nbuf0_7)
theorem whole8 (t : Fin cfg0.N) : (win8 t).IsWhole := hstage0_8 ((cfg0.slots t 8).cast nbuf0_8)
theorem whole9 (t : Fin cfg0.N) : (win9 t).IsWhole := hstage0_9 ((cfg0.slots t 9).cast nbuf0_9)
theorem whole10 (t : Fin cfg0.N) : (win10 t).IsWhole := hstage0_10 ((cfg0.slots t 10).cast nbuf0_10)

variable (m : (ℓ : Loc nD τ sig) → Buf (Elt F) ℓ) (ρ : Dev nD → PrngReg)

/-! ## What the point's blocks are, and what they leave -/

section Blocks
variable (c : Dev nD) (t : Fin cfg0.N)
abbrev bDOut : Vec F S256x1024 .bf16 := iblk m c 0 t
abbrev bMerged : Vec F S256x1024 .bf16 := iblk m c 1 t
abbrev bYa : Vec F S256x512 .bf16 := iblk m c 2 t
abbrev bYb : Vec F S256x512 .bf16 := iblk m c 3 t
abbrev bYm : Vec F S256x512 .bf16 := iblk m c 4 t
abbrev bWUp : Vec F S3x512x1024 .bf16 := iblk m c 5 t
abbrev bWOut : Vec F S1024x1024 .bf16 := iblk m c 6 t
abbrev bGates : Vec F S1x256x3072 .f32 := gatesBlock c (V m c main_arg4) t.val
end Blocks

/-- The up-projections' accumulated gradient before point `k`. -/
def upAt (c : Dev nD) : ℕ → Vec F S3x512x1024 .f32
  | 0 => k0_pay4
  | k + 1 => if h : k < cfg0.N then
      stepUp (bDOut m c ⟨k, h⟩) (bYa m c ⟨k, h⟩) (bYb m c ⟨k, h⟩) (bYm m c ⟨k, h⟩) (bWOut m c ⟨k, h⟩) (bGates m c ⟨k, h⟩) (upAt c k)
    else upAt c k
/-- The out-projection's accumulated gradient before point `k`. -/
def outAt (c : Dev nD) : ℕ → Vec F S1024x1024 .f32
  | 0 => k0_pay5
  | k + 1 => if h : k < cfg0.N then stepOut (bDOut m c ⟨k, h⟩) (bMerged m c ⟨k, h⟩) (outAt c k) else outAt c k

theorem upAt_succ (c : Dev nD) (t : Fin cfg0.N) :
    upAt m c (t.val + 1) = stepUp (bDOut m c t) (bYa m c t) (bYb m c t) (bYm m c t) (bWOut m c t) (bGates m c t) (upAt m c t.val) := by
  rw [upAt, dif_pos t.isLt]
theorem outAt_succ (c : Dev nD) (t : Fin cfg0.N) : outAt m c (t.val + 1) = stepOut (bDOut m c t) (bMerged m c t) (outAt m c t.val) := by
  rw [outAt, dif_pos t.isLt]

/-- The two results the kernel copies out itself, after the last point. -/
abbrev dUpEnd (c : Dev nD) : Vec F S3x512x1024 .bf16 := k0_pay2 (upAt m c 16)
abbrev dOutEnd (c : Dev nD) : Vec F S1024x1024 .bf16 := k0_pay3 (outAt m c 16)

/-! ## The proof data -/

/-- The accumulators before point `k`: at anything before the first, at their named values afterwards. -/
def accs (c : Dev nD) (k : ℕ) : sProp 𝕄 :=
  iprop((∃ d, ⌜k ≠ 0 → d = upAt m c k⌝ ∗ owns (c : Thread nD τ) accUpM fullShare d) ∗ (∃ d, ⌜k ≠ 0 → d = outAt m c k⌝ ∗ owns (c : Thread nD τ) accOutM fullShare d))
/-- What only the finish touches: the rounded accumulators' buffers, the generator register, the two cells of the final copies, and
    the two results, at their entry contents until the last point. -/
def side (c : Dev nD) (k : ℕ) : sProp 𝕄 :=
  iprop((∃ d, owns (c : Thread nD τ) castUpM fullShare d) ∗ (∃ d, owns (c : Thread nD τ) castOutM fullShare d) ∗ (∃ r, prngReg c r)
    ∗ semVal ((c : Thread nD τ), SemLoc.dma 23) 0 ∗ semVal ((c : Thread nD τ), SemLoc.dma 24) 0
    ∗ owns (c : Thread nD τ) dUpM fullShare (if k = 16 then dUpEnd m c else V m c main_v33_4)
    ∗ owns (c : Thread nD τ) dOutM fullShare (if k = 16 then dOutEnd m c else V m c main_v33_5))
/-- The invariant before point `k`. -/
def inv (c : Dev nD) (k : ℕ) : sProp 𝕄 := iprop(accs m c k ∗ side m c k ∗ ringAt c (V m c main_arg4) k)

/-- The proof data of the pipeline on core `c`: every input's buffer left at its block, every output's at the named gradient. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dGates (bDOut m c t) (bYa m c t) (bYb m c t) (bYm m c t) (bWUp m c t) (bWOut m c t) (bGates m c t)
    | ⟨8, _⟩ => dBranchA (bDOut m c t) (bWUp m c t) (bWOut m c t) (bGates m c t)
    | ⟨9, _⟩ => dBranchB (bDOut m c t) (bWUp m c t) (bWOut m c t) (bGates m c t)
    | ⟨10, _⟩ => dBranchM (bDOut m c t) (bWUp m c t) (bWOut m c t) (bGates m c t)
  Φ t := inv m c t.val
  q _ := fullShare
  owed _ := 0

theorem A_eq (c : Dev nD) (w : Fin cfg0.W) : (dats m 0 c).A w = V m c (Pipeline.arrRef spec0 w) := by dsimp only [dats]
theorem inv_castSucc (c : Dev nD) (t : Fin cfg0.N) : (dats m 0 c).Φ t.castSucc = inv m c t.val := by
  dsimp only [dats]; simp only [Fin.coe_castSucc]
theorem inv_succ (c : Dev nD) (t : Fin cfg0.N) : (dats m 0 c).Φ t.succ = inv m c (t.val + 1) := by
  dsimp only [dats]; simp only [Fin.val_succ]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = dGates (bDOut m c t) (bYa m c t) (bYb m c t) (bYm m c t) (bWUp m c t) (bWOut m c t) (bGates m c t) := by dsimp only [dats]
theorem after8 (c : Dev nD) (t : Fin cfg0.N) : (dats m 0 c).after 8 t = dBranchA (bDOut m c t) (bWUp m c t) (bWOut m c t) (bGates m c t) := by dsimp only [dats]
theorem after9 (c : Dev nD) (t : Fin cfg0.N) : (dats m 0 c).after 9 t = dBranchB (bDOut m c t) (bWUp m c t) (bWOut m c t) (bGates m c t) := by dsimp only [dats]
theorem after10 (c : Dev nD) (t : Fin cfg0.N) : (dats m 0 c).after 10 t = dBranchM (bDOut m c t) (bWUp m c t) (bWOut m c t) (bGates m c t) := by dsimp only [dats]

/-- An input's buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)

/-! ## The body's obligation -/

/-- The inputs' buffers at their blocks; the outputs' at anything, and at what the point leaves. -/
abbrev ins (c : Dev nD) (t : Fin cfg0.N) : sProp 𝕄 := inputsAre (win0 t) (win1 t) (win2 t) (win3 t) (win4 t) (win5 t) (win6 t) c (bDOut m c t) (bMerged m c t) (bYa m c t) (bYb m c t) (bYm m c t) (bWUp m c t) (bWOut m c t)
abbrev outsAny (c : Dev nD) (t : Fin cfg0.N) : sProp 𝕄 := outputsAny (win7 t) (win8 t) (win9 t) (win10 t) c
abbrev outsAre (c : Dev nD) (t : Fin cfg0.N) : sProp 𝕄 :=
  outputsAre (win7 t) (win8 t) (win9 t) (win10 t) c (bDOut m c t) (bYa m c t) (bYb m c t) (bYm m c t) (bWUp m c t) (bWOut m c t) (bGates m c t)

/-- The point's arithmetic, from its gates landed: the slot free again, the accumulators one step on. -/
theorem point_run (c : Dev nD) (t : Fin cfg0.N) (K : PUnit → sProp 𝕄) :
    iprop(ins m c t ∗ outsAny c t ∗ owns (c : Thread nD τ) accUpM fullShare (upAt m c t.val) ∗ owns (c : Thread nD τ) accOutM fullShare (outAt m c t.val)
      ∗ (∃ f, gatesIn c (V m c main_arg4) t f)
      ∗ (iprop(ins m c t ∗ outsAre m c t ∗ owns (c : Thread nD τ) accUpM fullShare (upAt m c (t.val + 1)) ∗ owns (c : Thread nD τ) accOutM fullShare (outAt m c (t.val + 1))
          ∗ freeAt c (V m c main_arg4) t.val) -∗ K ⟨⟩))
    ⊢ wp frame (wpE (defs₀ (F := F)) Variants.none c none) Set.univ (crunch (grid0.coords t) (win0 t) (whole0 t) (win1 t) (whole1 t) (win2 t) (whole2 t) (win3 t) (whole3 t) (win4 t) (whole4 t) (win5 t) (whole5 t) (win6 t) (whole6 t) (win7 t) (whole7 t) (win8 t) (whole8 t) (win9 t) (whole9 t) (win10 t) (whole10 t)) K := by
  rw [upAt_succ, outAt_succ]
  unfold gatesIn freeAt Ring.free
  iintro ⟨Hi, Ho, HU, HO, ⟨%f, Hc, Hs, Hw⟩, Hk⟩
  iapply (crunch_run (win0 t) (whole0 t) (win1 t) (whole1 t) (win2 t) (whole2 t) (win3 t) (whole3 t) (win4 t) (whole4 t) (win5 t) (whole5 t) (win6 t) (whole6 t) (win7 t) (whole7 t) (win8 t) (whole8 t) (win9 t) (whole9 t) (win10 t) (whole10 t) c t (bDOut m c t) (bMerged m c t) (bYa m c t) (bYb m c t) (bYm m c t) (bWUp m c t) (bWOut m c t) (upAt m c t.val) (outAt m c t.val) (landed c (V m c main_arg4) (Ring.sl 3 t.val) (Ring.bk 16 t.val) f) K)
  rw [gates_landed]
  isplitl [Hi]; · iexact Hi
  isplitl [Ho]; · iexact Ho
  isplitl [HU]; · iexact HU
  isplitl [HO]; · iexact HO
  isplitl [Hs]; · iexact Hs
  iintro ⟨Hi, Ho, HU, HO, Hs⟩
  iapply Hk
  isplitl [Hi]; · iexact Hi
  isplitl [Ho]; · iexact Ho
  isplitl [HU]; · iexact HU
  isplitl [HO]; · iexact HO
  isplitl [Hc]; · iexact Hc
  iexists _; isplitl [Hs]; · iexact Hs
  iexact Hw

/-- What a point leaves: the invariant before the next, nothing more owed, the buffers at their values. -/
abbrev leaves (c : Dev nD) (t : Fin cfg0.N) : sProp 𝕄 := iprop(inv m c (t.val + 1) ∗ (∃ Q, owes (c : Thread nD τ) 0 Q) ∗ ins m c t ∗ outsAre m c t)

/-- The rest of a point before the last, once its gates have landed; `R` is what the ring holds besides the point's slot. -/
theorem rest_run (c : Dev nD) (t : Fin cfg0.N) (h2 : ¬atEnd (grid0.coords t)) (R : sProp 𝕄)
    (hR : iprop(R ∗ freeAt c (V m c main_arg4) t.val) ⊢ ringAt c (V m c main_arg4) (t.val + 1)) :
    iprop(ins m c t ∗ outsAny c t ∗ owns (c : Thread nD τ) accUpM fullShare (upAt m c t.val) ∗ owns (c : Thread nD τ) accOutM fullShare (outAt m c t.val)
      ∗ (∃ f, gatesIn c (V m c main_arg4) t f) ∗ (∃ Q, owes (c : Thread nD τ) 0 Q) ∗ side m c t.val ∗ R)
    ⊢ wp frame (wpE (defs₀ (F := F)) Variants.none c none) Set.univ
        (crunch (grid0.coords t) (win0 t) (whole0 t) (win1 t) (whole1 t) (win2 t) (whole2 t) (win3 t) (whole3 t) (win4 t) (whole4 t) (win5 t) (whole5 t) (win6 t) (whole6 t) (win7 t) (whole7 t) (win8 t) (whole8 t) (win9 t) (whole9 t) (win10 t) (whole10 t) >>= fun _ => finish (F := F) (BitVec.ofNat 32 ((grid0.coords t) 0).val)) (fun _ => leaves m c t) := by
  have e2 : ¬ t.val = 15 := fun h => h2 ((atEnd_iff t).2 h)
  have hN : t.val < 16 := lt_of_lt_of_eq t.isLt (show cfg0.N = 16 from N_0)
  rw [wp_bind]
  iintro ⟨Hi, Ho, HU, HO, Hg, HQ, Hside, HR⟩
  iapply (point_run m c t _)
  isplitl [Hi]; · iexact Hi
  isplitl [Ho]; · iexact Ho
  isplitl [HU]; · iexact HU
  isplitl [HO]; · iexact HO
  isplitl [Hg]; · iexact Hg
  iintro ⟨Hi, Ho, HU, HO, Hf⟩
  iapply (finish_not c t h2 _)
  unfold leaves inv accs
  isplitl [HU HO Hside HR Hf]
  · isplitl [HU HO]
    · isplitl [HU]
      · iexists _; isplitr; swap; · iexact HU
        ipureintro; exact fun _ => rfl
      iexists _; isplitr; swap; · iexact HO
      ipureintro; exact fun _ => rfl
    isplitl [Hside]
    · unfold side
      rw [if_neg (show ¬ t.val = 16 by omega), if_neg (show ¬ t.val + 1 = 16 by omega), if_neg (show ¬ t.val = 16 by omega), if_neg (show ¬ t.val + 1 = 16 by omega)]
      iexact Hside
    iapply hR
    isplitl [HR]; · iexact HR
    iexact Hf
  isplitl [HQ]; · iexact HQ
  isplitl [Hi]; · iexact Hi
  iexact Ho

/-- The rest of the last point. -/
theorem rest_last_run (c : Dev nD) (t : Fin cfg0.N) (h2 : atEnd (grid0.coords t)) (R : sProp 𝕄)
    (hR : iprop(R ∗ freeAt c (V m c main_arg4) t.val) ⊢ ringAt c (V m c main_arg4) (t.val + 1)) :
    iprop(ins m c t ∗ outsAny c t ∗ owns (c : Thread nD τ) accUpM fullShare (upAt m c t.val) ∗ owns (c : Thread nD τ) accOutM fullShare (outAt m c t.val)
      ∗ (∃ f, gatesIn c (V m c main_arg4) t f) ∗ (∃ Q, owes (c : Thread nD τ) 0 Q) ∗ side m c t.val ∗ R)
    ⊢ wp frame (wpE (defs₀ (F := F)) Variants.none c none) Set.univ
        (crunch (grid0.coords t) (win0 t) (whole0 t) (win1 t) (whole1 t) (win2 t) (whole2 t) (win3 t) (whole3 t) (win4 t) (whole4 t) (win5 t) (whole5 t) (win6 t) (whole6 t) (win7 t) (whole7 t) (win8 t) (whole8 t) (win9 t) (whole9 t) (win10 t) (whole10 t) >>= fun _ => finish (F := F) (BitVec.ofNat 32 ((grid0.coords t) 0).val)) (fun _ => leaves m c t) := by
  have e2 : t.val + 1 = 16 := by have := (atEnd_iff t).1 h2; omega
  rw [wp_bind]
  unfold side
  iintro ⟨Hi, Ho, HU, HO, Hg, ⟨%Q, HQ⟩, ⟨HCU, HCO, Hp, H23, H24, HDU, HDO⟩, HR⟩
  iapply (point_run m c t _)
  isplitl [Hi]; · iexact Hi
  isplitl [Ho]; · iexact Ho
  isplitl [HU]; · iexact HU
  isplitl [HO]; · iexact HO
  isplitl [Hg]; · iexact Hg
  iintro ⟨Hi, Ho, HU, HO, Hf⟩
  iapply (finish_last c t h2 _ _ Q _)
  isplitl [HU]; · iexact HU
  isplitl [HO]; · iexact HO
  isplitl [HCU]; · iexact HCU
  isplitl [HCO]; · iexact HCO
  isplitl [HDU]; · iexists _; iexact HDU
  isplitl [HDO]; · iexists _; iexact HDO
  isplitl [H23]; · iexact H23
  isplitl [H24]; · iexact H24
  isplitl [HQ]; · iexact HQ
  iintro ⟨HU, HO, HCU, HCO, HDU, HDO, H23, H24, HQ⟩
  unfold leaves inv accs side
  rw [if_pos e2, if_pos e2]
  isplitl [HU HO HCU HCO Hp H23 H24 HDU HDO HR Hf]
  · isplitl [HU HO]
    · isplitl [HU]
      · iexists _; isplitr; swap; · iexact HU
        ipureintro; exact fun _ => rfl
      iexists _; isplitr; swap; · iexact HO
      ipureintro; exact fun _ => rfl
    isplitl [HCU HCO Hp H23 H24 HDU HDO]
    · isplitl [HCU]; · iexact HCU
      isplitl [HCO]; · iexact HCO
      isplitl [Hp]; · iexact Hp
      isplitl [H23]; · iexact H23
      isplitl [H24]; · iexact H24
      isplitl [HDU]
      · rw [e2]; iexact HDU
      rw [e2]; iexact HDO
    iapply hR
    isplitl [HR]; · iexact HR
    iexact Hf
  isplitl [HQ]; · iexact HQ
  isplitl [Hi]; · iexact Hi
  iexact Ho

/-- A point, from what it is handed. -/
theorem body_run (c : Dev nD) (t : Fin cfg0.N) :
    iprop(inv m c t.val ∗ (∃ Q, owes (c : Thread nD τ) 0 Q) ∗ ins m c t ∗ outsAny c t)
    ⊢ wp frame (wpE (defs₀ (F := F)) Variants.none c none) Set.univ (bodyAt0 t) (fun _ => leaves m c t) := by
  have hN : t.val < 16 := lt_of_lt_of_eq t.isLt (show cfg0.N = 16 from N_0)
  unfold bodyAt0
  rw [body_eq, wp_bind]
  unfold inv accs
  by_cases h0 : t.val = 0
  · have h1 : ahead (grid0.coords t) := (ahead_iff t).2 (by omega)
    have h2 : ¬atEnd (grid0.coords t) := fun h => by have := (atEnd_iff t).1 h; omega
    unfold ringAt; rw [if_pos h0, Ring.At₀_eq3' _ _ _ t.val h0 (by decide : 3 ≤ 16)]
    iintro ⟨⟨⟨⟨%du, -, HU⟩, ⟨%do', -, HO⟩⟩, Hside, ⟨-, Hf0, Hf1, Hf2⟩⟩, ⟨%Q, HQ⟩, Hi, Ho⟩
    iapply (part1_first (win0 t) (whole0 t) (win1 t) (whole1 t) (win2 t) (whole2 t) (win3 t) (whole3 t) (win4 t) (whole4 t) (win5 t) (whole5 t) (win6 t) (whole6 t) (win7 t) (whole7 t) (win8 t) (whole8 t) (win9 t) (whole9 t) (win10 t) (whole10 t) c (V m c main_arg4) t ((atStart_iff t).2 h0) h1 Q _)
    isplitl [HU]; · iexists _; iexact HU
    isplitl [HO]; · iexists _; iexact HO
    isplitl [Hf0]; · iexact Hf0
    isplitl [Hf1]; · iexact Hf1
    isplitl [Hf2]; · iexact Hf2
    isplitl [HQ]; · iexact HQ
    iintro ⟨HU, HO, Hg, Hf1, Hf2, HQ⟩
    iapply (rest_run m c t h2 iprop(flyingAt c (V m c main_arg4) (t.val + 1) ∗ flyingAt c (V m c main_arg4) (t.val + 2)) (by
      unfold ringAt; rw [if_neg (by omega), Ring.At3_one' _ _ _ _ t.val h0 (by decide : 3 ≤ 16)]
      iintro ⟨⟨Ha, Hb⟩, Hc⟩
      iapply (Ring.with_homes (Idealize.SL.BI.Entails.refl _))
      isplitl [Ha]; · iexact Ha
      isplitl [Hb]; · iexact Hb
      iexact Hc))
    isplitl [Hi]; · iexact Hi
    isplitl [Ho]; · iexact Ho
    isplitl [HU]
    · rw [show upAt m c t.val = k0_pay4 by rw [h0]; rfl]; iexact HU
    isplitl [HO]
    · rw [show outAt m c t.val = k0_pay5 by rw [h0]; rfl]; iexact HO
    isplitl [Hg]; · iexact Hg
    isplitl [HQ]; · iexact HQ
    isplitl [Hside]; · iexact Hside
    isplitl [Hf1]; · iexact Hf1
    iexact Hf2
  have n0 : ¬atStart (grid0.coords t) := fun h => h0 ((atStart_iff t).1 h)
  by_cases h1 : t.val < 14
  · have h2 : ¬atEnd (grid0.coords t) := fun h => by have := (atEnd_iff t).1 h; omega
    have hlt : t.val + 2 < 16 := by omega
    unfold ringAt; rw [if_neg h0, Ring.At3_here _ _ _ _ t.val hlt]
    iintro ⟨⟨⟨⟨%du, %hu, HU⟩, ⟨%do', %ho, HO⟩⟩, Hside, ⟨-, Hf0, Hf1, Hf2⟩⟩, ⟨%Q, HQ⟩, Hi, Ho⟩
    obtain rfl := hu h0; obtain rfl := ho h0
    iapply (part1_middle (win0 t) (whole0 t) (win1 t) (whole1 t) (win2 t) (whole2 t) (win3 t) (whole3 t) (win4 t) (whole4 t) (win5 t) (whole5 t) (win6 t) (whole6 t) (win7 t) (whole7 t) (win8 t) (whole8 t) (win9 t) (whole9 t) (win10 t) (whole10 t) c (V m c main_arg4) t n0 ((ahead_iff t).2 h1) Q _)
    isplitl [Hf0]; · iexact Hf0
    isplitl [Hf2]; · iexact Hf2
    isplitl [HQ]; · iexact HQ
    iintro ⟨Hg, Hf2, HQ⟩
    iapply (rest_run m c t h2 iprop(flyingAt c (V m c main_arg4) (t.val + 1) ∗ flyingAt c (V m c main_arg4) (t.val + 2)) (by
      unfold ringAt; rw [if_neg (by omega), Ring.At3_next _ _ _ _ t.val hlt, Ring.slotAt3_next0 _ _ _ t.val (by omega), Ring.slotAt3_next1 _ _ _ t.val hlt]
      iintro ⟨⟨Ha, Hb⟩, Hc⟩
      iapply (Ring.with_homes (Idealize.SL.BI.Entails.refl _))
      isplitl [Ha]; · iexact Ha
      isplitl [Hb]; · iexact Hb
      iexact Hc))
    isplitl [Hi]; · iexact Hi
    isplitl [Ho]; · iexact Ho
    isplitl [HU]; · iexact HU
    isplitl [HO]; · iexact HO
    isplitl [Hg]; · iexact Hg
    isplitl [HQ]; · iexact HQ
    isplitl [Hside]; · iexact Hside
    isplitl [Hf1]; · iexact Hf1
    iexact Hf2
  have n1 : ¬ahead (grid0.coords t) := fun h => h1 ((ahead_iff t).1 h)
  have hge : 16 ≤ t.val + 2 := by omega
  have hback : iprop(iprop(Ring.slotAt 2 (cellZero c) (slotFree c (V m c main_arg4)) (slotFlying c (V m c main_arg4)) t.val 1 ∗ freeAt c (V m c main_arg4) (t.val + 2)) ∗ freeAt c (V m c main_arg4) t.val)
      ⊢ ringAt c (V m c main_arg4) (t.val + 1) := by
    unfold ringAt; rw [if_neg (by omega), Ring.At3_next_tail _ _ _ _ t.val hge hN, Ring.slotAt3_tail_role _ _ _ t.val]
    iintro ⟨⟨Ha, Hb⟩, Hc⟩
    iapply (Ring.with_homes (Idealize.SL.BI.Entails.refl _))
    isplitl [Ha]; · iexact Ha
    isplitl [Hb]; · iexact Hb
    iexact Hc
  unfold ringAt; rw [if_neg h0, Ring.At3_here_tail _ _ _ _ t.val hN]
  iintro ⟨⟨⟨⟨%du, %hu, HU⟩, ⟨%do', %ho, HO⟩⟩, Hside, ⟨-, Hf0, Hf1, Hf2⟩⟩, ⟨%Q, HQ⟩, Hi, Ho⟩
  obtain rfl := hu h0; obtain rfl := ho h0
  iapply (part1_late (win0 t) (whole0 t) (win1 t) (whole1 t) (win2 t) (whole2 t) (win3 t) (whole3 t) (win4 t) (whole4 t) (win5 t) (whole5 t) (win6 t) (whole6 t) (win7 t) (whole7 t) (win8 t) (whole8 t) (win9 t) (whole9 t) (win10 t) (whole10 t) c (V m c main_arg4) t n0 n1 Q _)
  isplitl [Hf0]; · iexact Hf0
  isplitl [HQ]; · iexact HQ
  iintro ⟨Hg, HQ⟩
  by_cases h2 : atEnd (grid0.coords t)
  · iapply (rest_last_run m c t h2 _ hback)
    isplitl [Hi]; · iexact Hi
    isplitl [Ho]; · iexact Ho
    isplitl [HU]; · iexact HU
    isplitl [HO]; · iexact HO
    isplitl [Hg]; · iexact Hg
    isplitl [HQ]; · iexact HQ
    isplitl [Hside]; · iexact Hside
    isplitl [Hf1]; · iexact Hf1
    iexact Hf2
  · iapply (rest_run m c t h2 _ hback)
    isplitl [Hi]; · iexact Hi
    isplitl [Ho]; · iexact Ho
    isplitl [HU]; · iexact HU
    isplitl [HO]; · iexact HO
    isplitl [Hg]; · iexact Hg
    isplitl [HQ]; · iexact HQ
    isplitl [Hside]; · iexact Hside
    isplitl [Hf1]; · iexact Hf1
    iexact Hf2

/-- What the pipeline calls the body with, window by window, and what it expects back. -/
def bodyPre (c : Dev nD) (t : Fin cfg0.N) : sProp 𝕄 :=
  iprop((dats m 0 c).Φ t.castSucc ∗ (dats m 0 c).owesAt () t.castSucc
    ∗ (∃ d, owns (c : Thread nD τ) (win0 t) fullShare ((dats m 0 c).before 0 t d))
    ∗ (∃ d, owns (c : Thread nD τ) (win1 t) fullShare ((dats m 0 c).before 1 t d))
    ∗ (∃ d, owns (c : Thread nD τ) (win2 t) fullShare ((dats m 0 c).before 2 t d))
    ∗ (∃ d, owns (c : Thread nD τ) (win3 t) fullShare ((dats m 0 c).before 3 t d))
    ∗ (∃ d, owns (c : Thread nD τ) (win4 t) fullShare ((dats m 0 c).before 4 t d))
    ∗ (∃ d, owns (c : Thread nD τ) (win5 t) fullShare ((dats m 0 c).before 5 t d))
    ∗ (∃ d, owns (c : Thread nD τ) (win6 t) fullShare ((dats m 0 c).before 6 t d))
    ∗ (∃ d, owns (c : Thread nD τ) (win7 t) fullShare ((dats m 0 c).before 7 t d))
    ∗ (∃ d, owns (c : Thread nD τ) (win8 t) fullShare ((dats m 0 c).before 8 t d))
    ∗ (∃ d, owns (c : Thread nD τ) (win9 t) fullShare ((dats m 0 c).before 9 t d))
    ∗ (∃ d, owns (c : Thread nD τ) (win10 t) fullShare ((dats m 0 c).before 10 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem pre_in (c : Dev nD) (t : Fin cfg0.N) : bodyPre m c t ⊢ iprop(inv m c t.val ∗ (∃ Q, owes (c : Thread nD τ) 0 Q) ∗ ins m c t ∗ outsAny c t) := by
  unfold bodyPre
  simp only [before0, before1, before2, before3, before4, before5, before6]
  rw [inv_castSucc m c t]
  unfold Dat.owesAt Pipeline.owesWithin
  rw [show (dats m 0 c).owed t.castSucc = 0 from rfl]
  iintro ⟨HI, ⟨%Q, -, HQ⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  isplitl [HI]; · iexact HI
  isplitl [HQ]; · iexists _; iexact HQ
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexists _; iexact H7
  isplitl [H8]; · iexists _; iexact H8
  isplitl [H9]; · iexists _; iexact H9
  iexists _; iexact H10
theorem post_out (c : Dev nD) (t : Fin cfg0.N) : leaves m c t ⊢ bodyPost m c t := by
  unfold bodyPost
  rw [show (dats m 0 c).leavesExact 0 t = owns (c : Thread nD τ) (win0 t) fullShare ((dats m 0 c).after 0 t) from by
    unfold Dat.leavesExact; rw [show cfg0.idle 0 (grid0.coords t) = false from rfl], after0]
  rw [show (dats m 0 c).leavesExact 1 t = owns (c : Thread nD τ) (win1 t) fullShare ((dats m 0 c).after 1 t) from by
    unfold Dat.leavesExact; rw [show cfg0.idle 1 (grid0.coords t) = false from rfl], after1]
  rw [show (dats m 0 c).leavesExact 2 t = owns (c : Thread nD τ) (win2 t) fullShare ((dats m 0 c).after 2 t) from by
    unfold Dat.leavesExact; rw [show cfg0.idle 2 (grid0.coords t) = false from rfl], after2]
  rw [show (dats m 0 c).leavesExact 3 t = owns (c : Thread nD τ) (win3 t) fullShare ((dats m 0 c).after 3 t) from by
    unfold Dat.leavesExact; rw [show cfg0.idle 3 (grid0.coords t) = false from rfl], after3]
  rw [show (dats m 0 c).leavesExact 4 t = owns (c : Thread nD τ) (win4 t) fullShare ((dats m 0 c).after 4 t) from by
    unfold Dat.leavesExact; rw [show cfg0.idle 4 (grid0.coords t) = false from rfl], after4]
  rw [show (dats m 0 c).leavesExact 5 t = owns (c : Thread nD τ) (win5 t) fullShare ((dats m 0 c).after 5 t) from by
    unfold Dat.leavesExact; rw [show cfg0.idle 5 (grid0.coords t) = false from rfl], after5]
  rw [show (dats m 0 c).leavesExact 6 t = owns (c : Thread nD τ) (win6 t) fullShare ((dats m 0 c).after 6 t) from by
    unfold Dat.leavesExact; rw [show cfg0.idle 6 (grid0.coords t) = false from rfl], after6]
  rw [show (dats m 0 c).leavesExact 7 t = owns (c : Thread nD τ) (win7 t) fullShare ((dats m 0 c).after 7 t) from by
    unfold Dat.leavesExact; rw [show cfg0.idle 7 (grid0.coords t) = false from rfl], after7]
  rw [show (dats m 0 c).leavesExact 8 t = owns (c : Thread nD τ) (win8 t) fullShare ((dats m 0 c).after 8 t) from by
    unfold Dat.leavesExact; rw [show cfg0.idle 8 (grid0.coords t) = false from rfl], after8]
  rw [show (dats m 0 c).leavesExact 9 t = owns (c : Thread nD τ) (win9 t) fullShare ((dats m 0 c).after 9 t) from by
    unfold Dat.leavesExact; rw [show cfg0.idle 9 (grid0.coords t) = false from rfl], after9]
  rw [show (dats m 0 c).leavesExact 10 t = owns (c : Thread nD τ) (win10 t) fullShare ((dats m 0 c).after 10 t) from by
    unfold Dat.leavesExact; rw [show cfg0.idle 10 (grid0.coords t) = false from rfl], after10]
  rw [inv_succ m c t]
  unfold Dat.owesAt Pipeline.owesWithin
  rw [show (dats m 0 c).owed t.succ = 0 from rfl]
  iintro ⟨HI, ⟨%Q, HQ⟩, ⟨H0, H1, H2, H3, H4, H5, H6⟩, ⟨H7, H8, H9, H10⟩⟩
  isplitl [HI]; · iexact HI
  isplitl [HQ]
  · iexists Q; isplitr; · ipureintro; exact fun _ _ => Or.inl trivial
    iexact HQ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) : defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (P := bodyPre m c t) (Q := fun _ => bodyPost m c t) ((pre_in m c t).trans ((body_run m c t).trans ((wp frame (wpE (defs₀ (F := F)) Variants.none c none) Set.univ (bodyAt0 t)).mono fun _ => post_out m c t))) rfl .rfl fun _ => .rfl

/-! ## The launch -/

/-- The kernel's own semaphore cells: the ring's three and the final copies' two. -/
abbrev osem : Fin 5 → SemLoc sig := fun j => (![SemLoc.dma 20, SemLoc.dma 21, SemLoc.dma 22, SemLoc.dma 23, SemLoc.dma 24] : Fin 5 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 20) 0 ∗ semVal ((c : Thread nD τ), SemLoc.dma 21) 0 ∗ semVal ((c : Thread nD τ), SemLoc.dma 22) 0
          ∗ semVal ((c : Thread nD τ), SemLoc.dma 23) 0 ∗ semVal ((c : Thread nD τ), SemLoc.dma 24) 0) := by
  rw [Pipeline.ownSems0_eq_of_list c osem [0, 1, 2, 3, 4] (by decide) (by decide)]; rfl
/-- The projection, read by the ring; the two results the kernel copies out itself. -/
def readRefs : Finset (Ref sig .tc) := {main_arg4}
def copiedRefs : Finset (Ref sig .tc) := {main_v33_4, main_v33_5}
theorem readRefs_sub : readRefs ⊆ Pipeline.restRefs sig spec0 := by decide
theorem copiedRefs_sub : copiedRefs ⊆ Pipeline.restRefs sig spec0 \ readRefs := by decide

/-- The buffers after the last point, where the kernel itself copied. -/
def copied (c : Dev nD) : (b : Ref sig .tc) → Buf (Elt F) ((c : Thread nD τ).loc b) :=
  Function.update (Function.update (V m c) main_v33_4 (dUpEnd m c)) main_v33_5 (dOutEnd m c)
theorem copied_up (c : Dev nD) : copied m c main_v33_4 = dUpEnd m c := by
  unfold copied; rw [Function.update_of_ne (by decide), Function.update_self]
theorem copied_out (c : Dev nD) : copied m c main_v33_5 = dOutEnd m c := by
  unfold copied; rw [Function.update_self]

theorem routed_pair (c : Dev nD) (G : (b : Ref sig .tc) → Buf (Elt F) ((c : Thread nD τ).loc b)) :
    (Pipeline.routed copiedRefs c G : sProp 𝕄) = iprop(owns (c : Thread nD τ) dUpM fullShare (G main_v33_4) ∗ owns (c : Thread nD τ) dOutM fullShare (G main_v33_5)) := by
  unfold Pipeline.routed
  rw [BI.bigSep_eq_bigSepL_of_eq [main_v33_4, main_v33_5] (by decide) (by decide)]
  simp only [dUpM, dOutM, owns_whole]; rfl
theorem handed (c : Dev nD) (G : (c : Dev nD) → (b : Ref sig .tc) → Buf (Elt F) ((c : Thread nD τ).loc b)) :
    (Pipeline.ΦDRG osem spec0 readRefs copiedRefs (V m) G c : sProp 𝕄)
      = iprop(iprop((∃ d, owns (c : Thread nD τ) accUpM fullShare d) ∗ (∃ d, owns (c : Thread nD τ) accOutM fullShare d) ∗ (∃ d, owns (c : Thread nD τ) castUpM fullShare d) ∗ (∃ d, owns (c : Thread nD τ) castOutM fullShare d) ∗ (∃ d, owns (c : Thread nD τ) ringM fullShare d))
          ∗ (∃ r, prngReg c r)
          ∗ iprop(semVal ((c : Thread nD τ), SemLoc.dma 20) 0 ∗ semVal ((c : Thread nD τ), SemLoc.dma 21) 0 ∗ semVal ((c : Thread nD τ), SemLoc.dma 22) 0
            ∗ semVal ((c : Thread nD τ), SemLoc.dma 23) 0 ∗ semVal ((c : Thread nD τ), SemLoc.dma 24) 0)
          ∗ held c projM (V m c main_arg4)
          ∗ iprop(owns (c : Thread nD τ) dUpM fullShare (G c main_v33_4) ∗ owns (c : Thread nD τ) dOutM fullShare (G c main_v33_5))) := by
  rw [Pipeline.ΦDRG_eq, scopedRest0_eq, ownSems_eq, routed_pair, show (bigSep readRefs fun b => ((c : Thread nD τ).loc b) ↦{fullShare} V m c b : sProp 𝕄) = held c projM (V m c main_arg4) from by
    rw [BI.bigSep_eq_bigSepL_of_eq [main_arg4] (by decide) (by decide)]; rfl]
  simp only [accUpM, accOutM, castUpM, castOutM, ringM, owns_whole]; try rfl

theorem hin (c : Dev nD) : Pipeline.ΦDRG osem spec0 readRefs copiedRefs (V m) (V m) c ⊢ (dats m 0 c).Φ 0 := by
  rw [handed, show (dats m 0 c).Φ 0 = inv m c 0 from rfl]
  unfold inv accs side
  rw [if_neg (by decide), if_neg (by decide)]
  iintro ⟨⟨⟨%du, HU⟩, ⟨%do', HO⟩, HCU, HCO, HR⟩, Hp, ⟨H20, H21, H22, H23, H24⟩, HW, ⟨HDU, HDO⟩⟩
  isplitl [HU HO]
  · isplitl [HU]
    · iexists du; isplitr; · ipureintro; exact fun h => absurd rfl h
      iexact HU
    iexists do'; isplitr; · ipureintro; exact fun h => absurd rfl h
    iexact HO
  isplitl [HCU HCO Hp H23 H24 HDU HDO]
  · isplitl [HCU]; · iexact HCU
    isplitl [HCO]; · iexact HCO
    isplitl [Hp]; · iexact Hp
    isplitl [H23]; · iexact H23
    isplitl [H24]; · iexact H24
    isplitl [HDU]; · iexact HDU
    iexact HDO
  iapply (ring_in c (V m c main_arg4))
  isplitl [HR]; · iexact HR
  isplitl [H20 H21 H22]
  · isplitl [H20]; · iexact H20
    isplitl [H21]; · iexact H21
    iexact H22
  iexact HW
theorem hout (c : Dev nD) : (dats m 0 c).Φ (Fin.last cfg0.N) ⊢ Pipeline.ΦDRG osem spec0 readRefs copiedRefs (V m) (copied m) c := by
  rw [handed, copied_up, copied_out, show (dats m 0 c).Φ (Fin.last cfg0.N) = inv m c grid0.N from rfl, show grid0.N = 16 by rw [N_0]]
  unfold inv accs side
  rw [if_pos rfl, if_pos rfl]
  iintro ⟨⟨⟨%du, -, HU⟩, ⟨%do', -, HO⟩⟩, ⟨HCU, HCO, Hp, H23, H24, HDU, HDO⟩, HR⟩
  ihave HX := (ring_out c (V m c main_arg4)) $$ HR
  icases HX with ⟨HR, ⟨H20, H21, H22⟩, HW⟩
  isplitl [HU HO HCU HCO HR]
  · isplitl [HU]; · iexists _; iexact HU
    isplitl [HO]; · iexists _; iexact HO
    isplitl [HCU]; · iexact HCU
    isplitl [HCO]; · iexact HCO
    iexact HR
  isplitl [Hp]; · iexact Hp
  isplitl [H20 H21 H22 H23 H24]
  · isplitl [H20]; · iexact H20
    isplitl [H21]; · iexact H21
    isplitl [H22]; · iexact H22
    isplitl [H23]; · iexact H23
    iexact H24
  isplitl [HW]; · iexact HW
  isplitl [HDU]; · iexact HDU
  iexact HDO

theorem enters : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

-- the theorem's implicit arguments are found by unifying its conclusion with this one
set_option backward.isDefEq.respectTransparency.types false in
/-- The run of the whole program: every array of the pipeline, both copied results, every other buffer and the semaphores. -/
theorem run_main : θ_run defs (onTc (τ := τ) (main (F := F))) (s₀ m ρ)
    (fun r => Pipeline.FramePostRG cfgs (dats m) 0 copiedRefs (V m) (copied m) r ∧ r.2.sem = fun _ => 0) :=
  Pipeline.θ_run_frame_dmaRG (Q' := _) cfgs (dats m) (0 : Fin 1) launch0 osem defs₀ Variants.none ownSemFacts readRefs copiedRefs readRefs_sub copiedRefs_sub m ρ main
    (hbody := fun c => (body_obligation m c).loose) (hshare := fun c => (dats m 0 c).share_full fun _ => rfl)
    (howed := fun _ _ => rfl) (V := V m) (hmain := enters m) (hA := A_eq m) (G := copied m) (hin := hin m) (hout := hout m)

/-- The run, said of the program's arguments and results. -/
theorem run_results : θ_run defs (onTc (τ := τ) (main (F := F))) ⟨m, fun _ => 0, ρ⟩ (fun r => (∀ c : Dev nD,
      (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8))
      ∧ r.2.mem ((c.tc : Thread nD τ).loc main_v33_0) = (dats m 0 c).arrAt 7 cfg0.N
      ∧ r.2.mem ((c.tc : Thread nD τ).loc main_v33_1) = (dats m 0 c).arrAt 8 cfg0.N
      ∧ r.2.mem ((c.tc : Thread nD τ).loc main_v33_2) = (dats m 0 c).arrAt 9 cfg0.N
      ∧ r.2.mem ((c.tc : Thread nD τ).loc main_v33_3) = (dats m 0 c).arrAt 10 cfg0.N
      ∧ r.2.mem ((c.tc : Thread nD τ).loc main_v33_4) = dUpEnd m c
      ∧ r.2.mem ((c.tc : Thread nD τ).loc main_v33_5) = dOutEnd m c)
      ∧ r.2.sem = fun _ => 0) :=
  (θ_run defs _ _).mono (fun r h => ⟨fun c => by
    have kept : ∀ (b : Ref sig .tc), b ∈ Pipeline.restRefs sig spec0 \ copiedRefs → r.2.mem ((c.tc : Thread nD τ).loc b) = V m c b := (h.1.1 c).2
    refine ⟨⟨(kept main_arg0 (by decide)).trans (V_main_arg0 m c), (kept main_arg1 (by decide)).trans (V_main_arg1 m c), (kept main_arg2 (by decide)).trans (V_main_arg2 m c), (kept main_arg3 (by decide)).trans (V_main_arg3 m c), (kept main_arg4 (by decide)).trans (V_main_arg4 m c), (kept main_arg5 (by decide)).trans (V_main_arg5 m c), (kept main_arg6 (by decide)).trans (V_main_arg6 m c), (kept main_arg7 (by decide)).trans (V_main_arg7 m c), (kept main_arg8 (by decide)).trans (V_main_arg8 m c)⟩, (h.1.1 c).1 7, (h.1.1 c).1 8, (h.1.1 c).1 9, (h.1.1 c).1 10,
      (h.1.written c (b := main_v33_4) (by decide)).trans (copied_up m c), (h.1.written c (b := main_v33_5) (by decide)).trans (copied_out m c)⟩, h.2⟩) (run_main m ρ)

end Cert.KernelIdeal.Mid

end
-- ==== Proof.Merge.lean ====
/- The mathematics of the branch merge's backward pass, entry by entry over the extended reals: what each gradient is at a row
   and a column. Both programs are read down to these functions. -/
module

public import Idealize.ShloMosaic.Lib.Pointwise

@[expose] public section

noncomputable section

namespace Cert.Merge

open Idealize.ShloMosaic

/-- A matrix of extended reals. -/
abbrev Mat (a b : ℕ) : Type := (⟨2, ![a, b]⟩ : Shape).Idx → EReal

/-- The gradient of the merged branches: `d_out · w_outᵀ`. -/
def dMerged {R : ℕ} (dOut : Mat R 1024) (wOut : Mat 1024 1024) (r : Fin R) (n : Fin 1024) : EReal :=
  ∑ k : Fin 1024, dOut (ix2 r k) * wOut (ix2 n k)

/-- A branch projected up: `y · w`. -/
def up {R : ℕ} (y : Mat R 512) (w : Mat 512 1024) (r : Fin R) (n : Fin 1024) : EReal :=
  ∑ k : Fin 512, y (ix2 r k) * w (ix2 k n)

/-- The gate of branch `b`, out of the logits' 1024 columns of that branch, which follow column 3072 of the in-projection. -/
def gate (proj : Mat 4096 7424) (b : Fin 3) (r : Fin 4096) (n : Fin 1024) : EReal :=
  Ideal.logistic (proj (ix2 r ⟨3072 + 1024 * b.val + n.val, by omega⟩))

/-- The gradient with respect to a gate's logit, from the gate `s`, the merged gradient `d` and the branch `u` it scales. -/
def dLogit (d u s : EReal) : EReal := d * u * (s * (1 - s))

/-- The gradient of a branch's input: the gated gradient against the branch's up-projection. -/
def dBranch {R : ℕ} (d s : Fin R → Fin 1024 → EReal) (w : Mat 512 1024) (r : Fin R) (j : Fin 512) : EReal :=
  ∑ n : Fin 1024, s r n * d r n * w (ix2 j n)

/-- The gradient of a branch's up-projection: a sum over the rows. -/
def dUp {R : ℕ} (d s : Fin R → Fin 1024 → EReal) (y : Mat R 512) (i : Fin 512) (j : Fin 1024) : EReal :=
  ∑ r : Fin R, y (ix2 r i) * (s r j * d r j)

/-- The gradient of the out-projection: a sum over the rows. -/
def dProjOut {R : ℕ} (merged dOut : Mat R 1024) (i j : Fin 1024) : EReal :=
  ∑ r : Fin R, merged (ix2 r i) * dOut (ix2 r j)

end Cert.Merge
-- ==== Proof.Prefix.lean ====
/- What the host code before the branch-merge backward kernel hands it, over the extended reals: the arguments themselves, the
   three up-projections stacked, and the merged branches of the forward pass. -/
module

public import proofs.«01_k».proof.Proof.Launched
public import proofs.«01_k».proof.Proof.Gen.ReferenceIdeal.Read
public import proofs.«01_k».proof.Proof.Merge

@[expose] public section

set_option maxRecDepth 16384

noncomputable section

namespace Cert.KernelIdeal.Mid

open Cert.KernelIdeal.Gen
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ) (c : Dev nD)

theorem V_dOut : V m c main_v28 = truncf .bf16 (m ((c : Thread nD τ).loc main_arg0)) bitsLt_bf16_f32 := by
  unfold V; after_results_simp <;> (try dsimp only [Matrix.cons_val]) <;> (try after_results_simp) <;> rfl
theorem V_ya : V m c main_v29 = truncf .bf16 (m ((c : Thread nD τ).loc main_arg1)) bitsLt_bf16_f32 := by
  unfold V; after_results_simp <;> (try dsimp only [Matrix.cons_val]) <;> (try after_results_simp) <;> rfl
theorem V_yb : V m c main_v30 = truncf .bf16 (m ((c : Thread nD τ).loc main_arg2)) bitsLt_bf16_f32 := by
  unfold V; after_results_simp <;> (try dsimp only [Matrix.cons_val]) <;> (try after_results_simp) <;> rfl
theorem V_ym : V m c main_v31 = truncf .bf16 (m ((c : Thread nD τ).loc main_arg3)) bitsLt_bf16_f32 := by
  unfold V; after_results_simp <;> (try dsimp only [Matrix.cons_val]) <;> (try after_results_simp) <;> rfl
theorem V_wOut : V m c main_v32 = truncf .bf16 (m ((c : Thread nD τ).loc main_arg8)) bitsLt_bf16_f32 := by
  unfold V; after_results_simp <;> (try dsimp only [Matrix.cons_val]) <;> (try after_results_simp) <;> rfl

theorem V_merged : V m c main_v22 = truncf .bf16 (Cert.ReferenceIdeal.Read.val_main_v24 (F := F)
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7))) bitsLt_bf16_f32 := by
  unfold V; after_results_simp <;> (try dsimp only [Matrix.cons_val]) <;> (try after_results_simp) <;> rfl

theorem V_wUp : V m c main_v27 = truncf .bf16 (concatenate S3x512x1024 0
      [⟨S1x512x1024, broadcastInDim S1x512x1024 ![1, 2] bcast_S512x1024_S1x512x1024_1_2 (m ((c : Thread nD τ).loc main_arg5))⟩,
       ⟨S1x512x1024, broadcastInDim S1x512x1024 ![1, 2] bcast_S512x1024_S1x512x1024_1_2 (m ((c : Thread nD τ).loc main_arg6))⟩,
       ⟨S1x512x1024, broadcastInDim S1x512x1024 ![1, 2] bcast_S512x1024_S1x512x1024_1_2 (m ((c : Thread nD τ).loc main_arg7))⟩]
      concatenates_S1x512x1024_S1x512x1024_S1x512x1024_S3x512x1024_d0) bitsLt_bf16_f32 := by
  unfold V; after_results_simp <;> (try dsimp only [Matrix.cons_val]) <;> (try after_results_simp) <;> rfl

end Cert.KernelIdeal.Mid
-- ==== Proof.Rows.lean ====
/- One block of rows of the branch-merge backward kernel over the extended reals: each value the body leaves, at an index. -/
module

public import proofs.«01_k».proof.Proof.Body
public import proofs.«01_k».proof.Proof.Merge

@[expose] public section

set_option maxRecDepth 16384

noncomputable section

namespace Cert.KernelIdeal.Mid

open Cert.KernelIdeal.Gen
open Idealize.ShloMosaic Idealize.ShloMosaic.TcCoe

variable (dO : Vec Ideal S256x1024 .bf16) (wOut : Vec Ideal S1024x1024 .bf16) (wUp : Vec Ideal S3x512x1024 .bf16)
  (gates : Vec Ideal S1x256x3072 .f32) (y : Vec Ideal S256x512 .bf16)

theorem dMerged_at (r : Fin 256) (n : Fin 1024) : dMerged dO wOut (ix2 r n) = Merge.dMerged dO wOut r n := by
  pointwise [dMerged, k0_pay16, k0_pay13, Merge.dMerged]

/-- Branch `b`'s gate in a block of rows. -/
def gateOf (b : Fin 3) (r : Fin 256) (n : Fin 1024) : EReal :=
  Ideal.logistic (gates (ix3 0 r ⟨1024 * b.val + n.val, by omega⟩))

theorem gateA_at (r : Fin 256) (n : Fin 1024) : k0_pay10 gates (ix2 r n) = gateOf gates 0 r n := by
  pointwise [k0_pay10, k0_pay6, gateOf]
theorem gateB_at (r : Fin 256) (n : Fin 1024) : k0_pay11 gates (ix2 r n) = gateOf gates 1 r n := by
  pointwise [k0_pay11, k0_pay6, gateOf]
theorem gateM_at (r : Fin 256) (n : Fin 1024) : k0_pay12 gates (ix2 r n) = gateOf gates 2 r n := by
  pointwise [k0_pay12, k0_pay6, gateOf]

/-- Branch `b`'s slab of the stacked up-projections. -/
def slabOf (b : Fin 3) : Merge.Mat 512 1024 := fun j => wUp (ix3 b (j 0) (j 1))

theorem dBranchA_at (r : Fin 256) (j : Fin 512) :
    dBranchA dO wUp wOut gates (ix2 r j) = Merge.dBranch (Merge.dMerged dO wOut) (gateOf gates 0) (slabOf wUp 0) r j := by
  simp only [Merge.dBranch, ← dMerged_at, ← gateA_at]
  pointwise [dBranchA, k0_pay19, k0_pay18, dMerged, slabOf]
theorem dBranchB_at (r : Fin 256) (j : Fin 512) :
    dBranchB dO wUp wOut gates (ix2 r j) = Merge.dBranch (Merge.dMerged dO wOut) (gateOf gates 1) (slabOf wUp 1) r j := by
  simp only [Merge.dBranch, ← dMerged_at, ← gateB_at]
  pointwise [dBranchB, k0_pay23, k0_pay22, slabOf]
theorem dBranchM_at (r : Fin 256) (j : Fin 512) :
    dBranchM dO wUp wOut gates (ix2 r j) = Merge.dBranch (Merge.dMerged dO wOut) (gateOf gates 2) (slabOf wUp 2) r j := by
  simp only [Merge.dBranch, ← dMerged_at, ← gateM_at]
  pointwise [dBranchM, k0_pay27, k0_pay26, slabOf]

/-! ### The gates' gradient -/

/-- Branch `b`'s columns of the gates' gradient. -/
abbrev dLogits (b : Fin 3) (r : Fin 256) (n : Fin 1024) : EReal :=
  Merge.dLogit (Merge.dMerged dO wOut r n) (Merge.up y (slabOf wUp b) r n) (gateOf gates b r n)

theorem logitsA_at (r : Fin 256) (n : Fin 1024) :
    k0_pay17 (k0_pay7 y (View.ld wUp slabA)) (k0_pay10 gates) (k0_pay13 dO) wOut (ix2 r n) = dLogits dO wOut wUp gates y 0 r n := by
  simp only [dLogits, Merge.dLogit, ← dMerged_at, ← gateA_at, Merge.up]
  pointwise [k0_pay17, k0_pay7, dMerged, slabOf]
theorem logitsB_at (r : Fin 256) (n : Fin 1024) :
    k0_pay21 (k0_pay8 y (View.ld wUp slabB)) (k0_pay11 gates) (k0_pay13 dO) wOut (ix2 r n) = dLogits dO wOut wUp gates y 1 r n := by
  simp only [dLogits, Merge.dLogit, ← dMerged_at, ← gateB_at, Merge.up]
  pointwise [k0_pay21, k0_pay8, dMerged, slabOf]
theorem logitsM_at (r : Fin 256) (n : Fin 1024) :
    k0_pay25 (k0_pay9 y (View.ld wUp slabM)) (k0_pay12 gates) (dMerged dO wOut) (ix2 r n) = dLogits dO wOut wUp gates y 2 r n := by
  simp only [dLogits, Merge.dLogit, ← dMerged_at, ← gateM_at, Merge.up]
  pointwise [k0_pay25, k0_pay9, slabOf]

variable (ya yb ym : Vec Ideal S256x512 .bf16)

/-- The three branches' rows, by branch. -/
def branchOf {α : Type} (a b m : α) (k : Fin 3) : α := ![a, b, m] k

theorem dGates_at (k : Fin 3) (r : Fin 256) (n : Fin 1024) (q : Fin 3072) (hq : q.val = 1024 * k.val + n.val) :
    dGates dO ya yb ym wUp wOut gates (ix2 r q) = dLogits dO wOut wUp gates (branchOf ya yb ym k) k r n := by
  unfold dGates
  canon_tiles x h
  · obtain ⟨a, b, rfl⟩ : ∃ (a : Fin 256) (b : Fin 1024), x = ix2 a b := ⟨x 0, x 1, eq_ix2 x⟩
    have h0 : r.val = a.val := h0
    have h1 : q.val = 2048 + b.val := h1
    obtain rfl : k = 2 := Fin.ext (by omega)
    obtain rfl : r = a := Fin.ext h0
    obtain rfl : n = b := Fin.ext (by omega)
    exact logitsM_at ..
  · obtain ⟨a, b, rfl⟩ : ∃ (a : Fin 256) (b : Fin 1024), x = ix2 a b := ⟨x 0, x 1, eq_ix2 x⟩
    have h0 : r.val = a.val := h0
    have h1 : q.val = 1024 + b.val := h1
    obtain rfl : k = 1 := Fin.ext (by omega)
    obtain rfl : r = a := Fin.ext h0
    obtain rfl : n = b := Fin.ext (by omega)
    exact logitsB_at ..
  · obtain ⟨a, b, rfl⟩ : ∃ (a : Fin 256) (b : Fin 1024), x = ix2 a b := ⟨x 0, x 1, eq_ix2 x⟩
    have h0 : r.val = a.val := h0
    have h1 : q.val = b.val := h1
    obtain rfl : k = 0 := Fin.ext (by omega)
    obtain rfl : r = a := Fin.ext h0
    obtain rfl : n = b := Fin.ext (by omega)
    exact logitsA_at ..

/-! ### The two sums over the rows -/

theorem stepA_at (up : Vec Ideal S3x512x1024 .f32) (z : Fin 1) (i : Fin 512) (j : Fin 1024) :
    k0_pay20 (k0_pay10 gates) (k0_pay13 dO) wOut (View.ld up slabA) y (ix3 z i j)
      = up (ix3 0 i j) + Merge.dUp (Merge.dMerged dO wOut) (gateOf gates 0) y i j := by
  simp only [Merge.dUp, ← dMerged_at, ← gateA_at]
  pointwise [k0_pay20, k0_pay18, dMerged]
theorem stepB_at (up : Vec Ideal S3x512x1024 .f32) (z : Fin 1) (i : Fin 512) (j : Fin 1024) :
    k0_pay24 (k0_pay11 gates) (dMerged dO wOut) (View.ld up slabB) y (ix3 z i j)
      = up (ix3 1 i j) + Merge.dUp (Merge.dMerged dO wOut) (gateOf gates 1) y i j := by
  simp only [Merge.dUp, ← dMerged_at, ← gateB_at]
  pointwise [k0_pay24, k0_pay22]
theorem stepM_at (up : Vec Ideal S3x512x1024 .f32) (z : Fin 1) (i : Fin 512) (j : Fin 1024) :
    k0_pay1 (k0_pay26 (k0_pay12 gates) (dMerged dO wOut)) (View.ld up slabM) y (ix3 z i j)
      = up (ix3 2 i j) + Merge.dUp (Merge.dMerged dO wOut) (gateOf gates 2) y i j := by
  simp only [Merge.dUp, ← dMerged_at, ← gateM_at]
  pointwise [k0_pay1, k0_pay26]

theorem stepUp_at (up : Vec Ideal S3x512x1024 .f32) (k : Fin 3) (i : Fin 512) (j : Fin 1024) :
    stepUp dO ya yb ym wOut gates up (ix3 k i j)
      = up (ix3 k i j) + Merge.dUp (Merge.dMerged dO wOut) (gateOf gates k) (branchOf ya yb ym k) i j := by
  unfold stepUp
  canon_tiles x h
  · obtain ⟨z, a, b, rfl⟩ : ∃ (z : Fin 1) (a : Fin 512) (b : Fin 1024), x = ix3 z a b := ⟨x 0, x 1, x 2, eq_ix3 x⟩
    have h0 : k.val = 2 + z.val := h0
    obtain rfl : k = 2 := Fin.ext (by omega)
    obtain rfl : i = a := Fin.ext h1
    obtain rfl : j = b := Fin.ext h2
    exact stepM_at ..
  · obtain ⟨z, a, b, rfl⟩ : ∃ (z : Fin 1) (a : Fin 512) (b : Fin 1024), x = ix3 z a b := ⟨x 0, x 1, x 2, eq_ix3 x⟩
    have h0 : k.val = 1 + z.val := h0
    obtain rfl : k = 1 := Fin.ext (by omega)
    obtain rfl : i = a := Fin.ext h1
    obtain rfl : j = b := Fin.ext h2
    exact stepB_at ..
  · obtain ⟨z, a, b, rfl⟩ : ∃ (z : Fin 1) (a : Fin 512) (b : Fin 1024), x = ix3 z a b := ⟨x 0, x 1, x 2, eq_ix3 x⟩
    have h0 : k.val = z.val := h0
    obtain rfl : k = 0 := Fin.ext (by omega)
    obtain rfl : i = a := Fin.ext h1
    obtain rfl : j = b := Fin.ext h2
    exact stepA_at ..

theorem stepOut_at (merged : Vec Ideal S256x1024 .bf16) (out : Vec Ideal S1024x1024 .f32) (i j : Fin 1024) :
    stepOut dO merged out (ix2 i j) = out (ix2 i j) + Merge.dProjOut merged dO i j := by
  pointwise [stepOut, k0_pay15, k0_pay14, k0_pay13, Merge.dProjOut]

end Cert.KernelIdeal.Mid
-- ==== Proof.Blocks.lean ====
/- The branch-merge backward kernel's blocks over the extended reals: row `r` of point `t`'s block is row `256 t + r` of the
   argument it is cut from. -/
module

public import proofs.«01_k».proof.Proof.Prefix
public import proofs.«01_k».proof.Proof.Rows

@[expose] public section

set_option maxRecDepth 16384

noncomputable section

namespace Cert.KernelIdeal.Mid

open Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (c : Dev nD)

/-- Row `r` of point `t`'s block, as a row of the whole array. -/
def row (t : Fin cfg0.N) (r : Fin 256) : Fin 4096 := ⟨256 * t.val + r.val, by have : t.val < 16 := lt_of_lt_of_eq t.isLt N_0; omega⟩

theorem idx_rows : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0, 0] ∧ win0_6.index t = ![0, 0]
    ∧ win0_7.index t = ![t.val, 1] ∧ win0_8.index t = ![t.val, 0] ∧ win0_9.index t = ![t.val, 0] ∧ win0_10.index t = ![t.val, 0] := by
  decide +kernel

theorem bDOut_at (t : Fin cfg0.N) (r : Fin 256) (k : Fin 1024) :
    bDOut m c t (ix2 r k) = m ((c : Thread nD τ).loc main_arg0) (ix2 (row t r) k) := by
  have h : bDOut m c t (ix2 r k) = V m c main_v28 (ix2 (row t r) k) := by blk_ext [bDOut, iblk, row, idx_rows t]
  rw [h, V_dOut]; rfl
theorem bYa_at (t : Fin cfg0.N) (r : Fin 256) (k : Fin 512) :
    bYa m c t (ix2 r k) = m ((c : Thread nD τ).loc main_arg1) (ix2 (row t r) k) := by
  have h : bYa m c t (ix2 r k) = V m c main_v29 (ix2 (row t r) k) := by blk_ext [bYa, iblk, row, idx_rows t]
  rw [h, V_ya]; rfl
theorem bYb_at (t : Fin cfg0.N) (r : Fin 256) (k : Fin 512) :
    bYb m c t (ix2 r k) = m ((c : Thread nD τ).loc main_arg2) (ix2 (row t r) k) := by
  have h : bYb m c t (ix2 r k) = V m c main_v30 (ix2 (row t r) k) := by blk_ext [bYb, iblk, row, idx_rows t]
  rw [h, V_yb]; rfl
theorem bYm_at (t : Fin cfg0.N) (r : Fin 256) (k : Fin 512) :
    bYm m c t (ix2 r k) = m ((c : Thread nD τ).loc main_arg3) (ix2 (row t r) k) := by
  have h : bYm m c t (ix2 r k) = V m c main_v31 (ix2 (row t r) k) := by blk_ext [bYm, iblk, row, idx_rows t]
  rw [h, V_ym]; rfl
theorem bWOut_at (t : Fin cfg0.N) (i k : Fin 1024) :
    bWOut m c t (ix2 i k) = m ((c : Thread nD τ).loc main_arg8) (ix2 i k) := by
  have h : bWOut m c t (ix2 i k) = V m c main_v32 (ix2 i k) := by blk_ext [bWOut, iblk, idx_rows t]
  rw [h, V_wOut]; rfl

/-- The branches merged by the host's forward pass. -/
abbrev mergedAll : S4096x1024.Idx → EReal := Cert.ReferenceIdeal.Read.val_main_v24 (F := Ideal)
  (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6))
  (m ((c : Thread nD τ).loc main_arg7))
theorem bMerged_at (t : Fin cfg0.N) (r : Fin 256) (k : Fin 1024) :
    bMerged m c t (ix2 r k) = mergedAll m c (ix2 (row t r) k) := by
  have h : bMerged m c t (ix2 r k) = V m c main_v22 (ix2 (row t r) k) := by blk_ext [bMerged, iblk, row, idx_rows t]
  rw [h, V_merged]; rfl

theorem bGates_at (t : Fin cfg0.N) (r : Fin 256) (q : Fin 3072) :
    bGates m c t (ix3 0 r q) = m ((c : Thread nD τ).loc main_arg4) (ix2 (row t r) ⟨3072 + q.val, by omega⟩) := by
  have h : bGates m c t (ix3 0 r q) = V m c main_arg4 (ix2 (row t r) ⟨3072 + q.val, by omega⟩) := by
    unfold bGates gatesBlock
    pointwise []
    refine congrArg (V m c main_arg4) ?_
    have hN : t.val < 16 := lt_of_lt_of_eq t.isLt N_0
    have hb : (Ring.bk 16 t.val).val = t.val := by simp only [Ring.bk, Fin.val_ofNat]; omega
    funext a; apply Fin.ext
    match a with
    | ⟨0, _⟩ => show 256 * (Ring.bk 16 t.val).val + 1 * r.val = 256 * t.val + r.val; omega
    | ⟨1, _⟩ => show 3072 + 1 * q.val = 3072 + q.val; omega
  rw [h, V_main_arg4]

theorem bWUp_at (t : Fin cfg0.N) (k : Fin 3) (i : Fin 512) (j : Fin 1024) :
    bWUp m c t (ix3 k i j) = (![m ((c : Thread nD τ).loc main_arg5), m ((c : Thread nD τ).loc main_arg6), m ((c : Thread nD τ).loc main_arg7)] k : S512x1024.Idx → EReal) (ix2 i j) := by
  have h : bWUp m c t (ix3 k i j) = V m c main_v27 (ix3 k i j) := by blk_ext [bWUp, iblk, idx_rows t]
  rw [h, V_wUp]
  pointwise []
  fin_vals k with hk
  · obtain rfl : k = 0 := Fin.ext hk
    rfl
  · obtain rfl : k = 1 := Fin.ext hk
    rfl
  · obtain rfl : k = 2 := Fin.ext hk
    rfl

/-! ### The results written back block by block -/

theorem dya_of (G : S4096x512.Idx → EReal)
    (hG : ∀ (t : Fin cfg0.N) (r : Fin 256) (j : Fin 512), dBranchA (bDOut m c t) (bWUp m c t) (bWOut m c t) (bGates m c t) (ix2 r j) = G (ix2 (row t r) j)) :
    (dats m 0 c).arrAt 8 cfg0.N = G := by
  refine (dats m 0 c).arrAt_eq_of_covers 8 _ (by decide +kernel) fun t hf y => ?_
  blk_simp
  rw [after8]
  obtain ⟨a, b, rfl⟩ : ∃ (a : Fin 256) (b : Fin 512), y = ix2 a b := ⟨y 0, y 1, eq_ix2 y⟩
  refine (hG t a b).trans ?_
  blk_ext [row, idx_rows t]
theorem dyb_of (G : S4096x512.Idx → EReal)
    (hG : ∀ (t : Fin cfg0.N) (r : Fin 256) (j : Fin 512), dBranchB (bDOut m c t) (bWUp m c t) (bWOut m c t) (bGates m c t) (ix2 r j) = G (ix2 (row t r) j)) :
    (dats m 0 c).arrAt 9 cfg0.N = G := by
  refine (dats m 0 c).arrAt_eq_of_covers 9 _ (by decide +kernel) fun t hf y => ?_
  blk_simp
  rw [after9]
  obtain ⟨a, b, rfl⟩ : ∃ (a : Fin 256) (b : Fin 512), y = ix2 a b := ⟨y 0, y 1, eq_ix2 y⟩
  refine (hG t a b).trans ?_
  blk_ext [row, idx_rows t]
theorem dym_of (G : S4096x512.Idx → EReal)
    (hG : ∀ (t : Fin cfg0.N) (r : Fin 256) (j : Fin 512), dBranchM (bDOut m c t) (bWUp m c t) (bWOut m c t) (bGates m c t) (ix2 r j) = G (ix2 (row t r) j)) :
    (dats m 0 c).arrAt 10 cfg0.N = G := by
  refine (dats m 0 c).arrAt_eq_of_covers 10 _ (by decide +kernel) fun t hf y => ?_
  blk_simp
  rw [after10]
  obtain ⟨a, b, rfl⟩ : ∃ (a : Fin 256) (b : Fin 512), y = ix2 a b := ⟨y 0, y 1, eq_ix2 y⟩
  refine (hG t a b).trans ?_
  blk_ext [row, idx_rows t]

/-- The gates' gradient is written into the gates' columns only. -/
theorem dproj_of (G : S4096x7424.Idx → EReal)
    (hG : ∀ (t : Fin cfg0.N) (r : Fin 256) (q : Fin 3072), dGates (bDOut m c t) (bYa m c t) (bYb m c t) (bYm m c t) (bWUp m c t) (bWOut m c t) (bGates m c t) (ix2 r q)
      = G (ix2 (row t r) ⟨3072 + q.val, by omega⟩)) :
    (dats m 0 c).arrAt 7 cfg0.N = fun i => if 3072 ≤ (i 1).val ∧ (i 1).val < 6144 then G i else V m c main_v33_0 i := by
  refine (dats m 0 c).arrAt_eq_of_coversWhere 7 G (fun β => β (1 : Fin _) = 1) (by decide +kernel) (fun t hf y => ?_) (fun j => ?_)
  · blk_simp
    rw [after7]
    obtain ⟨a, b, e⟩ : ∃ (a : Fin 256) (b : Fin 3072), (cfg0.win 7).xinj (cfg0.grid.coords t) y = ix2 a b := ⟨_, _, eq_ix2 _⟩
    have ea : a.val = (y 0).val := (congrArg (fun z : S256x3072.Idx => (z 0).val) e).symm
    have eb : b.val = (y 1).val := (congrArg (fun z : S256x3072.Idx => (z 1).val) e).symm
    rw [e]
    refine (hG t a b).trans (congrArg G ?_)
    funext d; apply Fin.ext
    match d with
    | ⟨0, _⟩ =>
      blk_simp [idx_rows t]
      show 256 * t.val + a.val = _
      rw [ea, mul_comm]; rfl
    | ⟨1, _⟩ =>
      blk_simp [idx_rows t]
      exact congrArg (3072 + ·) eb
  · blk_simp [Pipeline.Window.cell_apply]; omega

end Cert.KernelIdeal.Mid
-- ==== Proof.Host.lean ====
/- The reference over the extended reals, entry by entry: each of its results is the branch merge's gradient there. -/
module

public import proofs.«01_k».proof.Proof.Merge
public import proofs.«01_k».proof.Proof.Gen.ReferenceIdeal.Read

@[expose] public section

set_option maxRecDepth 16384

noncomputable section

namespace Cert.ReferenceIdeal.Mid

open Cert.ReferenceIdeal.Gen Cert.ReferenceIdeal.Read
open Idealize.ShloMosaic Idealize.ShloMosaic.TcCoe

variable (dOut : (⟨S4096x1024, .f32⟩ : BufTy).Contents (Elt Ideal)) (ya yb ym y : (⟨S4096x512, .f32⟩ : BufTy).Contents (Elt Ideal))
  (proj : (⟨S4096x7424, .f32⟩ : BufTy).Contents (Elt Ideal)) (wa wb wm w : (⟨S512x1024, .f32⟩ : BufTy).Contents (Elt Ideal))
  (wOut : (⟨S1024x1024, .f32⟩ : BufTy).Contents (Elt Ideal))

theorem gate_at (r : Fin 4096) (q : Fin 3072) :
    val_main_v6 (F := Ideal) proj (ix2 r q) = Ideal.logistic (proj (ix2 r ⟨3072 + q.val, by omega⟩)) := by
  unfold val_main_v6 val_main_v5 val_main_v4 val_main_v3 val_main_v2 val_main_v1 val_main_v0 val_main_cst val_main_cst_0
  pointwise [Ideal.logistic]

theorem gateA_at (r : Fin 4096) (n : Fin 1024) : val_main_v12 (F := Ideal) proj (ix2 r n) = Merge.gate proj 0 r n := by
  unfold val_main_v12 val_main_v11 val_main_v10
  pointwise [Merge.gate]
  simp only [gate_at]
theorem gateB_at (r : Fin 4096) (n : Fin 1024) : val_main_v16 (F := Ideal) proj (ix2 r n) = Merge.gate proj 1 r n := by
  unfold val_main_v16 val_main_v15 val_main_v10
  pointwise [Merge.gate]
  simp only [gate_at]
  pointwise []
  exact congrArg (fun q => Ideal.logistic (proj (ix2 r q))) (Fin.ext (by simp; omega))
theorem gateM_at (r : Fin 4096) (n : Fin 1024) : val_main_v21 (F := Ideal) proj (ix2 r n) = Merge.gate proj 2 r n := by
  unfold val_main_v21 val_main_v20 val_main_v10
  pointwise [Merge.gate]
  simp only [gate_at]
  pointwise []
  exact congrArg (fun q => Ideal.logistic (proj (ix2 r q))) (Fin.ext (by simp; omega))

theorem dMerged_at (r : Fin 4096) (n : Fin 1024) : val_main_v28 (F := Ideal) dOut wOut (ix2 r n) = Merge.dMerged dOut wOut r n := by
  unfold val_main_v28
  pointwise [Merge.dMerged]

theorem upA_at (r : Fin 4096) (n : Fin 1024) : val_main_v13 (F := Ideal) y w (ix2 r n) = Merge.up y w r n := by
  unfold val_main_v13
  pointwise [Merge.up]
theorem upB_at (r : Fin 4096) (n : Fin 1024) : val_main_v17 (F := Ideal) y w (ix2 r n) = Merge.up y w r n := upA_at y w r n
theorem upM_at (r : Fin 4096) (n : Fin 1024) : val_main_v22 (F := Ideal) y w (ix2 r n) = Merge.up y w r n := upA_at y w r n

theorem dBranchA_at (r : Fin 4096) (j : Fin 512) :
    val_main_v48 (F := Ideal) dOut proj w wOut (ix2 r j) = Merge.dBranch (Merge.dMerged dOut wOut) (Merge.gate proj 0) w r j := by
  unfold val_main_v48 val_main_v44
  simp only [Merge.dBranch, ← dMerged_at, ← gateA_at]
  pointwise []
theorem dBranchB_at (r : Fin 4096) (j : Fin 512) :
    val_main_v40 (F := Ideal) dOut proj w wOut (ix2 r j) = Merge.dBranch (Merge.dMerged dOut wOut) (Merge.gate proj 1) w r j := by
  unfold val_main_v40 val_main_v36
  simp only [Merge.dBranch, ← dMerged_at, ← gateB_at]
  pointwise []
theorem dBranchM_at (r : Fin 4096) (j : Fin 512) :
    val_main_v33 (F := Ideal) dOut proj w wOut (ix2 r j) = Merge.dBranch (Merge.dMerged dOut wOut) (Merge.gate proj 2) w r j := by
  unfold val_main_v33 val_main_v29
  simp only [Merge.dBranch, ← dMerged_at, ← gateM_at]
  pointwise []

theorem dUpA_at (i : Fin 512) (j : Fin 1024) :
    val_main_v47 (F := Ideal) dOut y proj wOut (ix2 i j) = Merge.dUp (Merge.dMerged dOut wOut) (Merge.gate proj 0) y i j := by
  unfold val_main_v47 val_main_v46 val_main_v44
  simp only [Merge.dUp, ← dMerged_at, ← gateA_at, mul_comm (y _)]
  pointwise []
theorem dUpB_at (i : Fin 512) (j : Fin 1024) :
    val_main_v39 (F := Ideal) dOut y proj wOut (ix2 i j) = Merge.dUp (Merge.dMerged dOut wOut) (Merge.gate proj 1) y i j := by
  unfold val_main_v39 val_main_v38 val_main_v36
  simp only [Merge.dUp, ← dMerged_at, ← gateB_at, mul_comm (y _)]
  pointwise []
theorem dUpM_at (i : Fin 512) (j : Fin 1024) :
    val_main_v32 (F := Ideal) dOut y proj wOut (ix2 i j) = Merge.dUp (Merge.dMerged dOut wOut) (Merge.gate proj 2) y i j := by
  unfold val_main_v32 val_main_v31 val_main_v29
  simp only [Merge.dUp, ← dMerged_at, ← gateM_at, mul_comm (y _)]
  pointwise []

/-- The stacked gradient of the three up-projections. -/
theorem dUp_at (k : Fin 3) (i : Fin 512) (j : Fin 1024) :
    val_main_v60 (F := Ideal) dOut ya yb ym proj wOut (ix3 k i j)
      = Merge.dUp (Merge.dMerged dOut wOut) (Merge.gate proj k) (![ya, yb, ym] k) i j := by
  unfold val_main_v60 val_main_v59 val_main_v56 val_main_v57 val_main_v58
  pointwise []
  fin_vals k with hk
  all_goals simp only [hk, Nat.reduceSub, Nat.reduceLT, ↓reduceDIte]
  · obtain rfl : k = 0 := Fin.ext hk
    exact dUpA_at ..
  · obtain rfl : k = 1 := Fin.ext hk
    exact dUpB_at ..
  · obtain rfl : k = 2 := Fin.ext hk
    exact dUpM_at ..

theorem dProjOut_at (i j : Fin 1024) :
    val_main_v61 (F := Ideal) dOut ya yb ym proj wa wb wm (ix2 i j)
      = Merge.dProjOut (val_main_v24 (F := Ideal) ya yb ym proj wa wb wm) dOut i j := by
  unfold val_main_v61 val_main_v27 val_main_v26
  simp only [Merge.dProjOut, mul_comm (val_main_v24 (F := Ideal) ya yb ym proj wa wb wm _)]
  pointwise []

/-- The gates' logits' gradient, in the columns that follow 3072. -/
theorem dLogit_at (k : Fin 3) (r : Fin 4096) (n : Fin 1024) (q : Fin 7424) (hq : q.val = 3072 + 1024 * k.val + n.val) :
    val_main_v55 (F := Ideal) dOut ya yb ym proj wa wb wm wOut (ix2 r q)
      = Merge.dLogit (Merge.dMerged dOut wOut r n) (Merge.up (![ya, yb, ym] k) (![wa, wb, wm] k) r n) (Merge.gate proj k r n) := by
  unfold val_main_v55 val_main_v54 val_main_v53 val_main_v52 val_main_v51 val_main_v50 val_main_v43 val_main_v42 val_main_v35 val_main_v34 val_main_v41 val_main_v49 val_main_v9 val_main_v8 val_main_v7 val_main_v30 val_main_v37 val_main_v45 val_main_cst_1 val_main_cst_2 val_main_cst_3 val_main_cst_4
  pointwise []
  have e1 : (q.val - 3072) / 1024 = k.val := by omega
  have e2 : (q.val - 3072) % 1024 = n.val := by omega
  rw [dif_pos ⟨by omega, by omega⟩]
  have hg : val_main_v6 (F := Ideal) proj (ix2 r ⟨q.val - 3072, by omega⟩) = Merge.gate proj k r n := by
    rw [gate_at]
    exact congrArg (fun q => Ideal.logistic (proj (ix2 r q))) (Fin.ext (by simp only []; omega))
  simp only [e1, e2, hg, Fin.eta, dMerged_at, upA_at, upB_at, upM_at, Merge.dLogit]
  fin_vals k with hk
  · obtain rfl : k = 0 := Fin.ext hk
    simp
  · obtain rfl : k = 1 := Fin.ext hk
    simp
  · obtain rfl : k = 2 := Fin.ext hk
    simp

end Cert.ReferenceIdeal.Mid
-- ==== Proof.Values.lean ====
/- The arrays the run leaves, as the reference's terms of the arguments: each point's block of rows read where it stands in the
   arrays, and the two accumulators' sums over the points joined into sums over all the rows. -/
module

public import proofs.«01_k».proof.Proof.Blocks
public import proofs.«01_k».proof.Proof.Rows
public import proofs.«01_k».proof.Proof.Host

@[expose] public section

noncomputable section

namespace Cert.KernelIdeal.Mid

open Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (c : Dev nD)

/-- The arguments, as matrices. -/
abbrev aDOut : S4096x1024.Idx → EReal := m ((c : Thread nD τ).loc main_arg0)
def aY (k : Fin 3) : S4096x512.Idx → EReal :=
  (![m ((c : Thread nD τ).loc main_arg1), m ((c : Thread nD τ).loc main_arg2), m ((c : Thread nD τ).loc main_arg3)] : Fin 3 → S4096x512.Idx → EReal) k
abbrev aProj : S4096x7424.Idx → EReal := m ((c : Thread nD τ).loc main_arg4)
def aW (k : Fin 3) : S512x1024.Idx → EReal :=
  (![m ((c : Thread nD τ).loc main_arg5), m ((c : Thread nD τ).loc main_arg6), m ((c : Thread nD τ).loc main_arg7)] : Fin 3 → S512x1024.Idx → EReal) k
abbrev aWOut : S1024x1024.Idx → EReal := m ((c : Thread nD τ).loc main_arg8)

theorem aY_list (k : Fin 3) : (![aY m c 0, aY m c 1, aY m c 2] : Fin 3 → S4096x512.Idx → EReal) k = aY m c k := by
  match k with | 0 => rfl | 1 => rfl | 2 => rfl
theorem aW_list (k : Fin 3) : (![aW m c 0, aW m c 1, aW m c 2] : Fin 3 → S512x1024.Idx → EReal) k = aW m c k := by
  match k with | 0 => rfl | 1 => rfl | 2 => rfl

/-! ### A point's blocks, read in the arrays -/

theorem dMerged_row (t : Fin cfg0.N) (r : Fin 256) (n : Fin 1024) :
    Merge.dMerged (bDOut m c t) (bWOut m c t) r n = Merge.dMerged (aDOut m c) (aWOut m c) (row t r) n :=
  Finset.sum_congr rfl fun k _ => congrArg₂ _ (bDOut_at m c t r k) (bWOut_at m c t n k)

theorem gate_row (t : Fin cfg0.N) (b : Fin 3) (r : Fin 256) (n : Fin 1024) :
    gateOf (bGates m c t) b r n = Merge.gate (aProj m c) b (row t r) n := by
  refine congrArg Ideal.logistic ((bGates_at m c t r _).trans ?_)
  exact congrArg (fun q => aProj m c (ix2 (row t r) q)) (Fin.ext (Nat.add_assoc ..).symm)

theorem slab_eq (t : Fin cfg0.N) (b : Fin 3) : slabOf (bWUp m c t) b = aW m c b :=
  funext fun j => (bWUp_at m c t b (j 0) (j 1)).trans (congrArg (aW m c b) (eq_ix2 j).symm)

theorem branch_row (t : Fin cfg0.N) (k : Fin 3) (r : Fin 256) (i : Fin 512) :
    branchOf (bYa m c t) (bYb m c t) (bYm m c t) k (ix2 r i) = aY m c k (ix2 (row t r) i) := by
  match k with
  | 0 => exact bYa_at m c t r i
  | 1 => exact bYb_at m c t r i
  | 2 => exact bYm_at m c t r i

theorem dBranch_row (t : Fin cfg0.N) (b : Fin 3) (r : Fin 256) (j : Fin 512) :
    Merge.dBranch (Merge.dMerged (bDOut m c t) (bWOut m c t)) (gateOf (bGates m c t) b) (slabOf (bWUp m c t) b) r j
      = Merge.dBranch (Merge.dMerged (aDOut m c) (aWOut m c)) (Merge.gate (aProj m c) b) (aW m c b) (row t r) j := by
  rw [slab_eq]
  exact Finset.sum_congr rfl fun n _ => by rw [gate_row, dMerged_row]

theorem up_row (t : Fin cfg0.N) (k : Fin 3) (r : Fin 256) (n : Fin 1024) :
    Merge.up (branchOf (bYa m c t) (bYb m c t) (bYm m c t) k) (slabOf (bWUp m c t) k) r n
      = Merge.up (aY m c k) (aW m c k) (row t r) n := by
  rw [slab_eq]
  exact Finset.sum_congr rfl fun k _ => by rw [branch_row]

/-! ### The gradients of the branches and of the gates -/

theorem dya_eq : (dats m 0 c).arrAt 8 cfg0.N
    = Cert.ReferenceIdeal.Read.val_main_v48 (F := Ideal) (aDOut m c) (aProj m c) (aW m c 0) (aWOut m c) :=
  dya_of m c _ fun t r j => ((dBranchA_at _ _ _ _ r j).trans (dBranch_row m c t 0 r j)).trans
    (Cert.ReferenceIdeal.Mid.dBranchA_at (aDOut m c) (aProj m c) (aW m c 0) (aWOut m c) (row t r) j).symm
theorem dyb_eq : (dats m 0 c).arrAt 9 cfg0.N
    = Cert.ReferenceIdeal.Read.val_main_v40 (F := Ideal) (aDOut m c) (aProj m c) (aW m c 1) (aWOut m c) :=
  dyb_of m c _ fun t r j => ((dBranchB_at _ _ _ _ r j).trans (dBranch_row m c t 1 r j)).trans
    (Cert.ReferenceIdeal.Mid.dBranchB_at (aDOut m c) (aProj m c) (aW m c 1) (aWOut m c) (row t r) j).symm
theorem dym_eq : (dats m 0 c).arrAt 10 cfg0.N
    = Cert.ReferenceIdeal.Read.val_main_v33 (F := Ideal) (aDOut m c) (aProj m c) (aW m c 2) (aWOut m c) :=
  dym_of m c _ fun t r j => ((dBranchM_at _ _ _ _ r j).trans (dBranch_row m c t 2 r j)).trans
    (Cert.ReferenceIdeal.Mid.dBranchM_at (aDOut m c) (aProj m c) (aW m c 2) (aWOut m c) (row t r) j).symm

/-- The reference's gradient of the in-projection. -/
abbrev rProj : S4096x7424.Idx → EReal := Cert.ReferenceIdeal.Read.val_main_v55 (F := Ideal) (aDOut m c) (aY m c 0) (aY m c 1) (aY m c 2)
  (aProj m c) (aW m c 0) (aW m c 1) (aW m c 2) (aWOut m c)

theorem dGates_row (t : Fin cfg0.N) (r : Fin 256) (q : Fin 3072) :
    dGates (bDOut m c t) (bYa m c t) (bYb m c t) (bYm m c t) (bWUp m c t) (bWOut m c t) (bGates m c t) (ix2 r q)
      = rProj m c (ix2 (row t r) ⟨3072 + q.val, by omega⟩) := by
  have hk : q.val / 1024 < 3 := by omega
  have hn : q.val % 1024 < 1024 := by omega
  have hq : q.val = 1024 * (q.val / 1024) + q.val % 1024 := by omega
  rw [dGates_at _ _ _ _ _ _ _ ⟨q.val / 1024, hk⟩ r ⟨q.val % 1024, hn⟩ q hq]
  refine Eq.trans ?_ (Cert.ReferenceIdeal.Mid.dLogit_at _ _ _ _ _ _ _ _ _ ⟨q.val / 1024, hk⟩ (row t r) ⟨q.val % 1024, hn⟩ ⟨3072 + q.val, by omega⟩ (by show 3072 + q.val = _; simp only; omega)).symm
  rw [dLogits, dMerged_row, gate_row, up_row, aY_list, aW_list]

theorem dproj_eq (i : S4096x7424.Idx) (h : 3072 ≤ (i 1).val ∧ (i 1).val < 6144) :
    (dats m 0 c).arrAt 7 cfg0.N i = rProj m c i := by
  rw [dproj_of m c (rProj m c) (dGates_row m c)]
  exact if_pos h

/-! ### The gradients of the weights, summed over the points -/

/-- The points' sums over their blocks of rows are the sum over all the rows. -/
theorem sum_rows (f : Fin 4096 → EReal) (x : ℕ → EReal) (h0 : x 0 = 0)
    (hx : ∀ t : Fin cfg0.N, x (t.val + 1) = x t.val + ∑ r : Fin 256, f (row t r)) : x 16 = ∑ r, f r := by
  have hs : ∀ k ≤ 16, x k = ∑ t ∈ Finset.range k, if h : t < 16 then ∑ r : Fin 256, f ⟨256 * t + r.val, by omega⟩ else 0 := by
    intro k
    induction k with
    | zero => intro _; simpa using h0
    | succ k ih =>
      intro hk
      rw [Finset.sum_range_succ, ← ih (by omega), dif_pos (show k < 16 by omega)]
      exact hx ⟨k, lt_of_lt_of_eq (show k < 16 by omega) N_0.symm⟩
  rw [hs 16 le_rfl, Finset.sum_range]
  refine (Finset.sum_congr rfl fun t _ => dif_pos t.isLt).trans ?_
  refine (Finset.sum_congr rfl fun t _ => Finset.sum_congr rfl fun r _ => ?_).trans (Fin.sum_mul_add_fin 16 256 f)
  exact congrArg f (Fin.ext (by simp only; omega))

theorem pay2_eq (x : Vec Ideal S3x512x1024 .f32) : k0_pay2 x = x := by
  funext i
  obtain ⟨k, a, b, rfl⟩ : ∃ (k : Fin 3) (a : Fin 512) (b : Fin 1024), i = ix3 k a b := ⟨i 0, i 1, i 2, eq_ix3 i⟩
  pointwise [k0_pay2]
theorem pay3_eq (x : Vec Ideal S1024x1024 .f32) : k0_pay3 x = x := by
  funext i
  obtain ⟨a, b, rfl⟩ : ∃ (a b : Fin 1024), i = ix2 a b := ⟨i 0, i 1, eq_ix2 i⟩
  pointwise [k0_pay3]
theorem upAt_zero (k : Fin 3) (a : Fin 512) (b : Fin 1024) : upAt m c 0 (ix3 k a b) = 0 := by
  rw [upAt]
  pointwise [k0_pay4]
theorem outAt_zero (a b : Fin 1024) : outAt m c 0 (ix2 a b) = 0 := by
  rw [outAt]
  pointwise [k0_pay5]

theorem up_step (t : Fin cfg0.N) (k : Fin 3) (a : Fin 512) (b : Fin 1024) : upAt m c (t.val + 1) (ix3 k a b)
    = upAt m c t.val (ix3 k a b) + ∑ r : Fin 256, aY m c k (ix2 (row t r) a)
        * (Merge.gate (aProj m c) k (row t r) b * Merge.dMerged (aDOut m c) (aWOut m c) (row t r) b) := by
  rw [upAt_succ, stepUp_at]
  refine congrArg (upAt m c t.val (ix3 k a b) + ·) (Finset.sum_congr rfl fun r _ => ?_)
  rw [branch_row, gate_row, dMerged_row]
theorem out_step (t : Fin cfg0.N) (a b : Fin 1024) : outAt m c (t.val + 1) (ix2 a b)
    = outAt m c t.val (ix2 a b) + ∑ r : Fin 256, mergedAll m c (ix2 (row t r) a) * aDOut m c (ix2 (row t r) b) := by
  rw [outAt_succ, stepOut_at]
  refine congrArg (outAt m c t.val (ix2 a b) + ·) (Finset.sum_congr rfl fun r _ => ?_)
  rw [bMerged_at, bDOut_at]

theorem up_end (k : Fin 3) (a : Fin 512) (b : Fin 1024) : upAt m c 16 (ix3 k a b)
    = Merge.dUp (Merge.dMerged (aDOut m c) (aWOut m c)) (Merge.gate (aProj m c) k) (aY m c k) a b :=
  sum_rows (fun r => aY m c k (ix2 r a) * (Merge.gate (aProj m c) k r b * Merge.dMerged (aDOut m c) (aWOut m c) r b))
    (fun s => upAt m c s (ix3 k a b)) (upAt_zero m c k a b) (fun t => up_step m c t k a b)
theorem out_end (a b : Fin 1024) : outAt m c 16 (ix2 a b) = Merge.dProjOut (mergedAll m c) (aDOut m c) a b :=
  sum_rows (fun r => mergedAll m c (ix2 r a) * aDOut m c (ix2 r b))
    (fun s => outAt m c s (ix2 a b)) (outAt_zero m c a b) (fun t => out_step m c t a b)

theorem dUp_eq : dUpEnd m c = Cert.ReferenceIdeal.Read.val_main_v60 (F := Ideal) (aDOut m c) (aY m c 0) (aY m c 1) (aY m c 2)
    (aProj m c) (aWOut m c) := by
  rw [dUpEnd, pay2_eq]
  funext i
  obtain ⟨k, a, b, rfl⟩ : ∃ (k : Fin 3) (a : Fin 512) (b : Fin 1024), i = ix3 k a b := ⟨i 0, i 1, i 2, eq_ix3 i⟩
  rw [Cert.ReferenceIdeal.Mid.dUp_at, up_end, aY_list]

theorem dOut_eq : dOutEnd m c = Cert.ReferenceIdeal.Read.val_main_v61 (F := Ideal) (aDOut m c) (aY m c 0) (aY m c 1) (aY m c 2)
    (aProj m c) (aW m c 0) (aW m c 1) (aW m c 2) := by
  rw [dOutEnd, pay3_eq]
  funext i
  obtain ⟨a, b, rfl⟩ : ∃ (a b : Fin 1024), i = ix2 a b := ⟨i 0, i 1, eq_ix2 i⟩
  rw [Cert.ReferenceIdeal.Mid.dProjOut_at, out_end]
  rfl

end Cert.KernelIdeal.Mid
-- ==== Proof.Columns.lean ====
/- The version's order of the in-projection's columns: five slices of the reference's, set side by side. -/
module

public import proofs.«01_k».proof.Kernel2Ideal
public import Idealize.ShloMosaic.Lib.Pointwise

@[expose] public section

noncomputable section

namespace Cert.Columns

open Cert.Kernel2Ideal Idealize.ShloMosaic Idealize.ShloMosaic.TcCoe Idealize.ShloMosaic.Tactic

/-- The block of 256 of the version's columns that holds the reference's block `t`. -/
def place (t : ℕ) : ℕ := if t < 10 then t else if t < 11 then 28 else if t < 13 then t - 1 else if t < 17 then t + 11 else t - 5

theorem place_cases : ∀ t < 29, t < 10 ∧ place t = t ∨ t = 10 ∧ place t = 28 ∨ 10 < t ∧ t < 13 ∧ place t + 1 = t
    ∨ 12 < t ∧ t < 17 ∧ place t = t + 11 ∨ 16 < t ∧ place t + 5 = t := by decide

theorem place_lt {t : ℕ} (ht : t < 29) : place t < 29 := by
  have := place_cases t ht
  omega

/-- Column `r` of block `t`. -/
def col {t : ℕ} (ht : t < 29) (r : Fin 256) : Fin 7424 := ⟨256 * t + r.val, by omega⟩

/-- The slices set side by side, read in the block at `place t`, are the reference's block `t`. -/
theorem permuted_at (x : S4096x7424.Idx → EReal)
    (h₁ : S4096x7424.Slices ![0, 0] S4096x2560) (h₂ : S4096x7424.Slices ![0, 2816] S4096x512) (h₃ : S4096x7424.Slices ![0, 4352] S4096x3072)
    (h₄ : S4096x7424.Slices ![0, 3328] S4096x1024) (h₅ : S4096x7424.Slices ![0, 2560] S4096x256)
    (hc : _) {t : ℕ} (ht : t < 29) (s : Fin 4096) (r : Fin 256) :
    concatenate S4096x7424 1 [⟨S4096x2560, extractStridedSlice S4096x2560 ![0, 0] x h₁⟩, ⟨S4096x512, extractStridedSlice S4096x512 ![0, 2816] x h₂⟩,
      ⟨S4096x3072, extractStridedSlice S4096x3072 ![0, 4352] x h₃⟩, ⟨S4096x1024, extractStridedSlice S4096x1024 ![0, 3328] x h₄⟩,
      ⟨S4096x256, extractStridedSlice S4096x256 ![0, 2560] x h₅⟩] hc (ix2 s (col (place_lt ht) r)) = x (ix2 s (col ht r)) := by
  have hp := place_cases t ht
  unfold col
  pointwise []
  split_ifs
  all_goals
    refine congrArg x (congrArg (ix2 s) (Fin.ext ?_))
    dsimp only
    omega

end Cert.Columns

end
-- ==== Proof.Keep.lean ====
/- The in-projection's gradient: one half of its rows, transposed, block of columns by block of columns. -/
module

public import proofs.«01_k».proof.Proof.Columns
public import proofs.«01_k».proof.Proof.Gen.Kernel2Ideal.Frame
public import Idealize.ShloMosaic.Lib.Pointwise
public import Idealize.ShloMosaic.Lib.VecWindow
public import Idealize.ShloMosaic.Lib.Pipeline.ValueKit
public import Idealize.ShloMosaic.Lib.Pipeline.ReadBack
public import Idealize.ShloMosaic.Lib.Pipeline.Covers

@[expose] public section

noncomputable section

namespace Cert.Kernel2Ideal.Keep

open Cert.Kernel2Ideal Cert.Kernel2Ideal.Gen Cert.Columns
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ)

/-- The table's second word: the core's number, 0. -/
theorem word (h1 : ∀ a, (![1] : Fin 1 → Nat) a + S1.size a ≤ S3.size a) (h2 : S1.numel = 1) :
    (tbl m).at 0 (Rect.unit (s := S3) ![1] S1.size h1) h2 = 0#32 := by
  have e : (tbl m 0 : (⟨S3, .i32⟩ : BufTy).Contents (Elt F)) = concatenate S3 0 [⟨S1, (broadcastInDim S1 ![] bcast_S_S1 (constantI S_ 32 0#32) : (⟨S1, .i32⟩ : BufTy).Contents (Elt F))⟩,
      ⟨S1, (broadcastInDim S1 ![] bcast_S_S1 (constantI S_ 32 0#32) : (⟨S1, .i32⟩ : BufTy).Contents (Elt F))⟩,
      ⟨S1, (broadcastInDim S1 ![] bcast_S_S1 (constantI S_ 32 3#32) : (⟨S1, .i32⟩ : BufTy).Contents (Elt F))⟩] concatenates_S1_S1_S1_S3_d0 := by
    show V m 0 main_v12 = _
    unfold V; after_results_simp <;> (try dsimp only [Matrix.cons_val]) <;> (try after_results_simp) <;> rfl
  show (tbl m 0 : (⟨S3, .i32⟩ : BufTy).Contents (Elt F)) _ = _
  rw [e]
  rfl

theorem ok : Ok m := by
  intro i
  refine ⟨?_, .inr (Affine.block_words_dvd (of_decide_eq_true rfl) (by decide))⟩
  intro a
  show (cc0_transform_1 _ _ (tbl m) i a + 1) * _ ≤ _
  unfold cc0_transform_1
  rw [word]
  revert a; decide

variable (c : Dev nD)

theorem V_h : V m c main_v8 = truncf .bf16 (transpose S1024x4096 [1, 0] (m ((c : Thread nD τ).loc main_arg0)) transposes_S4096x1024_S1024x4096_1_0) bitsLt_bf16_f32 := by
  unfold V; after_results_simp <;> (try dsimp only [Matrix.cons_val]) <;> (try after_results_simp) <;> rfl

theorem V_d : V m c main_v6 = truncf .bf16 (concatenate S4096x7424 1
    [⟨S4096x2560, extractStridedSlice S4096x2560 ![0, 0] (m ((c : Thread nD τ).loc main_arg2)) slices_S4096x7424_S4096x2560_0_0⟩,
     ⟨S4096x512, extractStridedSlice S4096x512 ![0, 2816] (m ((c : Thread nD τ).loc main_arg2)) slices_S4096x7424_S4096x512_0_2816⟩,
     ⟨S4096x3072, extractStridedSlice S4096x3072 ![0, 4352] (m ((c : Thread nD τ).loc main_arg2)) slices_S4096x7424_S4096x3072_0_4352⟩,
     ⟨S4096x1024, extractStridedSlice S4096x1024 ![0, 3328] (m ((c : Thread nD τ).loc main_arg2)) slices_S4096x7424_S4096x1024_0_3328⟩,
     ⟨S4096x256, extractStridedSlice S4096x256 ![0, 2560] (m ((c : Thread nD τ).loc main_arg2)) slices_S4096x7424_S4096x256_0_2560⟩]
    concatenates_S4096x2560_S4096x512_S4096x3072_S4096x1024_S4096x256_S4096x7424_d1) bitsLt_bf16_f32 := by
  unfold V; after_results_simp <;> (try dsimp only [Matrix.cons_val]) <;> (try after_results_simp) <;> rfl

theorem idx_blocks : ∀ t : Fin grid0.N, cc0_transform_0 (grid0.coords t) = ![0, place t.val] ∧ cc0_transform_2 (grid0.coords t) = ![t.val, 0] := by
  decide +kernel

theorem index_d (t : Fin (cfgM m (ok m)).N) : ((cfgM m (ok m)).win 0).index t = ![0, place t.val] := (idx_blocks t).1
theorem index_h (t : Fin (cfgM m (ok m)).N) : ((cfgM m (ok m)).win 1).index t = ![0, 0] := by
  show cc0_transform_1 _ _ (tbl m) (grid0.coords t) = _
  unfold cc0_transform_1
  rw [word]
  decide
theorem index_out (t : Fin (cfgM m (ok m)).N) : ((cfgM m (ok m)).win 2).index t = ![t.val, 0] := (idx_blocks t).2

section Ideal
variable (m : (ℓ : Loc nD τ sig) → Buf (Elt Ideal) ℓ) (c : Dev nD)

/-- The rows and the gradient, as matrices. -/
abbrev aH : S4096x1024.Idx → EReal := m ((c : Thread nD τ).loc main_arg0)
abbrev aD : S4096x7424.Idx → EReal := m ((c : Thread nD τ).loc main_arg2)

theorem point_lt (t : Fin (cfgM m (ok m)).N) : t.val < 29 := lt_of_lt_of_eq t.isLt N_0

theorem hBlock_at (t : Fin (cfgM m (ok m)).N) (j : Fin 512) (s : Fin 4096) :
    iblk m (ok m) c 1 t (ix2 j s) = aH m c (ix2 s ⟨j.val, by omega⟩) := by
  have h : iblk m (ok m) c 1 t (ix2 j s) = V m c main_v8 (ix2 ⟨j.val, by omega⟩ s) := by
    blk_ext [iblk]
    all_goals rw [index_h]; simp
  rw [h, V_h]
  pointwise []

theorem dBlock_at (t : Fin (cfgM m (ok m)).N) (s : Fin 4096) (r : Fin 256) :
    iblk m (ok m) c 0 t (ix2 s r) = aD m c (ix2 s (col (point_lt m t) r)) := by
  have h : iblk m (ok m) c 0 t (ix2 s r) = V m c main_v6 (ix2 s (col (place_lt (point_lt m t)) r)) := by
    blk_ext [iblk, col]
    all_goals rw [index_d]; simp [mul_comm]
  rw [h, V_d]
  exact permuted_at (aD m c) _ _ _ _ _ concatenates_S4096x2560_S4096x512_S4096x3072_S4096x1024_S4096x256_S4096x7424_d1 (point_lt m t) s r

theorem out_at (t : Fin (cfgM m (ok m)).N) (r : Fin 256) (j : Fin 512) :
    outsAt0 m (ok m) c t (ix2 r j) = ∑ s : Fin 4096, aH m c (ix2 s ⟨j.val, by omega⟩) * aD m c (ix2 s (col (point_lt m t) r)) := by
  unfold outsAt0
  frame_out
  unfold k0_pay1
  pointwise []
  refine Finset.sum_congr rfl fun s _ => congrArg₂ _ ?_ ?_
  · exact (congrFun (Memref.IsWhole.read_unread _ _) _).trans (hBlock_at m c t j s)
  · exact (congrFun (Memref.IsWhole.read_unread _ _) _).trans (dBlock_at m c t s r)

theorem result_of (G : S7424x512.Idx → EReal)
    (hG : ∀ (t : Fin (cfgM m (ok m)).N) (r : Fin 256) (j : Fin 512), outsAt0 m (ok m) c t (ix2 r j) = G (ix2 (col (point_lt m t) r) j)) :
    (dats m (ok m) 0 c).arrAt 2 (cfgM m (ok m)).N = G := by
  refine (dats m (ok m) 0 c).arrAt_eq_of_covers 2 _ ?_ fun t hf y => ?_
  · refine ((cfgM m (ok m)).win 2).covers_of_index_surj rfl (fun a => (by decide : ∀ a : Fin 2, 0 < S256x512.size a) a) fun β => ?_
    change (a : Fin 2) → Fin _ at β
    have n0 : ((cfgM m (ok m)).win 2).nblk (0 : Fin 2) = 29 := by show (7424 + 256 - 1) / 256 = 29; decide
    have n1 : ((cfgM m (ok m)).win 2).nblk (1 : Fin 2) = 1 := by show (512 + 512 - 1) / 512 = 1; decide
    refine ⟨⟨(β 0).val, (n0 ▸ (β 0).isLt : (β 0).val < 29).trans_eq N_0.symm⟩, fun a => ?_⟩
    rw [index_out]
    change Fin 2 at a
    fin_cases a
    · rfl
    · exact (Nat.lt_one_iff.mp (n1 ▸ (β 1).isLt)).symm
  · blk_simp
    rw [after0_2]
    obtain ⟨a, b, rfl⟩ : ∃ (a : Fin 256) (b : Fin 512), (y : S256x512.Idx) = ix2 a b := ⟨_, _, eq_ix2 (y : S256x512.Idx)⟩
    refine (hG t a b).trans ?_
    blk_ext [col]
    all_goals rw [index_out]; simp [mul_comm]

theorem result : (dats m (ok m) 0 c).arrAt 2 (cfgM m (ok m)).N
    = fun i : S7424x512.Idx => ∑ s : Fin 4096, aH m c (ix2 s ⟨(i 1).val, lt_trans (i 1).isLt (by decide)⟩) * aD m c (ix2 s (i 0)) :=
  result_of m c _ fun t r j => out_at m c t r j
end Ideal

theorem run_result (ρ : Dev nD → PrngReg) : θ_run defs (onTc (τ := τ) (main (F := F))) ⟨m, fun _ => 0, ρ⟩ fun r => ∀ c : Dev nD,
    r.2.mem ((c : Thread nD τ).loc main_v13) = (dats m (ok m) 0 c).arrAt 2 (cfgM m (ok m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h.1 c).1 2, h.2.1 c⟩) (θ_run_and (run_main m ρ (ok m)) (frame m ρ (ok m)))

end Cert.Kernel2Ideal.Keep
end
-- ==== Proof.Send.lean ====
/- The in-projection's gradient: the other half of its rows, transposed, block of columns by block of columns. -/
module

public import proofs.«01_k».proof.Proof.Columns
public import proofs.«01_k».proof.Proof.Gen.Kernel3Ideal.Frame
public import Idealize.ShloMosaic.Lib.Pointwise
public import Idealize.ShloMosaic.Lib.VecWindow
public import Idealize.ShloMosaic.Lib.Pipeline.ValueKit
public import Idealize.ShloMosaic.Lib.Pipeline.ReadBack
public import Idealize.ShloMosaic.Lib.Pipeline.Covers

@[expose] public section

noncomputable section

namespace Cert.Kernel3Ideal.Send

open Cert.Kernel3Ideal Cert.Kernel3Ideal.Gen Cert.Columns
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ)

/-- The table's second word: the core's number, 0. -/
theorem word (h1 : ∀ a, (![1] : Fin 1 → Nat) a + S1.size a ≤ S3.size a) (h2 : S1.numel = 1) :
    (tbl m).at 0 (Rect.unit (s := S3) ![1] S1.size h1) h2 = 0#32 := by
  have e : (tbl m 0 : (⟨S3, .i32⟩ : BufTy).Contents (Elt F)) = concatenate S3 0 [⟨S1, (broadcastInDim S1 ![] bcast_S_S1 (constantI S_ 32 0#32) : (⟨S1, .i32⟩ : BufTy).Contents (Elt F))⟩,
      ⟨S1, (broadcastInDim S1 ![] bcast_S_S1 (constantI S_ 32 0#32) : (⟨S1, .i32⟩ : BufTy).Contents (Elt F))⟩,
      ⟨S1, (broadcastInDim S1 ![] bcast_S_S1 (constantI S_ 32 3#32) : (⟨S1, .i32⟩ : BufTy).Contents (Elt F))⟩] concatenates_S1_S1_S1_S3_d0 := by
    show V m 0 main_v12 = _
    unfold V; after_results_simp <;> (try dsimp only [Matrix.cons_val]) <;> (try after_results_simp) <;> rfl
  show (tbl m 0 : (⟨S3, .i32⟩ : BufTy).Contents (Elt F)) _ = _
  rw [e]
  rfl

theorem ok : Ok m := by
  intro i
  refine ⟨?_, .inr (Affine.block_words_dvd (of_decide_eq_true rfl) (by decide))⟩
  intro a
  show (cc0_transform_1 _ _ (tbl m) i a + 1) * _ ≤ _
  unfold cc0_transform_1
  rw [word]
  revert a; decide

variable (c : Dev nD)

theorem V_h : V m c main_v8 = truncf .bf16 (transpose S1024x4096 [1, 0] (m ((c : Thread nD τ).loc main_arg0)) transposes_S4096x1024_S1024x4096_1_0) bitsLt_bf16_f32 := by
  unfold V; after_results_simp <;> (try dsimp only [Matrix.cons_val]) <;> (try after_results_simp) <;> rfl

theorem V_d : V m c main_v6 = truncf .bf16 (concatenate S4096x7424 1
    [⟨S4096x2560, extractStridedSlice S4096x2560 ![0, 0] (m ((c : Thread nD τ).loc main_arg2)) slices_S4096x7424_S4096x2560_0_0⟩,
     ⟨S4096x512, extractStridedSlice S4096x512 ![0, 2816] (m ((c : Thread nD τ).loc main_arg2)) slices_S4096x7424_S4096x512_0_2816⟩,
     ⟨S4096x3072, extractStridedSlice S4096x3072 ![0, 4352] (m ((c : Thread nD τ).loc main_arg2)) slices_S4096x7424_S4096x3072_0_4352⟩,
     ⟨S4096x1024, extractStridedSlice S4096x1024 ![0, 3328] (m ((c : Thread nD τ).loc main_arg2)) slices_S4096x7424_S4096x1024_0_3328⟩,
     ⟨S4096x256, extractStridedSlice S4096x256 ![0, 2560] (m ((c : Thread nD τ).loc main_arg2)) slices_S4096x7424_S4096x256_0_2560⟩]
    concatenates_S4096x2560_S4096x512_S4096x3072_S4096x1024_S4096x256_S4096x7424_d1) bitsLt_bf16_f32 := by
  unfold V; after_results_simp <;> (try dsimp only [Matrix.cons_val]) <;> (try after_results_simp) <;> rfl

theorem idx_blocks : ∀ t : Fin grid0.N, cc0_transform_0 (grid0.coords t) = ![0, place t.val] ∧ cc0_transform_2 (grid0.coords t) = ![t.val, 0] := by
  decide +kernel

theorem index_d (t : Fin (cfgM m (ok m)).N) : ((cfgM m (ok m)).win 0).index t = ![0, place t.val] := (idx_blocks t).1
theorem index_h (t : Fin (cfgM m (ok m)).N) : ((cfgM m (ok m)).win 1).index t = ![1, 0] := by
  show cc0_transform_1 _ _ (tbl m) (grid0.coords t) = _
  unfold cc0_transform_1
  rw [word]
  decide
theorem index_out (t : Fin (cfgM m (ok m)).N) : ((cfgM m (ok m)).win 2).index t = ![t.val, 0] := (idx_blocks t).2

section Ideal
variable (m : (ℓ : Loc nD τ sig) → Buf (Elt Ideal) ℓ) (c : Dev nD)

/-- The rows and the gradient, as matrices. -/
abbrev aH : S4096x1024.Idx → EReal := m ((c : Thread nD τ).loc main_arg0)
abbrev aD : S4096x7424.Idx → EReal := m ((c : Thread nD τ).loc main_arg2)

theorem point_lt (t : Fin (cfgM m (ok m)).N) : t.val < 29 := lt_of_lt_of_eq t.isLt N_0

theorem hBlock_at (t : Fin (cfgM m (ok m)).N) (j : Fin 512) (s : Fin 4096) :
    iblk m (ok m) c 1 t (ix2 j s) = aH m c (ix2 s ⟨512 + j.val, by omega⟩) := by
  have h : iblk m (ok m) c 1 t (ix2 j s) = V m c main_v8 (ix2 ⟨512 + j.val, by omega⟩ s) := by
    blk_ext [iblk]
    all_goals rw [index_h]; simp
  rw [h, V_h]
  pointwise []

theorem dBlock_at (t : Fin (cfgM m (ok m)).N) (s : Fin 4096) (r : Fin 256) :
    iblk m (ok m) c 0 t (ix2 s r) = aD m c (ix2 s (col (point_lt m t) r)) := by
  have h : iblk m (ok m) c 0 t (ix2 s r) = V m c main_v6 (ix2 s (col (place_lt (point_lt m t)) r)) := by
    blk_ext [iblk, col]
    all_goals rw [index_d]; simp [mul_comm]
  rw [h, V_d]
  exact permuted_at (aD m c) _ _ _ _ _ concatenates_S4096x2560_S4096x512_S4096x3072_S4096x1024_S4096x256_S4096x7424_d1 (point_lt m t) s r

theorem out_at (t : Fin (cfgM m (ok m)).N) (r : Fin 256) (j : Fin 512) :
    outsAt0 m (ok m) c t (ix2 r j) = ∑ s : Fin 4096, aH m c (ix2 s ⟨512 + j.val, by omega⟩) * aD m c (ix2 s (col (point_lt m t) r)) := by
  unfold outsAt0
  frame_out
  unfold k0_pay1
  pointwise []
  refine Finset.sum_congr rfl fun s _ => congrArg₂ _ ?_ ?_
  · exact (congrFun (Memref.IsWhole.read_unread _ _) _).trans (hBlock_at m c t j s)
  · exact (congrFun (Memref.IsWhole.read_unread _ _) _).trans (dBlock_at m c t s r)

theorem result_of (G : S7424x512.Idx → EReal)
    (hG : ∀ (t : Fin (cfgM m (ok m)).N) (r : Fin 256) (j : Fin 512), outsAt0 m (ok m) c t (ix2 r j) = G (ix2 (col (point_lt m t) r) j)) :
    (dats m (ok m) 0 c).arrAt 2 (cfgM m (ok m)).N = G := by
  refine (dats m (ok m) 0 c).arrAt_eq_of_covers 2 _ ?_ fun t hf y => ?_
  · refine ((cfgM m (ok m)).win 2).covers_of_index_surj rfl (fun a => (by decide : ∀ a : Fin 2, 0 < S256x512.size a) a) fun β => ?_
    change (a : Fin 2) → Fin _ at β
    have n0 : ((cfgM m (ok m)).win 2).nblk (0 : Fin 2) = 29 := by show (7424 + 256 - 1) / 256 = 29; decide
    have n1 : ((cfgM m (ok m)).win 2).nblk (1 : Fin 2) = 1 := by show (512 + 512 - 1) / 512 = 1; decide
    refine ⟨⟨(β 0).val, (n0 ▸ (β 0).isLt : (β 0).val < 29).trans_eq N_0.symm⟩, fun a => ?_⟩
    rw [index_out]
    change Fin 2 at a
    fin_cases a
    · rfl
    · exact (Nat.lt_one_iff.mp (n1 ▸ (β 1).isLt)).symm
  · blk_simp
    rw [after0_2]
    obtain ⟨a, b, rfl⟩ : ∃ (a : Fin 256) (b : Fin 512), (y : S256x512.Idx) = ix2 a b := ⟨_, _, eq_ix2 (y : S256x512.Idx)⟩
    refine (hG t a b).trans ?_
    blk_ext [col]
    all_goals rw [index_out]; simp [mul_comm]

theorem result : (dats m (ok m) 0 c).arrAt 2 (cfgM m (ok m)).N
    = fun i : S7424x512.Idx => ∑ s : Fin 4096, aH m c (ix2 s ⟨512 + (i 1).val, Nat.add_lt_add_left (i 1).isLt 512⟩) * aD m c (ix2 s (i 0)) :=
  result_of m c _ fun t r j => out_at m c t r j
end Ideal

theorem run_result (ρ : Dev nD → PrngReg) : θ_run defs (onTc (τ := τ) (main (F := F))) ⟨m, fun _ => 0, ρ⟩ fun r => ∀ c : Dev nD,
    r.2.mem ((c : Thread nD τ).loc main_v13) = (dats m (ok m) 0 c).arrAt 2 (cfgM m (ok m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h.1 c).1 2, h.2.1 c⟩) (θ_run_and (run_main m ρ (ok m)) (frame m ρ (ok m)))

end Cert.Kernel3Ideal.Send
end
-- ==== Proof.Halves.lean ====
/- The claims of the in-projection's weight gradient, by halves of its rows. -/
module

public import proofs.«01_k».proof.Defs
public import proofs.«01_k».proof.Proof.Keep
public import proofs.«01_k».proof.Proof.Send
public import proofs.«01_k».proof.Proof.Gen.Kernel2.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import Idealize.ShloMosaic.Lib.Quiescent
public import Idealize.ShloMosaic.Lib.Pointwise
public import Idealize.ShloMosaic.Adequacy

@[expose] public section

noncomputable section

namespace Cert.Proof

open Idealize.ShloMosaic Idealize.ShloMosaic.TcCoe Idealize.ShloMosaic.Tactic Idealize.SL.Sem

theorem frame_kernel2 : Cert.quiescent_Kernel2 := fun m ρ _ => Cert.Kernel2.Gen.frame m ρ (Cert.Kernel2Ideal.Keep.ok (F := Bits) m)

theorem frame_kernel2Ideal : Cert.quiescent_Kernel2Ideal := fun m ρ _ => Cert.Kernel2Ideal.Gen.frame m ρ (Cert.Kernel2Ideal.Keep.ok m)

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic2 : Cert.algebraic_Kernel2Ideal_Reference2Ideal := by
  intro m ρ m' ρ' _ hargs
  refine ⟨fun c => (Cert.Kernel2Ideal.Gen.dats m (Cert.Kernel2Ideal.Keep.ok m) 0 c).arrAt 2 (Cert.Kernel2Ideal.Gen.cfgM m (Cert.Kernel2Ideal.Keep.ok m)).N,
    Cert.Kernel2Ideal.Keep.run_result m ρ, ?_⟩
  refine (θ_run Cert.Reference2Ideal.defs _ _).mono (fun r h c => ⟨(h c).1.trans ?_, (h c).2⟩) (Cert.Reference2Ideal.Value.run (F := Ideal) m' ρ')
  obtain ⟨a0, -, a2⟩ := hargs c
  rw [a0, a2]
  refine Eq.trans (funext fun i => ?_) (Cert.Kernel2Ideal.Keep.result m c).symm
  obtain ⟨a, b, rfl⟩ : ∃ (a : Fin 7424) (b : Fin 512), i = ix2 a b := ⟨_, _, eq_ix2 i⟩
  pointwise []
  exact Finset.sum_congr rfl fun s _ => mul_comm (G := EReal) _ _

theorem frame_kernel3 : Cert.quiescent_Kernel3 := fun m ρ _ => Cert.Kernel3.Gen.frame m ρ (Cert.Kernel3Ideal.Send.ok (F := Bits) m)

theorem frame_kernel3Ideal : Cert.quiescent_Kernel3Ideal := fun m ρ _ => Cert.Kernel3Ideal.Gen.frame m ρ (Cert.Kernel3Ideal.Send.ok m)

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic3 : Cert.algebraic_Kernel3Ideal_Reference3Ideal := by
  intro m ρ m' ρ' _ hargs
  refine ⟨fun c => (Cert.Kernel3Ideal.Gen.dats m (Cert.Kernel3Ideal.Send.ok m) 0 c).arrAt 2 (Cert.Kernel3Ideal.Gen.cfgM m (Cert.Kernel3Ideal.Send.ok m)).N,
    Cert.Kernel3Ideal.Send.run_result m ρ, ?_⟩
  refine (θ_run Cert.Reference3Ideal.defs _ _).mono (fun r h c => ⟨(h c).1.trans ?_, (h c).2⟩) (Cert.Reference3Ideal.Value.run (F := Ideal) m' ρ')
  obtain ⟨a0, -, a2⟩ := hargs c
  rw [a0, a2]
  refine Eq.trans (funext fun i => ?_) (Cert.Kernel3Ideal.Send.result m c).symm
  obtain ⟨a, b, rfl⟩ : ∃ (a : Fin 7424) (b : Fin 512), i = ix2 a b := ⟨_, _, eq_ix2 i⟩
  pointwise []
  exact Finset.sum_congr rfl fun s _ => mul_comm (G := EReal) _ _

end Cert.Proof

end
-- ==== Proof.Normed.lean ====
/- The kernel of the in-projection's input gradient and the first normalisation, one point run: at the first point the weights
   are brought in, at every point but the last one block of rows of the gradient is multiplied out, and at every point but the first
   the block before goes through the normalisation's backward pass. -/
module

public import proofs.«01_k».proof.Proof.Gen.Kernel4Ideal.Launch
public import proofs.«01_k».proof.Proof.Gen.Kernel4Ideal.Skeleton
public import proofs.«01_k».proof.Proof.Gen.Kernel4Ideal.Points
public import proofs.«01_k».proof.Proof.Gen.Kernel4Ideal.Frame
public import Idealize.ShloMosaic.Lib.Tactic
public import Idealize.ShloMosaic.Lib.Pipeline.FrameBody
public import Idealize.ShloMosaic.Lib.Pipeline.ValueKit

@[expose] public section

set_option maxRecDepth 16384

noncomputable section

namespace Cert.Kernel4Ideal.Normed

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-- The contents of a memref's buffer on core `c`, and the buffer held whole at them. -/
abbrev BufOf (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : BufOf (F := F) c M) : sProp 𝕄 :=
  M.view.loc (c : Thread nD τ) ↦{fullShare} f

/-- The weights' two sources in HBM, the buffer they are brought into, and the two buffers a block of the gradient waits in. -/
abbrev nearM : Memref sig .tc .hbm S7424x1024 .bf16 := Memref.whole main_v7
abbrev farM : Memref sig .tc .hbm S1856x1024 .bf16 := Memref.whole main_v8
abbrev wM : Memref sig .tc .vmem S7424x1024 .bf16 := Memref.whole cc0_scratch0
abbrev evenM : Memref sig .tc .vmem S256x1024 .f32 := Memref.whole cc0_scratch2
abbrev oddM : Memref sig .tc .vmem S256x1024 .f32 := Memref.whole cc0_scratch3

/-! ## What a point computes -/

/-- Five runs of columns of a block of the gradient, and the rows of the weights each multiplies. -/
abbrev gA : Rect S256x7424 := Rect.unit (s := S256x7424) ![0, 0] S256x2560.size inb_S256x7424_S256x2560_0_0
abbrev gB : Rect S256x7424 := Rect.unit (s := S256x7424) ![0, 2560] S256x512.size inb_S256x7424_S256x512_0_2560
abbrev gC : Rect S256x7424 := Rect.unit (s := S256x7424) ![0, 3072] S256x3072.size inb_S256x7424_S256x3072_0_3072
abbrev gD : Rect S256x7424 := Rect.unit (s := S256x7424) ![0, 6144] S256x1024.size inb_S256x7424_S256x1024_0_6144
abbrev gE : Rect S256x7424 := Rect.unit (s := S256x7424) ![0, 7168] S256x256.size inb_S256x7424_S256x256_0_7168
abbrev wA : Rect S7424x1024 := Rect.unit (s := S7424x1024) ![0, 0] S2560x1024.size inb_S7424x1024_S2560x1024_0_0
abbrev wB : Rect S7424x1024 := Rect.unit (s := S7424x1024) ![2816, 0] S512x1024.size inb_S7424x1024_S512x1024_2816_0
abbrev wC : Rect S7424x1024 := Rect.unit (s := S7424x1024) ![4352, 0] S3072x1024.size inb_S7424x1024_S3072x1024_4352_0
abbrev wD : Rect S7424x1024 := Rect.unit (s := S7424x1024) ![3328, 0] S1024x1024.size inb_S7424x1024_S1024x1024_3328_0
abbrev wE : Rect S7424x1024 := Rect.unit (s := S7424x1024) ![2560, 0] S256x1024.size inb_S7424x1024_S256x1024_2560_0
/-- The rows of the weights that come from the other source. -/
abbrev farRows : Rect S7424x1024 := Rect.unit (s := S7424x1024) ![5568, 0] S1856x1024.size (by decide)

/-- A block of the gradient times the weights. -/
def times (a : Vec F S256x7424 .bf16) (w : Vec F S7424x1024 .bf16) : Vec F S256x1024 .f32 :=
  k0_pay16 (View.ld a gA) (View.ld w wA) (View.ld a gB) (View.ld w wB) (View.ld a gC) (View.ld w wC) (View.ld a gD) (View.ld w wD) (View.ld a gE) (View.ld w wE)

/-- The weights brought in: one source whole, the other over its rows. -/
def joined (near : Vec F S7424x1024 .bf16) (far : Vec F S1856x1024 .bf16) : Vec F S7424x1024 .bf16 :=
  View.canon [⟨farRows, far⟩, ⟨Rect.whole S7424x1024, near⟩]

theorem ld_rows (X : Vec F S256x1024 .f32) (h) : View.ld X (Rect.unit (s := S256x1024) ![0, 0] ![256, 1024] h) = X := View.ld_unit_lit h X (by decide)
theorem ld_row (X : Vec F S1x1024 .f32) (h) : View.ld X (Rect.unit (s := S1x1024) ![0, 0] ![1, 1024] h) = X := View.ld_unit_lit h X (by decide)
theorem read_w (X : Vec F S7424x1024 .bf16) (h) : View.read (Elt F) (View.whole cc0_scratch0) (Memref.IsWhole.unread (m := Memref.whole cc0_scratch0) h X) = X := h.read_unread X
theorem read_even (X : Vec F S256x1024 .f32) (h) : View.read (Elt F) (View.whole cc0_scratch2) (Memref.IsWhole.unread (m := Memref.whole cc0_scratch2) h X) = X := h.read_unread X
theorem read_odd (X : Vec F S256x1024 .f32) (h) : View.read (Elt F) (View.whole cc0_scratch3) (Memref.IsWhole.unread (m := Memref.whole cc0_scratch3) h X) = X := h.read_unread X

theorem read_joined (o : Fin 2 → ℕ) (h : ∀ a, o a + S1856x1024.size a ≤ S7424x1024.size a) (e : o = ![5568, 0]) (f : wM.view.ty.Contents (Elt F))
    (near : Vec F S7424x1024 .bf16) (far : Vec F S1856x1024 .bf16) :
    wM.view.read (Elt F) (wM.view.writes (Elt F) f [⟨Rect.unit (s := S7424x1024) o S1856x1024.size h, far⟩, ⟨Rect.whole S7424x1024, near⟩]) = joined near far := by
  subst e
  exact View.read_writes_eq_canon _ _ _ fun y => ⟨_, List.mem_cons_of_mem _ (List.mem_singleton_self _), by rw [Rect.set_whole]; exact Finset.mem_univ y⟩

section Body
variable (i : grid0.Coords)
variable (arg1 : Memref sig .tc .smem S3 .i32) (harg1 : arg1.IsWhole)
variable (arg2 : Memref sig .tc .vmem S256x7424 .bf16) (harg2 : arg2.IsWhole)
variable (arg5 : Memref sig .tc .vmem S256x1024 .f32) (harg5 : arg5.IsWhole)
variable (arg6 : Memref sig .tc .vmem S1x1024 .f32) (harg6 : arg6.IsWhole)
variable (arg7 : Memref sig .tc .vmem S256x1024 .f32) (harg7 : arg7.IsWhole)
variable (arg8 : Memref sig .tc .vmem S256x1024 .f32) (harg8 : arg8.IsWhole)
variable (arg9 : Memref sig .tc .vmem S1x1024 .f32) (harg9 : arg9.IsWhole)

/-- The body, its memrefs other than the windows' filled in. -/
abbrev body : Prog (TpuEff nD τ sig (Elt F) Λ₀ .tc) PUnit :=
  cc0_d_h i arg1 harg1 arg2 harg2 nearM (Memref.isWhole_whole _) farM (Memref.isWhole_whole _) arg5 harg5 arg6 harg6 arg7 harg7 arg8 harg8 arg9 harg9 wM (Memref.isWhole_whole _) cc0_scratch1 evenM (Memref.isWhole_whole _) oddM (Memref.isWhole_whole _)

/-- The inputs' buffers at their blocks. -/
abbrev inputsAre (c : Dev nD) (wd : Vec F S3 .i32) (a : Vec F S256x7424 .bf16) (x : Vec F S256x1024 .f32) (g : Vec F S1x1024 .f32) (res : Vec F S256x1024 .f32) : sProp 𝕄 :=
  iprop(owns (c : Thread nD τ) arg1 fullShare wd ∗ owns (c : Thread nD τ) arg2 fullShare a ∗ owns (c : Thread nD τ) arg5 fullShare x ∗ owns (c : Thread nD τ) arg6 fullShare g ∗ owns (c : Thread nD τ) arg7 fullShare res)

set_option maxHeartbeats 2000000 in
/-- A point of even number, neither the first nor the last. -/
theorem even_run (c : Dev nD) (h1 : ¬ k0_cond1 i = 1#1) (h2 : k0_cond2 i = 1#1) (h3 : ¬ k0_cond3 i = 1#1) (h4 : ¬ k0_cond4 i = 1#1)
    (wd : Vec F S3 .i32) (a : Vec F S256x7424 .bf16) (x : Vec F S256x1024 .f32) (g : Vec F S1x1024 .f32) (res : Vec F S256x1024 .f32)
    (dg : Vec F S1x1024 .f32) (w : Vec F S7424x1024 .bf16) (p : Vec F S256x1024 .f32) (K : PUnit → sProp 𝕄) :
    iprop(inputsAre arg1 arg2 arg5 arg6 arg7 c wd a x g res ∗ (∃ d, owns (c : Thread nD τ) arg8 fullShare d) ∗ owns (c : Thread nD τ) arg9 fullShare dg
      ∗ owns (c : Thread nD τ) wM fullShare w ∗ (∃ d, owns (c : Thread nD τ) evenM fullShare d) ∗ owns (c : Thread nD τ) oddM fullShare p
      ∗ (iprop(inputsAre arg1 arg2 arg5 arg6 arg7 c wd a x g res ∗ owns (c : Thread nD τ) arg8 fullShare (k0_pay3 p x g res) ∗ owns (c : Thread nD τ) arg9 fullShare (k0_pay4 p x dg)
          ∗ owns (c : Thread nD τ) wM fullShare w ∗ owns (c : Thread nD τ) evenM fullShare (times a w) ∗ owns (c : Thread nD τ) oddM fullShare p) -∗ K ⟨⟩))
    ⊢ wp frame (wpE (defs₀ (F := F)) Variants.none c none) Set.univ (body i arg1 harg1 arg2 harg2 arg5 harg5 arg6 harg6 arg7 harg7 arg8 harg8 arg9 harg9) K := by
  haveI : Fact (¬ k0_cond1 i = 1#1) := ⟨h1⟩
  haveI : Fact (k0_cond2 i = 1#1) := ⟨h2⟩
  haveI : Fact (¬ k0_cond3 i = 1#1) := ⟨h3⟩
  haveI : Fact (¬ k0_cond4 i = 1#1) := ⟨h4⟩
  unfold body
  simp only [cc0_d_h_eq_skeleton, k0_part4_eq_skeleton, k0_part2_eq_skeleton]
  unfold inputsAre owns
  iintro ⟨⟨⟨%f1, %hf1, H1⟩, ⟨%f2, %hf2, H2⟩, ⟨%f5, %hf5, H5⟩, ⟨%f6, %hf6, H6⟩, ⟨%f7, %hf7, H7⟩⟩, ⟨%d8, %f8, -, H8⟩, ⟨%f9, %hf9, H9⟩, ⟨%fw, %hfw, HW⟩, ⟨%de, %fe, -, HE⟩, ⟨%fo, %hfo, HO⟩, Hk⟩
  obtain rfl := harg1.eq_unread hf1; obtain rfl := harg2.eq_unread hf2; obtain rfl := harg5.eq_unread hf5; obtain rfl := harg6.eq_unread hf6; obtain rfl := harg7.eq_unread hf7; obtain rfl := harg9.eq_unread hf9
  obtain rfl := (Memref.isWhole_whole _).eq_unread hfw; obtain rfl := (Memref.isWhole_whole _).eq_unread hfo
  sl_exec (disch := first | sl_exact h1 | sl_exact h2 | sl_exact h3 | sl_exact h4)
  sl_step
  iapply Hk
  isplitl [H1 H2 H5 H6 H7]
  · isplitl [H1]; · iexists _; isplitr; swap; · iexact H1
                    ipureintro; exact hf1
    isplitl [H2]; · iexists _; isplitr; swap; · iexact H2
                    ipureintro; exact hf2
    isplitl [H5]; · iexists _; isplitr; swap; · iexact H5
                    ipureintro; exact hf5
    isplitl [H6]; · iexists _; isplitr; swap; · iexact H6
                    ipureintro; exact hf6
    iexists _; isplitr; swap; · iexact H7
    ipureintro; exact hf7
  isplitl [H8]
  · iexists _; isplitr; swap; · iexact H8
    ipureintro
    refine (View.read_writes_eq_canon _ _ _ (View.cover_of_tiled _ ![256, 1024] rfl)).trans ?_
    refine (View.canon_cons_unit_lit _ _ _ (by decide)).trans ?_
    sl_unfold_run_names
    simp only [View.readAt_eq_ld, Memref.IsWhole.read_unread, ld_rows, ld_row, read_odd]
    rfl
  isplitl [H9]
  · iexists _; isplitr; swap; · iexact H9
    ipureintro
    refine (View.read_writes_eq_canon _ _ _ (View.cover_of_tiled _ ![1, 1024] rfl)).trans ?_
    refine (View.canon_cons_unit_lit _ _ _ (by decide)).trans ?_
    sl_unfold_run_names
    simp only [View.readAt_eq_ld, Memref.IsWhole.read_unread, ld_rows, ld_row, read_odd]
    rfl
  isplitl [HW]
  · iexists _; isplitr; swap; · iexact HW
    ipureintro; exact hfw
  isplitl [HE]
  · iexists _; isplitr; swap; · iexact HE
    ipureintro
    refine (View.read_writes_eq_canon _ _ _ (View.cover_of_tiled _ ![256, 1024] rfl)).trans ?_
    refine (View.canon_cons_unit_lit _ _ _ (by decide)).trans ?_
    sl_unfold_run_names
    simp only [View.readAt_eq_ld, Memref.IsWhole.read_unread, read_w]
    rfl
  iexists _; isplitr; swap; · iexact HO
  ipureintro; exact hfo

set_option maxHeartbeats 2000000 in
/-- A point of odd number. -/
theorem odd_run (c : Dev nD) (h1 : ¬ k0_cond1 i = 1#1) (h2 : ¬ k0_cond2 i = 1#1) (h3 : k0_cond3 i = 1#1) (h4 : ¬ k0_cond4 i = 1#1)
    (wd : Vec F S3 .i32) (a : Vec F S256x7424 .bf16) (x : Vec F S256x1024 .f32) (g : Vec F S1x1024 .f32) (res : Vec F S256x1024 .f32)
    (dg : Vec F S1x1024 .f32) (w : Vec F S7424x1024 .bf16) (p : Vec F S256x1024 .f32) (K : PUnit → sProp 𝕄) :
    iprop(inputsAre arg1 arg2 arg5 arg6 arg7 c wd a x g res ∗ (∃ d, owns (c : Thread nD τ) arg8 fullShare d) ∗ owns (c : Thread nD τ) arg9 fullShare dg
      ∗ owns (c : Thread nD τ) wM fullShare w ∗ (∃ d, owns (c : Thread nD τ) oddM fullShare d) ∗ owns (c : Thread nD τ) evenM fullShare p
      ∗ (iprop(inputsAre arg1 arg2 arg5 arg6 arg7 c wd a x g res ∗ owns (c : Thread nD τ) arg8 fullShare (k0_pay3 p x g res) ∗ owns (c : Thread nD τ) arg9 fullShare (k0_pay4 p x dg)
          ∗ owns (c : Thread nD τ) wM fullShare w ∗ owns (c : Thread nD τ) oddM fullShare (times a w) ∗ owns (c : Thread nD τ) evenM fullShare p) -∗ K ⟨⟩))
    ⊢ wp frame (wpE (defs₀ (F := F)) Variants.none c none) Set.univ (body i arg1 harg1 arg2 harg2 arg5 harg5 arg6 harg6 arg7 harg7 arg8 harg8 arg9 harg9) K := by
  haveI : Fact (¬ k0_cond1 i = 1#1) := ⟨h1⟩
  haveI : Fact (¬ k0_cond2 i = 1#1) := ⟨h2⟩
  haveI : Fact (k0_cond3 i = 1#1) := ⟨h3⟩
  haveI : Fact (¬ k0_cond4 i = 1#1) := ⟨h4⟩
  unfold body
  simp only [cc0_d_h_eq_skeleton, k0_part4_eq_skeleton, k0_part3_eq_skeleton]
  unfold inputsAre owns
  iintro ⟨⟨⟨%f1, %hf1, H1⟩, ⟨%f2, %hf2, H2⟩, ⟨%f5, %hf5, H5⟩, ⟨%f6, %hf6, H6⟩, ⟨%f7, %hf7, H7⟩⟩, ⟨%d8, %f8, -, H8⟩, ⟨%f9, %hf9, H9⟩, ⟨%fw, %hfw, HW⟩, ⟨%de, %fe, -, HE⟩, ⟨%fo, %hfo, HO⟩, Hk⟩
  obtain rfl := harg1.eq_unread hf1; obtain rfl := harg2.eq_unread hf2; obtain rfl := harg5.eq_unread hf5; obtain rfl := harg6.eq_unread hf6; obtain rfl := harg7.eq_unread hf7; obtain rfl := harg9.eq_unread hf9
  obtain rfl := (Memref.isWhole_whole _).eq_unread hfw; obtain rfl := (Memref.isWhole_whole _).eq_unread hfo
  sl_exec (disch := first | sl_exact h1 | sl_exact h2 | sl_exact h3 | sl_exact h4)
  sl_step
  iapply Hk
  isplitl [H1 H2 H5 H6 H7]
  · isplitl [H1]; · iexists _; isplitr; swap; · iexact H1
                    ipureintro; exact hf1
    isplitl [H2]; · iexists _; isplitr; swap; · iexact H2
                    ipureintro; exact hf2
    isplitl [H5]; · iexists _; isplitr; swap; · iexact H5
                    ipureintro; exact hf5
    isplitl [H6]; · iexists _; isplitr; swap; · iexact H6
                    ipureintro; exact hf6
    iexists _; isplitr; swap; · iexact H7
    ipureintro; exact hf7
  isplitl [H8]
  · iexists _; isplitr; swap; · iexact H8
    ipureintro
    refine (View.read_writes_eq_canon _ _ _ (View.cover_of_tiled _ ![256, 1024] rfl)).trans ?_
    refine (View.canon_cons_unit_lit _ _ _ (by decide)).trans ?_
    sl_unfold_run_names
    simp only [View.readAt_eq_ld, Memref.IsWhole.read_unread, ld_rows, ld_row, read_even]
    rfl
  isplitl [H9]
  · iexists _; isplitr; swap; · iexact H9
    ipureintro
    refine (View.read_writes_eq_canon _ _ _ (View.cover_of_tiled _ ![1, 1024] rfl)).trans ?_
    refine (View.canon_cons_unit_lit _ _ _ (by decide)).trans ?_
    sl_unfold_run_names
    simp only [View.readAt_eq_ld, Memref.IsWhole.read_unread, ld_rows, ld_row, read_even]
    rfl
  isplitl [HW]
  · iexists _; isplitr; swap; · iexact HW
    ipureintro; exact hfw
  isplitl [HE]
  · iexists _; isplitr; swap; · iexact HE
    ipureintro
    refine (View.read_writes_eq_canon _ _ _ (View.cover_of_tiled _ ![256, 1024] rfl)).trans ?_
    refine (View.canon_cons_unit_lit _ _ _ (by decide)).trans ?_
    sl_unfold_run_names
    simp only [View.readAt_eq_ld, Memref.IsWhole.read_unread, read_w]
    rfl
  iexists _; isplitr; swap; · iexact HO
  ipureintro; exact hfo

set_option maxHeartbeats 2000000 in
/-- The first point. -/
theorem first_run (c : Dev nD) (h1 : k0_cond1 i = 1#1) (h2 : ¬ k0_cond2 i = 1#1) (h3 : ¬ k0_cond3 i = 1#1) (h4 : ¬ k0_cond4 i = 1#1)
    (wd : Vec F S3 .i32) (hwd : View.ld wd (Rect.unit (s := S3) ![2] S1.size inb_S3_S1_2) = fun _ => 3#32) (a : Vec F S256x7424 .bf16) (x : Vec F S256x1024 .f32) (g : Vec F S1x1024 .f32) (res : Vec F S256x1024 .f32)
    (near : BufOf (F := F) c nearM) (far : BufOf (F := F) c farM) (Q : Waits sig Unit) (K : PUnit → sProp 𝕄) :
    iprop(inputsAre arg1 arg2 arg5 arg6 arg7 c wd a x g res ∗ (∃ d, owns (c : Thread nD τ) arg9 fullShare d)
      ∗ (∃ d, owns (c : Thread nD τ) wM fullShare d) ∗ (∃ d, owns (c : Thread nD τ) evenM fullShare d)
      ∗ held c nearM near ∗ held c farM far ∗ semVal ((c : Thread nD τ), SemLoc.dma 11) 0 ∗ owes (c : Thread nD τ) 0 Q
      ∗ (iprop(inputsAre arg1 arg2 arg5 arg6 arg7 c wd a x g res ∗ owns (c : Thread nD τ) arg9 fullShare (k0_pay5 (F := F))
          ∗ owns (c : Thread nD τ) wM fullShare (joined near far) ∗ owns (c : Thread nD τ) evenM fullShare (times a (joined near far))
          ∗ held c nearM near ∗ held c farM far ∗ semVal ((c : Thread nD τ), SemLoc.dma 11) 0 ∗ (∃ Q', owes (c : Thread nD τ) 0 Q')) -∗ K ⟨⟩))
    ⊢ wp frame (wpE (defs₀ (F := F)) Variants.none c none) Set.univ (body i arg1 harg1 arg2 harg2 arg5 harg5 arg6 harg6 arg7 harg7 arg8 harg8 arg9 harg9) K := by
  haveI : Fact (k0_cond1 i = 1#1) := ⟨h1⟩
  haveI : Fact (¬ k0_cond2 i = 1#1) := ⟨h2⟩
  haveI : Fact (¬ k0_cond3 i = 1#1) := ⟨h3⟩
  haveI : Fact (¬ k0_cond4 i = 1#1) := ⟨h4⟩
  unfold body
  simp only [cc0_d_h_eq_skeleton, k0_part4_eq_skeleton, k0_part1_eq_skeleton]
  unfold inputsAre owns
  iintro ⟨⟨⟨%f1, %hf1, H1⟩, ⟨%f2, %hf2, H2⟩, ⟨%f5, %hf5, H5⟩, ⟨%f6, %hf6, H6⟩, ⟨%f7, %hf7, H7⟩⟩, ⟨%d9, %f9, -, H9⟩, ⟨%dw, %fw, -, HW⟩, ⟨%de, %fe, -, HE⟩, HN, HF, HS, HQ, Hk⟩
  obtain rfl := harg1.eq_unread hf1; obtain rfl := harg2.eq_unread hf2
  sl_exec (disch := first | sl_exact h1 | sl_exact h2 | sl_exact h3 | sl_exact h4)
  have hr : first_run.sl.r arg1 harg1 c wd = 3#32 := by
    sl_unfold_run_names
    simp only [View.readAt_eq_ld, Memref.IsWhole.read_unread]
    exact congrFun hwd _
  have hk : k0_chk1 i (first_run.sl.r arg1 harg1 c wd) := by
    rw [hr]; exact ⟨fun _ => by decide, fun _ => by decide, fun _ _ => .inl (Affine.packed_dvd (of_decide_eq_true rfl) (by decide) (by decide))⟩
  haveI : ClosedOff (k0_off1 (first_run.sl.r arg1 harg1 c wd)) := ⟨![5568, 0], by rw [hr]; rfl⟩
  sl_exec (disch := first | sl_exact hk | sl_exact h1 | sl_exact h2 | sl_exact h3 | sl_exact h4)
  have hw : wM.view.read (Elt F) (first_run.sl.HW_w0 i arg1 harg1 c h1 wd near far fw hk) = joined near far := by
    sl_unfold_run_names
    exact read_joined _ (k0_off1_inb i _ hk h1) ((congrArg k0_off1 hr).trans rfl) fw near far
  sl_step
  iapply Hk
  isplitl [H1 H2 H5 H6 H7]
  · isplitl [H1]; · iexists _; isplitr; swap; · iexact H1
                    ipureintro; exact hf1
    isplitl [H2]; · iexists _; isplitr; swap; · iexact H2
                    ipureintro; exact hf2
    isplitl [H5]; · iexists _; isplitr; swap; · iexact H5
                    ipureintro; exact hf5
    isplitl [H6]; · iexists _; isplitr; swap; · iexact H6
                    ipureintro; exact hf6
    iexists _; isplitr; swap; · iexact H7
    ipureintro; exact hf7
  isplitl [H9]
  · iexists _; isplitr; swap; · iexact H9
    ipureintro
    refine (View.read_writes_eq_canon _ _ _ (View.cover_of_tiled _ ![1, 1024] rfl)).trans ?_
    refine (View.canon_cons_unit_lit _ _ _ (by decide)).trans ?_
    rfl
  isplitl [HW]
  · iexists _; isplitr; swap; · iexact HW
    ipureintro; exact hw
  isplitl [HE]
  · iexists _; isplitr; swap; · iexact HE
    ipureintro
    refine (View.read_writes_eq_canon _ _ _ (View.cover_of_tiled _ ![256, 1024] rfl)).trans ?_
    refine (View.canon_cons_unit_lit _ _ _ (by decide)).trans ?_
    unfold first_run.sl.r_1
    simp only [View.readAt_eq_ld, Memref.IsWhole.read_unread]
    rw [hw]
    rfl
  isplitl [HN]; · iexact HN
  isplitl [HF]; · iexact HF
  isplitl [HS]; · iexact HS
  iexists _; iexact HQ

set_option maxHeartbeats 2000000 in
/-- The last point. -/
theorem last_run (c : Dev nD) (h1 : ¬ k0_cond1 i = 1#1) (h2 : ¬ k0_cond2 i = 1#1) (h3 : ¬ k0_cond3 i = 1#1) (h4 : k0_cond4 i = 1#1)
    (wd : Vec F S3 .i32) (a : Vec F S256x7424 .bf16) (x : Vec F S256x1024 .f32) (g : Vec F S1x1024 .f32) (res : Vec F S256x1024 .f32)
    (dg : Vec F S1x1024 .f32) (p : Vec F S256x1024 .f32) (K : PUnit → sProp 𝕄) :
    iprop(inputsAre arg1 arg2 arg5 arg6 arg7 c wd a x g res ∗ (∃ d, owns (c : Thread nD τ) arg8 fullShare d) ∗ owns (c : Thread nD τ) arg9 fullShare dg
      ∗ owns (c : Thread nD τ) oddM fullShare p
      ∗ (iprop(inputsAre arg1 arg2 arg5 arg6 arg7 c wd a x g res ∗ owns (c : Thread nD τ) arg8 fullShare (k0_pay3 p x g res) ∗ owns (c : Thread nD τ) arg9 fullShare (k0_pay4 p x dg)
          ∗ owns (c : Thread nD τ) oddM fullShare p) -∗ K ⟨⟩))
    ⊢ wp frame (wpE (defs₀ (F := F)) Variants.none c none) Set.univ (body i arg1 harg1 arg2 harg2 arg5 harg5 arg6 harg6 arg7 harg7 arg8 harg8 arg9 harg9) K := by
  haveI : Fact (¬ k0_cond1 i = 1#1) := ⟨h1⟩
  haveI : Fact (¬ k0_cond2 i = 1#1) := ⟨h2⟩
  haveI : Fact (¬ k0_cond3 i = 1#1) := ⟨h3⟩
  haveI : Fact (k0_cond4 i = 1#1) := ⟨h4⟩
  unfold body
  simp only [cc0_d_h_eq_skeleton, k0_part4_eq_skeleton]
  unfold inputsAre owns
  iintro ⟨⟨⟨%f1, %hf1, H1⟩, ⟨%f2, %hf2, H2⟩, ⟨%f5, %hf5, H5⟩, ⟨%f6, %hf6, H6⟩, ⟨%f7, %hf7, H7⟩⟩, ⟨%d8, %f8, -, H8⟩, ⟨%f9, %hf9, H9⟩, ⟨%fo, %hfo, HO⟩, Hk⟩
  obtain rfl := harg5.eq_unread hf5; obtain rfl := harg6.eq_unread hf6; obtain rfl := harg7.eq_unread hf7; obtain rfl := harg9.eq_unread hf9
  obtain rfl := (Memref.isWhole_whole _).eq_unread hfo
  sl_exec (disch := first | sl_exact h1 | sl_exact h2 | sl_exact h3 | sl_exact h4)
  sl_step
  iapply Hk
  isplitl [H1 H2 H5 H6 H7]
  · isplitl [H1]; · iexists _; isplitr; swap; · iexact H1
                    ipureintro; exact hf1
    isplitl [H2]; · iexists _; isplitr; swap; · iexact H2
                    ipureintro; exact hf2
    isplitl [H5]; · iexists _; isplitr; swap; · iexact H5
                    ipureintro; exact hf5
    isplitl [H6]; · iexists _; isplitr; swap; · iexact H6
                    ipureintro; exact hf6
    iexists _; isplitr; swap; · iexact H7
    ipureintro; exact hf7
  isplitl [H8]
  · iexists _; isplitr; swap; · iexact H8
    ipureintro
    refine (View.read_writes_eq_canon _ _ _ (View.cover_of_tiled _ ![256, 1024] rfl)).trans ?_
    refine (View.canon_cons_unit_lit _ _ _ (by decide)).trans ?_
    sl_unfold_run_names
    simp only [View.readAt_eq_ld, Memref.IsWhole.read_unread, ld_rows, ld_row, read_odd]
  isplitl [H9]
  · iexists _; isplitr; swap; · iexact H9
    ipureintro
    refine (View.read_writes_eq_canon _ _ _ (View.cover_of_tiled _ ![1, 1024] rfl)).trans ?_
    refine (View.canon_cons_unit_lit _ _ _ (by decide)).trans ?_
    sl_unfold_run_names
    simp only [View.readAt_eq_ld, Memref.IsWhole.read_unread, ld_rows, ld_row, read_odd]
  iexists _; isplitr; swap; · iexact HO
  ipureintro; exact hfo
end Body
end Cert.Kernel4Ideal.Normed

end
-- ==== Proof.NormedLaunch.lean ====
/- The launch of the in-projection's input gradient and the first normalisation: what the pipeline's buffers hold before and after
   every grid point, the body's obligation, and the run of the whole program. -/
module

public import proofs.«01_k».proof.Proof.Normed

@[expose] public section

set_option maxRecDepth 16384

noncomputable section

namespace Cert.Kernel4Ideal.Normed

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-! ## The windows' buffers at a point, and which point it is -/

abbrev win0 (t : Fin cfg0.N) : Memref sig .tc .smem S3 .i32 := win0_0.stage (cfg0.slots t 0)
abbrev win1 (t : Fin cfg0.N) : Memref sig .tc .vmem S256x7424 .bf16 := win0_1.stage (cfg0.slots t 1)
abbrev win2 (t : Fin cfg0.N) : Memref sig .tc .vmem S256x1024 .f32 := win0_2.stage (cfg0.slots t 2)
abbrev win3 (t : Fin cfg0.N) : Memref sig .tc .vmem S1x1024 .f32 := win0_3.stage (cfg0.slots t 3)
abbrev win4 (t : Fin cfg0.N) : Memref sig .tc .vmem S256x1024 .f32 := win0_4.stage (cfg0.slots t 4)
abbrev win5 (t : Fin cfg0.N) : Memref sig .tc .vmem S256x1024 .f32 := win0_5.stage (cfg0.slots t 5)
abbrev win6 (t : Fin cfg0.N) : Memref sig .tc .vmem S1x1024 .f32 := win0_6.stage (cfg0.slots t 6)
theorem whole0 (t : Fin cfg0.N) : (win0 t).IsWhole := hstage0_0 ((cfg0.slots t 0).cast nbuf0_0)
theorem whole1 (t : Fin cfg0.N) : (win1 t).IsWhole := hstage0_1 ((cfg0.slots t 1).cast nbuf0_1)
theorem whole2 (t : Fin cfg0.N) : (win2 t).IsWhole := hstage0_2 ((cfg0.slots t 2).cast nbuf0_2)
theorem whole3 (t : Fin cfg0.N) : (win3 t).IsWhole := hstage0_3 ((cfg0.slots t 3).cast nbuf0_3)
theorem whole4 (t : Fin cfg0.N) : (win4 t).IsWhole := hstage0_4 ((cfg0.slots t 4).cast nbuf0_4)
theorem whole5 (t : Fin cfg0.N) : (win5 t).IsWhole := hstage0_5 ((cfg0.slots t 5).cast nbuf0_5)
theorem whole6 (t : Fin cfg0.N) : (win6 t).IsWhole := hstage0_6 ((cfg0.slots t 6).cast nbuf0_6)

theorem cond1_iff : ∀ t : Fin cfg0.N, k0_cond1 (grid0.coords t) = 1#1 ↔ t.val = 0 :=
  (by decide +kernel : ∀ t : Fin grid0.N, k0_cond1 (grid0.coords t) = 1#1 ↔ t.val = 0)
theorem cond2_iff : ∀ t : Fin cfg0.N, k0_cond2 (grid0.coords t) = 1#1 ↔ t.val % 2 = 0 ∧ t.val ≠ 0 ∧ t.val ≠ 16 :=
  (by decide +kernel : ∀ t : Fin grid0.N, k0_cond2 (grid0.coords t) = 1#1 ↔ t.val % 2 = 0 ∧ t.val ≠ 0 ∧ t.val ≠ 16)
theorem cond3_iff : ∀ t : Fin cfg0.N, k0_cond3 (grid0.coords t) = 1#1 ↔ t.val % 2 = 1 :=
  (by decide +kernel : ∀ t : Fin grid0.N, k0_cond3 (grid0.coords t) = 1#1 ↔ t.val % 2 = 1)
theorem cond4_iff : ∀ t : Fin cfg0.N, k0_cond4 (grid0.coords t) = 1#1 ↔ t.val = 16 :=
  (by decide +kernel : ∀ t : Fin grid0.N, k0_cond4 (grid0.coords t) = 1#1 ↔ t.val = 16)
theorem idle5_iff : ∀ t : Fin cfg0.N, cfg0.idle 5 (grid0.coords t) = true ↔ t.val = 0 :=
  (by decide +kernel : ∀ t : Fin grid0.N, idle0 5 (grid0.coords t) = true ↔ t.val = 0)
theorem live6 : ∀ i, cfg0.idle 6 i = false :=
  (by decide +kernel : ∀ i : grid0.Coords, idle0 6 i = false)
theorem flush5_first : ∀ t : Fin cfg0.N, t.val = 0 → (cfg0.win 5).flush t = false :=
  (by decide +kernel : ∀ t : Fin grid0.N, t.val = 0 → win0_5.flush t = false)
theorem points : cfg0.N = 17 := N_0

variable (m : (ℓ : Loc nD τ sig) → Buf (Elt F) ℓ) (ρ : Dev nD → PrngReg)

/-! ## What the points leave -/

/-- The weights as they are brought in. -/
def weights (c : Dev nD) : Vec F S7424x1024 .bf16 := joined (V m c main_v7) (V m c main_v8)
/-- The gradient of the normalised rows, the block of rows multiplied out at point `t`. -/
def dh (c : Dev nD) (t : Fin cfg0.N) : Vec F S256x1024 .f32 := times (iblk m c 1 t) (weights m c)
/-- The point before `t`. -/
abbrev prev (t : Fin cfg0.N) : Fin cfg0.N := ⟨t.val - 1, lt_of_le_of_lt (Nat.sub_le _ _) t.isLt⟩
/-- The block of the rows' gradient left at point `t`. -/
def dxAt (c : Dev nD) (t : Fin cfg0.N) : Vec F S256x1024 .f32 := k0_pay3 (dh m c (prev t)) (iblk m c 2 t) (iblk m c 3 t) (iblk m c 4 t)
/-- The gain's gradient, summed over the blocks up to point `k`. -/
def dgAt (c : Dev nD) : ℕ → Vec F S1x1024 .f32
  | 0 => k0_pay5
  | k + 1 => if h : k + 1 < cfg0.N then k0_pay4 (dh m c (prev ⟨k + 1, h⟩)) (iblk m c 2 ⟨k + 1, h⟩) (dgAt c k) else dgAt c k

theorem dgAt_pos (c : Dev nD) (t : Fin cfg0.N) (h : t.val ≠ 0) : dgAt m c t.val = k0_pay4 (dh m c (prev t)) (iblk m c 2 t) (dgAt m c (t.val - 1)) := by
  obtain ⟨k, hk⟩ := t
  obtain ⟨n, rfl⟩ := Nat.exists_eq_succ_of_ne_zero h
  show dgAt m c (n + 1) = _
  rw [dgAt, dif_pos hk]; rfl

/-- The invariant before point `k`: the weights in place after the first point; the block multiplied out at the point before, in its
    buffer; the weights' sources, the cell of the copies and the generator register, which no point changes. -/
def inv (c : Dev nD) (k : ℕ) : sProp 𝕄 :=
  iprop((∃ w, ⌜k ≠ 0 → w = weights m c⌝ ∗ owns (c : Thread nD τ) wM fullShare w)
    ∗ (∃ e, ⌜∀ t : Fin cfg0.N, t.val + 1 = k → t.val ≠ 16 → t.val % 2 = 0 → e = dh m c t⌝ ∗ owns (c : Thread nD τ) evenM fullShare e)
    ∗ (∃ o, ⌜∀ t : Fin cfg0.N, t.val + 1 = k → t.val % 2 = 1 → o = dh m c t⌝ ∗ owns (c : Thread nD τ) oddM fullShare o)
    ∗ held c nearM (V m c main_v7) ∗ held c farM (V m c main_v8) ∗ semVal ((c : Thread nD τ), SemLoc.dma 11) 0 ∗ (∃ r, prngReg c r))

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dxAt m c t
    | ⟨6, _⟩ => dgAt m c t.val
  Φ t := inv m c t.val
  q _ := fullShare
  owed _ := 0

theorem A_eq (c : Dev nD) (w : Fin cfg0.W) : (dats m 0 c).A w = V m c (Pipeline.arrRef spec0 w) := by dsimp only [dats]
theorem inv_castSucc (c : Dev nD) (t : Fin cfg0.N) : (dats m 0 c).Φ t.castSucc = inv m c t.val := by
  dsimp only [dats]; simp only [Fin.coe_castSucc]
theorem inv_succ (c : Dev nD) (t : Fin cfg0.N) : (dats m 0 c).Φ t.succ = inv m c (t.val + 1) := by
  dsimp only [dats]; simp only [Fin.val_succ]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = dxAt m c t := by dsimp only [dats]
theorem after6 (c : Dev nD) (t : Fin cfg0.N) : (dats m 0 c).after 6 t = dgAt m c t.val := by dsimp only [dats]

/-- An input's buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
/-- The rows' gradient's buffer is unwritten at the first point; the gain's holds, from the second point on, the sum so far. -/
theorem before5 (c : Dev nD) (t : Fin cfg0.N) (h : t.val = 0) (d) : (dats m 0 c).before 5 t d = d :=
  (dats m 0 c).before_out_reset 5 rfl t (.inl h) d
theorem before6 (c : Dev nD) (t : Fin cfg0.N) (h : t.val ≠ 0) (d) : (dats m 0 c).before 6 t d = dgAt m c (t.val - 1) :=
  ((dats m 0 c).before_out_kept 6 rfl t h (Bool.eq_false_iff.2 fun hf => by
      have h16 := (flush0_6 _).1 hf
      have := lt_of_lt_of_eq t.isLt points
      dsimp only at h16; omega) live6 (fun _ _ => rfl) d).trans (after6 m c _)

theorem leaves5_first (c : Dev nD) (t : Fin cfg0.N) (h : t.val = 0) :
    (dats m 0 c).leavesExact 5 t = iprop(∃ d, owns (c : Thread nD τ) (win5 t) fullShare ((dats m 0 c).before 5 t d)) :=
  (dats m 0 c).leavesExact_idle 5 t ((idle5_iff t).2 h) (flush5_first t h)
theorem leaves5 (c : Dev nD) (t : Fin cfg0.N) (h : t.val ≠ 0) :
    (dats m 0 c).leavesExact 5 t = owns (c : Thread nD τ) (win5 t) fullShare (dxAt m c t) := by
  unfold Dat.leavesExact
  rw [show cfg0.idle 5 (cfg0.grid.coords t) = false from Bool.eq_false_iff.2 fun hi => h ((idle5_iff t).1 hi), after5]

/-! ## The body at a point -/

/-- The table's last word. -/
theorem word (c : Dev nD) (t : Fin cfg0.N) : View.ld (iblk m c 0 t) (Rect.unit (s := S3) ![2] S1.size inb_S3_S1_2) = fun _ => 3#32 := by
  have e : V m c main_v12 = concatenate S3 0 [⟨S1, (broadcastInDim S1 ![] bcast_S_S1 (constantI S_ 32 0#32) : (⟨S1, .i32⟩ : BufTy).Contents (Elt F))⟩,
      ⟨S1, (broadcastInDim S1 ![] bcast_S_S1 (constantI S_ 32 0#32) : (⟨S1, .i32⟩ : BufTy).Contents (Elt F))⟩,
      ⟨S1, (broadcastInDim S1 ![] bcast_S_S1 (constantI S_ 32 3#32) : (⟨S1, .i32⟩ : BufTy).Contents (Elt F))⟩] concatenates_S1_S1_S1_S3_d0 := by
    unfold V; after_results_simp <;> (try dsimp only [Matrix.cons_val]) <;> (try after_results_simp) <;> rfl
  unfold iblk
  rw [show V m c (Pipeline.arrRef spec0 0) = V m c main_v12 from rfl, e]
  funext y
  change S1.Idx at y
  obtain rfl : y = fun a => ⟨0, (by decide : ∀ a, 0 < S1.size a) a⟩ := funext fun a => by fin_cases a; exact Subsingleton.elim (α := Fin 1) _ _
  rfl

/-- The inputs' buffers at their blocks. -/
abbrev ins (c : Dev nD) (t : Fin cfg0.N) : sProp 𝕄 :=
  inputsAre (win0 t) (win1 t) (win2 t) (win3 t) (win4 t) c (iblk m c 0 t) (iblk m c 1 t) (iblk m c 2 t) (iblk m c 3 t) (iblk m c 4 t)

/-- What a point leaves. -/
abbrev leaves (c : Dev nD) (t : Fin cfg0.N) : sProp 𝕄 :=
  iprop(inv m c (t.val + 1) ∗ (∃ Q, owes (c : Thread nD τ) 0 Q) ∗ ins m c t ∗ (dats m 0 c).leavesExact 5 t ∗ owns (c : Thread nD τ) (win6 t) fullShare (dgAt m c t.val))

set_option maxHeartbeats 1000000 in
theorem body_run (c : Dev nD) (t : Fin cfg0.N) :
    iprop(inv m c t.val ∗ (∃ Q, owes (c : Thread nD τ) 0 Q) ∗ ins m c t ∗ (∃ d, owns (c : Thread nD τ) (win5 t) fullShare d)
      ∗ (∃ d, owns (c : Thread nD τ) (win6 t) fullShare ((dats m 0 c).before 6 t d)))
    ⊢ wp frame (wpE (defs₀ (F := F)) Variants.none c none) Set.univ (bodyAt0 t) (fun _ => leaves m c t) := by
  have hN : t.val < 17 := lt_of_lt_of_eq t.isLt points
  show _ ⊢ wp frame (wpE (defs₀ (F := F)) Variants.none c none) Set.univ (body (grid0.coords t) (win0 t) (whole0 t) (win1 t) (whole1 t) (win2 t) (whole2 t) (win3 t) (whole3 t) (win4 t) (whole4 t) (win5 t) (whole5 t) (win6 t) (whole6 t)) _
  unfold leaves inv
  by_cases h0 : t.val = 0
  · rw [leaves5_first m c t h0]
    simp only [before5 m c t h0]
    iintro ⟨⟨⟨%w, -, HW⟩, ⟨%e, -, HE⟩, ⟨%o, -, HO⟩, Hn, Hf, Hs, Hp⟩, ⟨%Q, HQ⟩, Hi, H5, ⟨%d6, H6⟩⟩
    iapply (first_run (grid0.coords t) (win0 t) (whole0 t) (win1 t) (whole1 t) (win2 t) (whole2 t) (win3 t) (whole3 t) (win4 t) (whole4 t) (win5 t) (whole5 t) (win6 t) (whole6 t) c
      ((cond1_iff t).2 h0) (fun h => ((cond2_iff t).1 h).2.1 h0) (fun h => by have := (cond3_iff t).1 h; omega) (fun h => by have := (cond4_iff t).1 h; omega)
      _ (word m c t) _ _ _ _ (V m c main_v7) (V m c main_v8) Q _)
    isplitl [Hi]; · iexact Hi
    isplitl [H6]; · iexists _; iexact H6
    isplitl [HW]; · iexists _; iexact HW
    isplitl [HE]; · iexists _; iexact HE
    isplitl [Hn]; · iexact Hn
    isplitl [Hf]; · iexact Hf
    isplitl [Hs]; · iexact Hs
    isplitl [HQ]; · iexact HQ
    iintro ⟨Hi, H6, HW, HE, Hn, Hf, Hs, HQ⟩
    isplitl [HW HE HO Hn Hf Hs Hp]
    · isplitl [HW]
      · iexists _; isplitr; swap; · iexact HW
        ipureintro; exact fun _ => rfl
      isplitl [HE]
      · iexists _; isplitr; swap; · iexact HE
        ipureintro; intro u hu _ _
        obtain rfl : u = t := Fin.ext (by omega)
        rfl
      isplitl [HO]
      · iexists _; isplitr; swap; · iexact HO
        ipureintro; intro u hu hodd; omega
      isplitl [Hn]; · iexact Hn
      isplitl [Hf]; · iexact Hf
      isplitl [Hs]; · iexact Hs
      iexact Hp
    isplitl [HQ]; · iexact HQ
    isplitl [Hi]; · iexact Hi
    isplitl [H5]; · iexact H5
    rw [show dgAt m c t.val = k0_pay5 by rw [h0]; rfl]
    iexact H6
  rw [leaves5 m c t h0, dgAt_pos m c t h0]
  simp only [before6 m c t h0]
  have n1 : ¬ k0_cond1 (grid0.coords t) = 1#1 := fun h => h0 ((cond1_iff t).1 h)
  by_cases hl : t.val = 16
  · iintro ⟨⟨⟨%w, %hw, HW⟩, ⟨%e, -, HE⟩, ⟨%o, %ho, HO⟩, Hn, Hf, Hs, Hp⟩, HQ, Hi, H5, ⟨%d6, H6⟩⟩
    obtain rfl := ho (prev t) (by show t.val - 1 + 1 = _; omega) (by show (t.val - 1) % 2 = 1; omega)
    iapply (last_run (grid0.coords t) (win0 t) (whole0 t) (win1 t) (whole1 t) (win2 t) (whole2 t) (win3 t) (whole3 t) (win4 t) (whole4 t) (win5 t) (whole5 t) (win6 t) (whole6 t) c
      n1 (fun h => ((cond2_iff t).1 h).2.2 hl) (fun h => by have := (cond3_iff t).1 h; omega) ((cond4_iff t).2 hl) _ _ _ _ _ _ _ _)
    isplitl [Hi]; · iexact Hi
    isplitl [H5]; · iexact H5
    isplitl [H6]; · iexact H6
    isplitl [HO]; · iexact HO
    iintro ⟨Hi, H5, H6, HO⟩
    isplitl [HW HE HO Hn Hf Hs Hp]
    · isplitl [HW]
      · iexists _; isplitr; swap; · iexact HW
        ipureintro; exact fun _ => hw h0
      isplitl [HE]
      · iexists _; isplitr; swap; · iexact HE
        ipureintro; intro u hu h16 _; omega
      isplitl [HO]
      · iexists _; isplitr; swap; · iexact HO
        ipureintro; intro u hu hodd; omega
      isplitl [Hn]; · iexact Hn
      isplitl [Hf]; · iexact Hf
      isplitl [Hs]; · iexact Hs
      iexact Hp
    isplitl [HQ]; · iexact HQ
    isplitl [Hi]; · iexact Hi
    isplitl [H5]; · iexact H5
    iexact H6
  have n4 : ¬ k0_cond4 (grid0.coords t) = 1#1 := fun h => hl ((cond4_iff t).1 h)
  by_cases hp : t.val % 2 = 0
  · iintro ⟨⟨⟨%w, %hw, HW⟩, ⟨%e, -, HE⟩, ⟨%o, %ho, HO⟩, Hn, Hf, Hs, Hp⟩, HQ, Hi, H5, ⟨%d6, H6⟩⟩
    obtain rfl := hw h0
    obtain rfl := ho (prev t) (by show t.val - 1 + 1 = _; omega) (by show (t.val - 1) % 2 = 1; omega)
    iapply (even_run (grid0.coords t) (win0 t) (whole0 t) (win1 t) (whole1 t) (win2 t) (whole2 t) (win3 t) (whole3 t) (win4 t) (whole4 t) (win5 t) (whole5 t) (win6 t) (whole6 t) c
      n1 ((cond2_iff t).2 ⟨hp, h0, hl⟩) (fun h => by have := (cond3_iff t).1 h; omega) n4 _ _ _ _ _ _ _ _ _)
    isplitl [Hi]; · iexact Hi
    isplitl [H5]; · iexact H5
    isplitl [H6]; · iexact H6
    isplitl [HW]; · iexact HW
    isplitl [HE]; · iexists _; iexact HE
    isplitl [HO]; · iexact HO
    iintro ⟨Hi, H5, H6, HW, HE, HO⟩
    isplitl [HW HE HO Hn Hf Hs Hp]
    · isplitl [HW]
      · iexists _; isplitr; swap; · iexact HW
        ipureintro; exact fun _ => rfl
      isplitl [HE]
      · iexists _; isplitr; swap; · iexact HE
        ipureintro; intro u hu _ _
        obtain rfl : u = t := Fin.ext (by omega)
        rfl
      isplitl [HO]
      · iexists _; isplitr; swap; · iexact HO
        ipureintro; intro u hu hodd; omega
      isplitl [Hn]; · iexact Hn
      isplitl [Hf]; · iexact Hf
      isplitl [Hs]; · iexact Hs
      iexact Hp
    isplitl [HQ]; · iexact HQ
    isplitl [Hi]; · iexact Hi
    isplitl [H5]; · iexact H5
    iexact H6
  iintro ⟨⟨⟨%w, %hw, HW⟩, ⟨%e, %he, HE⟩, ⟨%o, -, HO⟩, Hn, Hf, Hs, Hp⟩, HQ, Hi, H5, ⟨%d6, H6⟩⟩
  obtain rfl := hw h0
  obtain rfl := he (prev t) (by show t.val - 1 + 1 = _; omega) (by show t.val - 1 ≠ 16; omega) (by show (t.val - 1) % 2 = 0; omega)
  iapply (odd_run (grid0.coords t) (win0 t) (whole0 t) (win1 t) (whole1 t) (win2 t) (whole2 t) (win3 t) (whole3 t) (win4 t) (whole4 t) (win5 t) (whole5 t) (win6 t) (whole6 t) c
    n1 (fun h => hp ((cond2_iff t).1 h).1) ((cond3_iff t).2 (by omega)) n4 _ _ _ _ _ _ _ _ _)
  isplitl [Hi]; · iexact Hi
  isplitl [H5]; · iexact H5
  isplitl [H6]; · iexact H6
  isplitl [HW]; · iexact HW
  isplitl [HO]; · iexists _; iexact HO
  isplitl [HE]; · iexact HE
  iintro ⟨Hi, H5, H6, HW, HO, HE⟩
  isplitl [HW HE HO Hn Hf Hs Hp]
  · isplitl [HW]
    · iexists _; isplitr; swap; · iexact HW
      ipureintro; exact fun _ => rfl
    isplitl [HE]
    · iexists _; isplitr; swap; · iexact HE
      ipureintro; intro u hu _ heven; omega
    isplitl [HO]
    · iexists _; isplitr; swap; · iexact HO
      ipureintro; intro u hu _
      obtain rfl : u = t := Fin.ext (by omega)
      rfl
    isplitl [Hn]; · iexact Hn
    isplitl [Hf]; · iexact Hf
    isplitl [Hs]; · iexact Hs
    iexact Hp
  isplitl [HQ]; · iexact HQ
  isplitl [Hi]; · iexact Hi
  isplitl [H5]; · iexact H5
  iexact H6

/-- What the pipeline calls the body with, window by window, and what it expects back. -/
def bodyPre (c : Dev nD) (t : Fin cfg0.N) : sProp 𝕄 :=
  iprop((dats m 0 c).Φ t.castSucc ∗ (dats m 0 c).owesAt () t.castSucc
    ∗ (∃ d, owns (c : Thread nD τ) (win0 t) fullShare ((dats m 0 c).before 0 t d))
    ∗ (∃ d, owns (c : Thread nD τ) (win1 t) fullShare ((dats m 0 c).before 1 t d))
    ∗ (∃ d, owns (c : Thread nD τ) (win2 t) fullShare ((dats m 0 c).before 2 t d))
    ∗ (∃ d, owns (c : Thread nD τ) (win3 t) fullShare ((dats m 0 c).before 3 t d))
    ∗ (∃ d, owns (c : Thread nD τ) (win4 t) fullShare ((dats m 0 c).before 4 t d))
    ∗ (∃ d, owns (c : Thread nD τ) (win5 t) fullShare ((dats m 0 c).before 5 t d))
    ∗ (∃ d, owns (c : Thread nD τ) (win6 t) fullShare ((dats m 0 c).before 6 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem pre_in (c : Dev nD) (t : Fin cfg0.N) : bodyPre m c t ⊢ iprop(inv m c t.val ∗ (∃ Q, owes (c : Thread nD τ) 0 Q) ∗ ins m c t
    ∗ (∃ d, owns (c : Thread nD τ) (win5 t) fullShare d) ∗ (∃ d, owns (c : Thread nD τ) (win6 t) fullShare ((dats m 0 c).before 6 t d))) := by
  unfold bodyPre
  simp only [before0, before1, before2, before3, before4]
  rw [inv_castSucc m c t]
  unfold Dat.owesAt Pipeline.owesWithin
  rw [show (dats m 0 c).owed t.castSucc = 0 from rfl]
  iintro ⟨HI, ⟨%Q, -, HQ⟩, ⟨%d0, H0⟩, ⟨%d1, H1⟩, ⟨%d2, H2⟩, ⟨%d3, H3⟩, ⟨%d4, H4⟩, ⟨%d5, H5⟩, H6⟩
  isplitl [HI]; · iexact HI
  isplitl [HQ]; · iexists _; iexact HQ
  isplitl [H0 H1 H2 H3 H4]
  · isplitl [H0]; · iexact H0
    isplitl [H1]; · iexact H1
    isplitl [H2]; · iexact H2
    isplitl [H3]; · iexact H3
    iexact H4
  isplitl [H5]; · iexists _; iexact H5
  iexact H6
theorem post_out (c : Dev nD) (t : Fin cfg0.N) : leaves m c t ⊢ bodyPost m c t := by
  unfold bodyPost
  rw [show (dats m 0 c).leavesExact 0 t = owns (c : Thread nD τ) (win0 t) fullShare ((dats m 0 c).after 0 t) from by
    unfold Dat.leavesExact; rw [show cfg0.idle 0 (grid0.coords t) = false from rfl], after0]
  rw [show (dats m 0 c).leavesExact 1 t = owns (c : Thread nD τ) (win1 t) fullShare ((dats m 0 c).after 1 t) from by
    unfold Dat.leavesExact; rw [show cfg0.idle 1 (grid0.coords t) = false from rfl], after1]
  rw [show (dats m 0 c).leavesExact 2 t = owns (c : Thread nD τ) (win2 t) fullShare ((dats m 0 c).after 2 t) from by
    unfold Dat.leavesExact; rw [show cfg0.idle 2 (grid0.coords t) = false from rfl], after2]
  rw [show (dats m 0 c).leavesExact 3 t = owns (c : Thread nD τ) (win3 t) fullShare ((dats m 0 c).after 3 t) from by
    unfold Dat.leavesExact; rw [show cfg0.idle 3 (grid0.coords t) = false from rfl], after3]
  rw [show (dats m 0 c).leavesExact 4 t = owns (c : Thread nD τ) (win4 t) fullShare ((dats m 0 c).after 4 t) from by
    unfold Dat.leavesExact; rw [show cfg0.idle 4 (grid0.coords t) = false from rfl], after4]
  rw [show (dats m 0 c).leavesExact 6 t = owns (c : Thread nD τ) (win6 t) fullShare ((dats m 0 c).after 6 t) from by
    unfold Dat.leavesExact; rw [show cfg0.idle 6 (grid0.coords t) = false from live6 _], after6]
  rw [inv_succ m c t]
  unfold Dat.owesAt Pipeline.owesWithin
  rw [show (dats m 0 c).owed t.succ = 0 from rfl]
  iintro ⟨HI, ⟨%Q, HQ⟩, ⟨H0, H1, H2, H3, H4⟩, H5, H6⟩
  isplitl [HI]; · iexact HI
  isplitl [HQ]
  · iexists Q; isplitr; · ipureintro; exact fun _ _ => Or.inl trivial
    iexact HQ
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) : defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (P := bodyPre m c t) (Q := fun _ => bodyPost m c t) ((pre_in m c t).trans ((body_run m c t).trans ((wp frame (wpE (defs₀ (F := F)) Variants.none c none) Set.univ (bodyAt0 t)).mono fun _ => post_out m c t))) rfl .rfl fun _ => .rfl

/-! ## The launch -/

/-- The kernel's own semaphore cell. -/
abbrev osem : Fin 1 → SemLoc sig := fun _ => SemLoc.dma 11
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = semVal ((c : Thread nD τ), SemLoc.dma 11) 0 := by
  rw [Pipeline.ownSems0_eq_of_list c osem [0] (by decide) (by decide)]; rfl
/-- The weights' two sources, read by the copies. -/
def readRefs : Finset (Ref sig .tc) := {main_v7, main_v8}
theorem readRefs_sub : readRefs ⊆ Pipeline.restRefs sig spec0 := by decide

theorem handed (c : Dev nD) :
    (Pipeline.ΦD osem spec0 readRefs (V m) c : sProp 𝕄)
      = iprop(iprop((∃ d, owns (c : Thread nD τ) wM fullShare d) ∗ (∃ d, owns (c : Thread nD τ) evenM fullShare d) ∗ (∃ d, owns (c : Thread nD τ) oddM fullShare d))
          ∗ (∃ r, prngReg c r) ∗ semVal ((c : Thread nD τ), SemLoc.dma 11) 0
          ∗ iprop(held c nearM (V m c main_v7) ∗ held c farM (V m c main_v8))) := by
  rw [Pipeline.ΦD_eq, scopedRest0_eq, ownSems_eq, show (bigSep readRefs fun b => ((c : Thread nD τ).loc b) ↦{fullShare} V m c b : sProp 𝕄) = iprop(held c nearM (V m c main_v7) ∗ held c farM (V m c main_v8)) from by
    rw [BI.bigSep_eq_bigSepL_of_eq [main_v7, main_v8] (by decide) (by decide)]; rfl]
  simp only [wM, evenM, oddM, owns_whole]; try rfl

theorem hin (c : Dev nD) : Pipeline.ΦD osem spec0 readRefs (V m) c ⊢ (dats m 0 c).Φ 0 := by
  rw [handed, show (dats m 0 c).Φ 0 = inv m c 0 from rfl]
  unfold inv
  iintro ⟨⟨⟨%w, HW⟩, ⟨%e, HE⟩, ⟨%o, HO⟩⟩, Hp, Hs, ⟨Hn, Hf⟩⟩
  isplitl [HW]
  · iexists w; isplitr; · ipureintro; exact fun h => absurd rfl h
    iexact HW
  isplitl [HE]
  · iexists e; isplitr; · ipureintro; exact fun t h => absurd h (Nat.succ_ne_zero _)
    iexact HE
  isplitl [HO]
  · iexists o; isplitr; · ipureintro; exact fun t h => absurd h (Nat.succ_ne_zero _)
    iexact HO
  isplitl [Hn]; · iexact Hn
  isplitl [Hf]; · iexact Hf
  isplitl [Hs]; · iexact Hs
  iexact Hp
theorem hout (c : Dev nD) : (dats m 0 c).Φ (Fin.last cfg0.N) ⊢ Pipeline.ΦD osem spec0 readRefs (V m) c := by
  rw [handed, show (dats m 0 c).Φ (Fin.last cfg0.N) = inv m c grid0.N from rfl]
  unfold inv
  iintro ⟨⟨%w, -, HW⟩, ⟨%e, -, HE⟩, ⟨%o, -, HO⟩, Hn, Hf, Hs, Hp⟩
  isplitl [HW HE HO]
  · isplitl [HW]; · iexists _; iexact HW
    isplitl [HE]; · iexists _; iexact HE
    iexists _; iexact HO
  isplitl [Hp]; · iexact Hp
  isplitl [Hs]; · iexact Hs
  isplitl [Hn]; · iexact Hn
  iexact Hf

theorem enters : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

-- the theorem's implicit arguments are found by unifying its conclusion with this one
set_option backward.isDefEq.respectTransparency.types false in
/-- The run of the whole program: every array of the pipeline, every other buffer and the semaphores. -/
theorem run_main : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem defs₀ Variants.none ownSemFacts readRefs readRefs_sub m ρ main
    (hbody := fun c => (body_obligation m c).loose) (hshare := fun c => (dats m 0 c).share_full fun _ => rfl)
    (howed := fun _ _ => rfl) (V := V m) (hmain := enters m) (hA := A_eq m) (hin := hin m) (hout := hout m)

/-- The run, said of the program's arguments and results. -/
theorem run_results : θ_run defs (onTc (τ := τ) (main (F := F))) ⟨m, fun _ => 0, ρ⟩ (fun r => (∀ c : Dev nD,
      (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.mem ((c.tc : Thread nD τ).loc main_v13_0) = (dats m 0 c).arrAt 5 cfg0.N
      ∧ r.2.mem ((c.tc : Thread nD τ).loc main_v13_1) = (dats m 0 c).arrAt 6 cfg0.N) ∧ r.2.sem = fun _ => 0) :=
  (θ_run defs _ _).mono (fun r h => ⟨fun c => ⟨⟨
      ((h.1 c).1 2).trans (((dats m 0 c).arrAt_in 2 rfl _).trans ((A_eq m c 2).trans (V_main_arg0 m c))),
      ((h.1 c).1 3).trans (((dats m 0 c).arrAt_in 3 rfl _).trans ((A_eq m c 3).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).1 4).trans (((dats m 0 c).arrAt_in 4 rfl _).trans ((A_eq m c 4).trans (V_main_arg4 m c))),
      ((h.1 c).2 main_arg5 (Pipeline.mem_restRefs_of main_arg5 (by decide) (by decide))).trans (V_main_arg5 m c)⟩,
      (h.1 c).1 5, (h.1 c).1 6⟩, h.2⟩) (run_main m ρ)

end Cert.Kernel4Ideal.Normed

end
-- ==== Proof.NormedBlocks.lean ====
/- The blocks of the in-projection's input gradient kernel over the extended reals: what a block of rows reads in the arrays, and
   the block's product with the weights as one sum over the in-projection's columns. -/
module

public import proofs.«01_k».proof.Proof.NormedLaunch
public import Idealize.ShloMosaic.Lib.Pointwise

@[expose] public section

set_option maxRecDepth 16384

noncomputable section

namespace Cert.Kernel4Ideal.Normed

open Cert.Kernel4Ideal.Gen
open Idealize.ShloMosaic Idealize.ShloMosaic.TcCoe Idealize.ShloMosaic.Tactic
open Idealize.SL Idealize.SL.Sem

variable (m : (ℓ : Loc nD τ sig) → Buf (Elt Ideal) ℓ) (c : Dev nD)

/-- The arguments, as matrices: the rows, the gain, the weights' two sources, the gradient carried past the normalisation and the
    gradient of the in-projection. -/
abbrev aX : S4096x1024.Idx → EReal := m ((c : Thread nD τ).loc main_arg0)
abbrev aG : S1x1024.Idx → EReal := m ((c : Thread nD τ).loc main_arg1)
abbrev aNear : S7424x1024.Idx → EReal := m ((c : Thread nD τ).loc main_arg2)
abbrev aFar : S1856x1024.Idx → EReal := m ((c : Thread nD τ).loc main_arg3)
abbrev aRes : S4096x1024.Idx → EReal := m ((c : Thread nD τ).loc main_arg4)
abbrev aD : S4096x7424.Idx → EReal := m ((c : Thread nD τ).loc main_arg5)

/-! ### What a block of rows reads -/

theorem V_near : V m c main_v7 = aNear m c := by
  unfold V; after_results_simp <;> (try dsimp only [Matrix.cons_val]) <;> (try after_results_simp) <;> rfl
theorem V_far : V m c main_v8 = aFar m c := by
  unfold V; after_results_simp <;> (try dsimp only [Matrix.cons_val]) <;> (try after_results_simp) <;> rfl
theorem V_d : V m c main_v6 = truncf (F := Ideal) (φ := .f32) .bf16 (concatenate S4096x7424 1
    [⟨S4096x2560, extractStridedSlice S4096x2560 ![0, 0] (m ((c : Thread nD τ).loc main_arg5)) slices_S4096x7424_S4096x2560_0_0⟩,
     ⟨S4096x512, extractStridedSlice S4096x512 ![0, 2816] (m ((c : Thread nD τ).loc main_arg5)) slices_S4096x7424_S4096x512_0_2816⟩,
     ⟨S4096x3072, extractStridedSlice S4096x3072 ![0, 4352] (m ((c : Thread nD τ).loc main_arg5)) slices_S4096x7424_S4096x3072_0_4352⟩,
     ⟨S4096x1024, extractStridedSlice S4096x1024 ![0, 3328] (m ((c : Thread nD τ).loc main_arg5)) slices_S4096x7424_S4096x1024_0_3328⟩,
     ⟨S4096x256, extractStridedSlice S4096x256 ![0, 2560] (m ((c : Thread nD τ).loc main_arg5)) slices_S4096x7424_S4096x256_0_2560⟩]
    concatenates_S4096x2560_S4096x512_S4096x3072_S4096x1024_S4096x256_S4096x7424_d1) bitsLt_bf16_f32 := by
  unfold V; after_results_simp <;> (try dsimp only [Matrix.cons_val]) <;> (try after_results_simp) <;> rfl

/-- The column of the gradient set at column `p`. -/
def source (p : Fin 7424) : Fin 7424 :=
  ⟨if p.val < 2560 then p.val else if p.val < 3072 then p.val + 256 else if p.val < 6144 then p.val + 1280
    else if p.val < 7168 then p.val - 2816 else p.val - 4608, by split_ifs <;> omega⟩

theorem source_at (x : S4096x7424.Idx → EReal)
    (h₁ : S4096x7424.Slices ![0, 0] S4096x2560) (h₂ : S4096x7424.Slices ![0, 2816] S4096x512) (h₃ : S4096x7424.Slices ![0, 4352] S4096x3072)
    (h₄ : S4096x7424.Slices ![0, 3328] S4096x1024) (h₅ : S4096x7424.Slices ![0, 2560] S4096x256) (hc : _) (s : Fin 4096) (p : Fin 7424) :
    concatenate S4096x7424 1 [⟨S4096x2560, extractStridedSlice S4096x2560 ![0, 0] x h₁⟩, ⟨S4096x512, extractStridedSlice S4096x512 ![0, 2816] x h₂⟩,
      ⟨S4096x3072, extractStridedSlice S4096x3072 ![0, 4352] x h₃⟩, ⟨S4096x1024, extractStridedSlice S4096x1024 ![0, 3328] x h₄⟩,
      ⟨S4096x256, extractStridedSlice S4096x256 ![0, 2560] x h₅⟩] hc (ix2 s p) = x (ix2 s (source p)) := by
  pointwise []
  split_ifs
  all_goals
    refine congrArg x (congrArg (ix2 s) (Fin.ext ?_))
    unfold source
    dsimp only
    split_ifs <;> omega

theorem V_d_at (s : Fin 4096) (p : Fin 7424) : V m c main_v6 (ix2 s p) = aD m c (ix2 s (source p)) := by
  rw [V_d]
  exact source_at (aD m c) _ _ _ _ _ concatenates_S4096x2560_S4096x512_S4096x3072_S4096x1024_S4096x256_S4096x7424_d1 s p

/-- Row `r` of block `k`. -/
def row {k : ℕ} (hk : k < 16) (r : Fin 256) : Fin 4096 := ⟨256 * k + r.val, by omega⟩

theorem idx_rows : ∀ t : Fin cfg0.N, win0_1.index t = ![min t.val 15, 0] ∧ win0_2.index t = ![t.val - 1, 0] ∧ win0_3.index t = ![0, 0]
    ∧ win0_4.index t = ![t.val - 1, 0] ∧ win0_5.index t = ![t.val - 1, 0] ∧ win0_6.index t = ![0, 0] := by
  decide +kernel

theorem d_at (t : Fin cfg0.N) (h : t.val < 16) (r : Fin 256) (p : Fin 7424) : iblk m c 1 t (ix2 r p) = aD m c (ix2 (row h r) (source p)) := by
  have e : iblk m c 1 t (ix2 r p) = V m c main_v6 (ix2 (row h r) p) := by
    blk_ext [iblk, row, idx_rows t]
  rw [e, V_d_at]

theorem pred_lt (t : Fin cfg0.N) : t.val - 1 < 16 := by have := lt_of_lt_of_eq t.isLt points; omega

theorem x_at (t : Fin cfg0.N) (r : Fin 256) (k : Fin 1024) : iblk m c 2 t (ix2 r k) = aX m c (ix2 (row (pred_lt t) r) k) := by
  have e : iblk m c 2 t (ix2 r k) = V m c main_arg0 (ix2 (row (pred_lt t) r) k) := by blk_ext [iblk, row, idx_rows t]
  rw [e, V_main_arg0]
theorem g_at (t : Fin cfg0.N) (k : Fin 1024) : iblk m c 3 t (ix2 0 k) = aG m c (ix2 0 k) := by
  have e : iblk m c 3 t (ix2 0 k) = V m c main_arg1 (ix2 0 k) := by blk_ext [iblk, idx_rows t]
  rw [e, V_main_arg1]
theorem res_at (t : Fin cfg0.N) (r : Fin 256) (k : Fin 1024) : iblk m c 4 t (ix2 r k) = aRes m c (ix2 (row (pred_lt t) r) k) := by
  have e : iblk m c 4 t (ix2 r k) = V m c main_arg4 (ix2 (row (pred_lt t) r) k) := by blk_ext [iblk, row, idx_rows t]
  rw [e, V_main_arg4]

/-! ### A block times the weights -/

/-- Row `q` of the weights, from the source it is brought in from. -/
def weightAt (near : S7424x1024.Idx → EReal) (far : S1856x1024.Idx → EReal) (q : Fin 7424) (k : Fin 1024) : EReal :=
  if h : q.val < 5568 then near (ix2 q k) else far (ix2 ⟨q.val - 5568, by omega⟩ k)

theorem joined_at (near : Vec Ideal S7424x1024 .bf16) (far : Vec Ideal S1856x1024 .bf16) (q : Fin 7424) (k : Fin 1024) :
    joined near far (ix2 q k) = weightAt near far q k := by
  unfold joined weightAt
  by_cases h : q.val < 5568
  · rw [dif_pos h, View.canon_cons_of_not_mem]
    · have e : (ix2 q k : S7424x1024.Idx) = (Rect.whole S7424x1024).emb (ix2 q k) := by
        funext a; apply Fin.ext
        fin_cases a
        · show q.val = 0 + 1 * q.val; omega
        · show k.val = 0 + 1 * k.val; omega
      exact (congrArg _ e).trans (View.canon_cons_emb (Val := Elt Ideal) (Rect.whole S7424x1024) near [] (ix2 q k))
    · intro hm
      obtain ⟨x, hx⟩ := farRows.exists_idx_of_mem hm
      have h0 : 5568 + 1 * (x 0).val = q.val := congrArg (fun i : S7424x1024.Idx => (i 0).val) hx
      omega
  · rw [dif_neg h]
    have e : (ix2 q k : S7424x1024.Idx) = farRows.emb (ix2 (⟨q.val - 5568, by omega⟩ : Fin 1856) k) := by
      funext a; apply Fin.ext
      rw [show farRows.emb (ix2 (⟨q.val - 5568, by omega⟩ : Fin 1856) k) = farRows.idx (ix2 (⟨q.val - 5568, by omega⟩ : Fin 1856) k) from rfl, Rect.idx_unit_val]
      fin_cases a
      · show q.val = 5568 + (q.val - 5568); omega
      · show k.val = 0 + k.val; omega
    rw [e]
    exact View.canon_cons_emb _ _ _ _

theorem times_at (a : Vec Ideal S256x7424 .bf16) (w : Vec Ideal S7424x1024 .bf16) (r : Fin 256) (k : Fin 1024) :
    times a w (ix2 r k) = (∑ j : Fin 2560, a (ix2 r ⟨j.val, by omega⟩) * w (ix2 ⟨j.val, by omega⟩ k)
      + ∑ j : Fin 512, a (ix2 r ⟨2560 + j.val, by omega⟩) * w (ix2 ⟨2816 + j.val, by omega⟩ k)
      + ∑ j : Fin 3072, a (ix2 r ⟨3072 + j.val, by omega⟩) * w (ix2 ⟨4352 + j.val, by omega⟩ k)
      + ∑ j : Fin 1024, a (ix2 r ⟨6144 + j.val, by omega⟩) * w (ix2 ⟨3328 + j.val, by omega⟩ k)
      + ∑ j : Fin 256, a (ix2 r ⟨7168 + j.val, by omega⟩) * w (ix2 ⟨2560 + j.val, by omega⟩ k)) := by
  unfold times k0_pay16
  pointwise []

/-! ### One sum over the columns -/

/-- A sum over a run of columns, as a sum over an interval. -/
theorem sum_run (f : ℕ → EReal) (a n : ℕ) : ∑ j : Fin n, f (a + j.val) = ∑ q ∈ Finset.Ico a (a + n), f q := by
  rw [Finset.sum_Ico_eq_sum_range, Nat.add_sub_cancel_left, Finset.sum_range]

/-- The five runs are all the columns. -/
theorem sum_runs (f : ℕ → EReal) :
    ∑ j : Fin 2560, f (0 + j.val) + ∑ j : Fin 512, f (2816 + j.val) + ∑ j : Fin 3072, f (4352 + j.val) + ∑ j : Fin 1024, f (3328 + j.val)
      + ∑ j : Fin 256, f (2560 + j.val) = ∑ q : Fin 7424, f q.val := by
  have hall : ∑ q : Fin 7424, f q.val = ∑ q ∈ Finset.Ico 0 7424, f q := by
    rw [← Finset.range_eq_Ico, Finset.sum_range]
  simp only [sum_run, hall]
  rw [← Finset.sum_Ico_consecutive f (show 0 ≤ 2560 by omega) (show 2560 ≤ 7424 by omega),
    ← Finset.sum_Ico_consecutive f (show 2560 ≤ 2816 by omega) (show 2816 ≤ 7424 by omega),
    ← Finset.sum_Ico_consecutive f (show 2816 ≤ 3328 by omega) (show 3328 ≤ 7424 by omega),
    ← Finset.sum_Ico_consecutive f (show 3328 ≤ 4352 by omega) (show 4352 ≤ 7424 by omega)]
  ac_rfl

/-- The gradient of the normalised rows. -/
def dNormed (d : S4096x7424.Idx → EReal) (near : S7424x1024.Idx → EReal) (far : S1856x1024.Idx → EReal) (s : Fin 4096) (k : Fin 1024) : EReal :=
  ∑ q : Fin 7424, d (ix2 s q) * weightAt near far q k

theorem dh_at (t : Fin cfg0.N) (h : t.val < 16) (r : Fin 256) (k : Fin 1024) :
    dh m c t (ix2 r k) = dNormed (aD m c) (aNear m c) (aFar m c) (row h r) k := by
  unfold dh weights dNormed
  rw [times_at, V_near, V_far]
  simp only [d_at m c t h, joined_at]
  generalize row h r = s
  refine Eq.trans ?_ ((sum_runs fun q => if hq : q < 7424 then aD m c (ix2 s ⟨q, hq⟩) * weightAt (aNear m c) (aFar m c) ⟨q, hq⟩ k else 0).trans
    (Finset.sum_congr rfl fun q _ => dif_pos q.isLt))
  refine congrArg₂ _ (congrArg₂ _ (congrArg₂ _ (congrArg₂ _ ?_ ?_) ?_) ?_) ?_
  all_goals
    refine Finset.sum_congr rfl fun j _ => ?_
    rw [dif_pos (by omega)]
    refine congrArg₂ _ (congrArg (aD m c) (congrArg (ix2 s) (Fin.ext ?_))) (congrArg (fun q => weightAt (aNear m c) (aFar m c) q k) (Fin.ext ?_))
    · unfold source
      dsimp only
      split_ifs <;> omega
    · simp

end Cert.Kernel4Ideal.Normed

end
-- ==== Proof.Rescale.lean ====
/- A row's root-mean-square rescaling and its gradient over the extended reals: the gradient as a fused program groups it is the
   one differentiation term by term gives, at every row, the infinite ones too. -/
module

public import Idealize.ShloMosaic.Lib.Pointwise

@[expose] public section

noncomputable section

namespace Cert.Rescale

open Idealize.ShloMosaic

/-! ### The constants -/

theorem count : Ideal.ofBits .f32 0x44800000#32 = ((1024 : ℝ) : EReal) := by
  simp [Ideal.ofBits, Ideal.ieee, -EReal.coe_mul]; norm_num

theorem minusHalf : Ideal.ofBits .f32 0xBF000000#32 = ((-(1 / 2) : ℝ) : EReal) := by
  simp [Ideal.ofBits, Ideal.ieee, -EReal.coe_mul, -EReal.coe_neg]; norm_num

/-- The number added to the mean square is a positive real. -/
theorem epsilon : ∃ e : ℝ, 0 < e ∧ Ideal.ofBits .f32 0x358637BD#32 = (e : EReal) := by
  refine ⟨_, ?_, by simp [Ideal.ofBits, Ideal.ieee, -EReal.coe_mul]; rfl⟩
  norm_num

/-! ### The two groupings -/

variable (x w : Fin 1024 → EReal)

/-- The mean square of a row, kept off zero. -/
def meanSq : EReal := Ideal.div (∑ k, x k * x k) (Ideal.ofBits .f32 0x44800000#32) + Ideal.ofBits .f32 0x358637BD#32
/-- The factor a row is rescaled by. -/
def factor : EReal := Ideal.rsqrt (meanSq x)

/-- The gradient at entry `k`, grouped around the rescaled row `x · factor`; `w` is the gradient of the rescaled row. -/
def fused (k : Fin 1024) : EReal :=
  factor x * (w k - x k * factor x * Ideal.div (∑ j, w j * (x j * factor x)) (Ideal.ofBits .f32 0x44800000#32))

/-- What reaches each of the two equal operands of a square, through the mean. -/
def throughMean : EReal :=
  Ideal.div ((∑ j, x j * w j) * (Ideal.ofBits .f32 0xBF000000#32 * Ideal.div (factor x) (meanSq x))) (Ideal.ofBits .f32 0x44800000#32)
/-- The gradient at entry `k`, term by term: through the product, and through both operands of the square. -/
def termwise (k : Fin 1024) : EReal := w k * factor x + x k * throughMean x w + throughMean x w * x k

/-! ### They agree -/

/-- A real, nonnegative factor moves out of a sum. -/
theorem sum_mul_real {ι : Type*} (s : Finset ι) (f : ι → EReal) {ρ : ℝ} (h : 0 ≤ ρ) : ∑ j ∈ s, f j * (ρ : EReal) = (∑ j ∈ s, f j) * (ρ : EReal) := by
  classical
  induction s using Finset.induction_on with
  | empty => simp
  | insert a s ha ih =>
    rw [Finset.sum_insert ha, Finset.sum_insert ha, ih,
      EReal.right_distrib_of_nonneg_of_ne_top (EReal.coe_nonneg.mpr h) (EReal.coe_ne_top ρ)]

theorem sum_real {ι : Type*} (s : Finset ι) (f : ι → ℝ) : ∑ j ∈ s, (f j : EReal) = ((∑ j ∈ s, f j : ℝ) : EReal) := by
  classical
  induction s using Finset.induction_on with
  | empty => simp
  | insert a s ha ih => rw [Finset.sum_insert ha, Finset.sum_insert ha, ih, EReal.coe_add]

theorem square_nonneg (a : EReal) : 0 ≤ a * a := by
  induction a with
  | bot => simp
  | top => simp
  | coe a => exact_mod_cast mul_self_nonneg a

theorem twice (a : EReal) : a + a = a * ((2 : ℝ) : EReal) := by
  induction a with
  | bot => rw [EReal.bot_mul_coe_of_pos (by norm_num)]; rfl
  | top => rw [EReal.top_mul_coe_of_pos (by norm_num)]; rfl
  | coe a => rw [← EReal.coe_add, ← EReal.coe_mul]; congr 1; ring

/-- A row with an infinite entry is rescaled by zero. -/
theorem factor_infinite {k : Fin 1024} (h : x k * x k = ⊤) : factor x = 0 := by
  obtain ⟨e, he, hE⟩ := epsilon
  have hs : ∑ k, x k * x k = ⊤ :=
    top_le_iff.mp (h ▸ Finset.single_le_sum (f := fun k => x k * x k) (fun i _ => square_nonneg _) (Finset.mem_univ k))
  unfold factor meanSq
  rw [hs, count, Ideal.div_coe (by norm_num), EReal.top_mul_coe_of_pos (by norm_num), hE, EReal.top_add_coe, Ideal.rsqrt_top]

theorem fused_eq_termwise (k : Fin 1024) : fused x w k = termwise x w k := by
  by_cases hx : ∃ k, x k * x k = ⊤
  · obtain ⟨j, hj⟩ := hx
    have h0 : ∀ y, Ideal.div 0 y = (0 : EReal) ∨ y = 0 := fun y => by
      by_cases hy : y = 0
      · exact Or.inr hy
      · exact Or.inl (by rw [Ideal.div, if_neg hy, zero_mul])
    have hf := factor_infinite x hj
    have hv : meanSq x ≠ 0 := by
      intro h
      unfold factor at hf
      rw [h] at hf
      rw [show (0 : EReal) = ((0 : ℝ) : EReal) from rfl, Ideal.rsqrt_coe] at hf
      simp at hf
    have hn : Ideal.ofBits .f32 0x44800000#32 ≠ 0 := by rw [count]; exact_mod_cast (by norm_num : (1024 : ℝ) ≠ 0)
    have hq : throughMean x w = 0 := by
      unfold throughMean
      rw [hf, (h0 _).resolve_right hv, mul_zero, mul_zero, (h0 _).resolve_right hn]
    unfold fused termwise
    rw [hq, hf]
    simp
  · push Not at hx
    obtain ⟨y, rfl⟩ : ∃ y : Fin 1024 → ℝ, x = fun k => (y k : EReal) := by
      refine ⟨fun k => (x k).toReal, funext fun k => (EReal.coe_toReal ?_ ?_).symm⟩
      · intro h; exact hx k (by rw [h]; rfl)
      · intro h; exact hx k (by rw [h]; rfl)
    obtain ⟨e, he, hE⟩ := epsilon
    obtain ⟨v, hv, hV⟩ : ∃ v : ℝ, 0 < v ∧ meanSq (fun k => (y k : EReal)) = (v : EReal) := by
      refine ⟨(∑ k, y k * y k) * (1 / 1024) + e, ?_, ?_⟩
      · have := Finset.sum_nonneg (s := Finset.univ) fun k _ => mul_self_nonneg (y k)
        positivity
      · unfold meanSq
        rw [hE, count, Ideal.div_coe (by norm_num)]
        simp only [← EReal.coe_mul]
        rw [sum_real, ← EReal.coe_mul, ← EReal.coe_add]
    have hF : factor (fun k => (y k : EReal)) = ((Real.sqrt v)⁻¹ : ℝ) := by
      unfold factor
      rw [hV, Ideal.rsqrt_coe, if_neg (by linarith), if_neg hv.ne']
    have hρ : 0 ≤ (Real.sqrt v)⁻¹ := inv_nonneg.mpr (Real.sqrt_nonneg v)
    have hv2 : 1 / v = (Real.sqrt v)⁻¹ * (Real.sqrt v)⁻¹ := by
      rw [← mul_inv, Real.mul_self_sqrt hv.le, one_div]
    generalize (Real.sqrt v)⁻¹ = ρ at hF hρ hv2
    unfold fused termwise throughMean
    rw [hF, hV, count, minusHalf]
    simp only [Ideal.div_coe (show (1024 : ℝ) ≠ 0 by norm_num), Ideal.div_coe hv.ne']
    rw [hv2]
    simp only [← mul_assoc]
    rw [sum_mul_real _ _ hρ, Finset.sum_congr rfl fun j _ => mul_comm (y j : EReal) (w j)]
    generalize (∑ j, w j * (y j : EReal)) = Y
    generalize w k = W
    generalize y k = a
    have hk : (a : EReal) * ρ * (Y * ρ) * ((1 / 1024 : ℝ) : EReal) = Y * ((a * ρ * ρ * (1 / 1024) : ℝ) : EReal) := by
      simp only [EReal.coe_mul]; ac_rfl
    have hr : (a : EReal) * Y * ((-(1 / 2) : ℝ) : EReal) * ρ * ((ρ * ρ : ℝ) : EReal) * ((1 / 1024 : ℝ) : EReal)
        = Y * ((a * -(1 / 2) * ρ * ρ * ρ * (1 / 1024) : ℝ) : EReal) := by
      simp only [EReal.coe_mul]; ac_rfl
    have hr' : Y * ((-(1 / 2) : ℝ) : EReal) * ρ * ((ρ * ρ : ℝ) : EReal) * ((1 / 1024 : ℝ) : EReal) * (a : EReal)
        = Y * ((a * -(1 / 2) * ρ * ρ * ρ * (1 / 1024) : ℝ) : EReal) := by
      simp only [EReal.coe_mul]; ac_rfl
    rw [hk, hr, hr', add_assoc, twice, mul_assoc Y, ← EReal.coe_mul,
      EReal.mul_sub_of_nonneg_of_ne_top (EReal.coe_nonneg.mpr hρ) (EReal.coe_ne_top ρ), mul_comm _ W, sub_eq_add_neg, mul_left_comm, ← EReal.coe_mul,
      ← mul_neg, ← EReal.coe_neg]
    congr 3
    ring

end Cert.Rescale

end
-- ==== Proof.NormedValues.lean ====
/- The arrays the in-projection's input gradient kernel leaves, at every index: each row of the gradient carried past the
   normalisation, and the gain's gradient as a sum over all the rows. -/
module

public import proofs.«01_k».proof.Proof.NormedBlocks
public import proofs.«01_k».proof.Proof.Rescale

@[expose] public section

set_option maxRecDepth 16384

noncomputable section

namespace Cert.Kernel4Ideal.Normed

open Cert.Kernel4Ideal.Gen
open Idealize.ShloMosaic Idealize.ShloMosaic.TcCoe Idealize.ShloMosaic.Tactic
open Idealize.SL Idealize.SL.Sem

/-! ### What a point computes from its blocks -/

theorem pay3_at (d x : Vec Ideal S256x1024 .f32) (g : Vec Ideal S1x1024 .f32) (res : Vec Ideal S256x1024 .f32) (r : Fin 256) (k : Fin 1024) :
    k0_pay3 d x g res (ix2 r k) = res (ix2 r k) + Rescale.fused (fun j => x (ix2 r j)) (fun j => d (ix2 r j) * g (ix2 0 j)) k := by
  pointwise [k0_pay3, k0_pay2, k0_pay1, Rescale.fused, Rescale.factor, Rescale.meanSq]

theorem pay4_at (d x : Vec Ideal S256x1024 .f32) (old : Vec Ideal S1x1024 .f32) (k : Fin 1024) :
    k0_pay4 d x old (ix2 0 k) = old (ix2 0 k) + ∑ r : Fin 256, d (ix2 r k) * (x (ix2 r k) * Rescale.factor (fun j => x (ix2 r j))) := by
  pointwise [k0_pay4, k0_pay2, k0_pay1, Rescale.factor, Rescale.meanSq]

theorem pay5_at (k : Fin 1024) : k0_pay5 (F := Ideal) (ix2 0 k) = (0 : EReal) := by
  pointwise [k0_pay5]

/-! ### The results, at an index of the whole arrays -/

section Results
variable (x : S4096x1024.Idx → EReal) (g : S1x1024.Idx → EReal) (near : S7424x1024.Idx → EReal) (far : S1856x1024.Idx → EReal)
  (res : S4096x1024.Idx → EReal) (d : S4096x7424.Idx → EReal)

/-- A row of the first argument, and of the gradient of the rescaled rows. -/
abbrev xRow (s : Fin 4096) (j : Fin 1024) : EReal := x (ix2 s j)
abbrev wRow (s : Fin 4096) (j : Fin 1024) : EReal := dNormed d near far s j * g (ix2 0 j)

/-- The gradient of the rows added to the gradient carried past the normalisation. -/
def dRows (i : S4096x1024.Idx) : EReal := res i + Rescale.fused (xRow x (i 0)) (wRow g near far d (i 0)) (i 1)
/-- The same, term by term. -/
theorem dRows_at (s : Fin 4096) (k : Fin 1024) :
    dRows x g near far res d (ix2 s k) = res (ix2 s k) + Rescale.termwise (xRow x s) (wRow g near far d s) k :=
  congrArg (res (ix2 s k) + ·) (Rescale.fused_eq_termwise (xRow x s) (wRow g near far d s) k)

/-- What a row adds to the gain's gradient. -/
def gainOf (k : Fin 1024) (s : Fin 4096) : EReal := dNormed d near far s k * (x (ix2 s k) * Rescale.factor (xRow x s))
/-- The gain's gradient. -/
def dGain (i : S1x1024.Idx) : EReal := ∑ s : Fin 4096, gainOf x near far d (i 1) s
end Results

variable (m : (ℓ : Loc nD τ sig) → Buf (Elt Ideal) ℓ) (c : Dev nD)

theorem dxAt_at (t : Fin cfg0.N) (r : Fin 256) (k : Fin 1024) :
    dxAt m c t (ix2 r k) = dRows (aX m c) (aG m c) (aNear m c) (aFar m c) (aRes m c) (aD m c) (ix2 (row (pred_lt t) r) k) := by
  unfold dxAt dRows
  rw [pay3_at, res_at]
  simp only [x_at, g_at, dh_at m c (prev t) (pred_lt t)]
  rfl

/-- The gradient of the rows, left block by block. -/
theorem dx_eq : (dats m 0 c).arrAt 5 cfg0.N = dRows (aX m c) (aG m c) (aNear m c) (aFar m c) (aRes m c) (aD m c) := by
  refine (dats m 0 c).arrAt_eq_of_covers 5 _ (by decide +kernel) fun t hf y => ?_
  blk_simp
  rw [after5]
  obtain ⟨a, b, rfl⟩ : ∃ (a : Fin 256) (b : Fin 1024), y = ix2 a b := ⟨y 0, y 1, eq_ix2 y⟩
  refine (dxAt_at m c t a b).trans ?_
  blk_ext [row, idx_rows t]

theorem dgAt_at (k : Fin 1024) (n : ℕ) (hn : n ≤ 16) : dgAt m c n (ix2 0 k)
    = ∑ t ∈ Finset.range n, if h : t < 16 then ∑ r : Fin 256, gainOf (aX m c) (aNear m c) (aFar m c) (aD m c) k (row h r) else 0 := by
  induction n with
  | zero => exact (pay5_at k).trans (by simp)
  | succ n ih =>
    have ht : n + 1 < cfg0.N := by rw [points]; omega
    have hp := dgAt_pos m c ⟨n + 1, ht⟩ (Nat.succ_ne_zero n)
    dsimp only at hp
    rw [hp, pay4_at, Finset.sum_range_succ, dif_pos (show n < 16 by omega), Nat.add_sub_cancel, ih (by omega)]
    refine congrArg₂ _ rfl (Finset.sum_congr rfl fun r _ => ?_)
    simp only [x_at, dh_at m c (prev ⟨n + 1, ht⟩) (pred_lt ⟨n + 1, ht⟩)]
    rfl

/-- The gain's gradient, after the last point. -/
theorem dg_eq : (dats m 0 c).arrAt 6 cfg0.N = dGain (aX m c) (aNear m c) (aFar m c) (aD m c) := by
  refine (dats m 0 c).arrAt_eq_of_covers 6 _ (by decide +kernel) fun t hf y => ?_
  have h16 : t.val = 16 := by revert hf; revert t; decide +kernel
  blk_simp
  rw [after6, h16]
  obtain ⟨a, b, rfl⟩ : ∃ (a : Fin 1) (b : Fin 1024), y = ix2 a b := ⟨y 0, y 1, eq_ix2 y⟩
  obtain rfl : a = 0 := Subsingleton.elim _ _
  refine (dgAt_at m c b 16 le_rfl).trans ?_
  have e : ∑ s : Fin 4096, gainOf (aX m c) (aNear m c) (aFar m c) (aD m c) b s
      = ∑ t ∈ Finset.range 16, if h : t < 16 then ∑ r : Fin 256, gainOf (aX m c) (aNear m c) (aFar m c) (aD m c) b (row h r) else 0 := by
    rw [Finset.sum_range]
    refine Eq.symm ((Finset.sum_congr rfl fun t _ => dif_pos t.isLt).trans ?_)
    refine (Finset.sum_congr rfl fun t _ => Finset.sum_congr rfl fun r _ => ?_).trans
      (Fin.sum_mul_add_fin 16 256 (gainOf (aX m c) (aNear m c) (aFar m c) (aD m c) b))
    exact congrArg _ (Fin.ext (by simp only [row]; omega))
  refine e.symm.trans ?_
  show dGain (aX m c) (aNear m c) (aFar m c) (aD m c) (ix2 0 b) = _
  blk_ext [idx_rows t]

end Cert.Kernel4Ideal.Normed

end
-- ==== Proof.NormedReference.lean ====
/- The reference of the in-projection's input gradient, read at an index: term by term it gives the arrays the kernel leaves. -/
module

public import proofs.«01_k».proof.Proof.NormedValues
public import proofs.«01_k».proof.Proof.Gen.Reference4Ideal.Run

@[expose] public section

set_option maxRecDepth 16384

noncomputable section

namespace Cert.Reference4Ideal.Read

open Cert.Reference4Ideal
open Idealize.ShloMosaic Idealize.ShloMosaic.TcCoe Idealize.ShloMosaic.Tactic
open Idealize.SL Idealize.SL.Sem
open Cert.Kernel4Ideal.Normed (dRows dRows_at dGain gainOf dNormed weightAt xRow wRow)

variable (m : (ℓ : Loc nD τ sig) → Buf (Elt Ideal) ℓ) (c : Dev nD)

/-- The gradient of the normalised rows, split between the weights' two sources. -/
theorem dNormed_split (d : S4096x7424.Idx → EReal) (near : S7424x1024.Idx → EReal) (far : S1856x1024.Idx → EReal) (s : Fin 4096) (k : Fin 1024) :
    dNormed d near far s k = ∑ q : Fin 5568, d (ix2 s ⟨q.val, by omega⟩) * near (ix2 ⟨q.val, by omega⟩ k)
      + ∑ q : Fin 1856, d (ix2 s ⟨5568 + q.val, by omega⟩) * far (ix2 q k) := by
  pointwise [dNormed, weightAt]

set_option maxHeartbeats 4000000 in
theorem dx_eq : Value.res_main_v39 m c = dRows (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) := by
  funext i
  obtain ⟨s, k, rfl⟩ : ∃ (s : Fin 4096) (k : Fin 1024), i = ix2 s k := ⟨i 0, i 1, eq_ix2 i⟩
  unfold Value.res_main_v39
  generalize m ((c : Thread nD τ).loc main_arg0) = x
  generalize m ((c : Thread nD τ).loc main_arg1) = g
  generalize m ((c : Thread nD τ).loc main_arg2) = near
  generalize m ((c : Thread nD τ).loc main_arg3) = far
  generalize m ((c : Thread nD τ).loc main_arg4) = res
  generalize m ((c : Thread nD τ).loc main_arg5) = d
  refine Eq.trans ?_ (dRows_at x g near far res d s k).symm
  pointwise []
  simp only [Rescale.termwise, Rescale.throughMean, Rescale.factor, Rescale.meanSq, dNormed_split, xRow, wRow, Fin.sum_univ_one]

set_option maxHeartbeats 4000000 in
/-- The run, its results read. -/
theorem run_results (ρ : Dev nD → PrngReg) : θ_run defs (onTc (τ := τ) (main (F := Ideal))) ⟨m, fun _ => 0, ρ⟩ fun r => ∀ c : Dev nD,
    r.2.mem ((c : Thread nD τ).loc main_v39) = dRows (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
    ∧ r.2.mem ((c : Thread nD τ).loc main_v22) = dGain (m ((c : Thread nD τ).loc main_arg0)) (m ((c : Thread nD τ).loc main_arg2))
      (m ((c : Thread nD τ).loc main_arg3)) (m ((c : Thread nD τ).loc main_arg5))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) := by
  refine (θ_run defs _ _).mono (fun r h c => ⟨(h c).1.trans (dx_eq m c), (h c).2.1.trans ?_, (h c).2.2⟩) (Value.run (F := Ideal) m ρ)
  funext i
  obtain ⟨a, k, rfl⟩ : ∃ (a : Fin 1) (k : Fin 1024), i = ix2 a k := ⟨i 0, i 1, eq_ix2 i⟩
  obtain rfl : a = 0 := Subsingleton.elim _ _
  generalize m ((c : Thread nD τ).loc main_arg0) = x
  generalize m ((c : Thread nD τ).loc main_arg2) = near
  generalize m ((c : Thread nD τ).loc main_arg3) = far
  generalize m ((c : Thread nD τ).loc main_arg5) = d
  pointwise [dGain, gainOf, xRow, Rescale.factor, Rescale.meanSq, dNormed, weightAt]
  exact Finset.sum_congr rfl fun s _ => mul_comm _ _

end Cert.Reference4Ideal.Read

end
-- ==== Proof.NormedClaims.lean ====
/- The claims of the in-projection's input gradient and the first normalisation. -/
module

public import proofs.«01_k».proof.Defs
public import proofs.«01_k».proof.Proof.NormedReference
public import proofs.«01_k».proof.Proof.Gen.Kernel4
public import proofs.«01_k».proof.Proof.Gen.Kernel4Ideal
public import proofs.«01_k».proof.Proof.Gen.Reference4Ideal
public import Idealize.ShloMosaic.Lib.Quiescent
public import Idealize.ShloMosaic.Adequacy

@[expose] public section

noncomputable section

namespace Cert.Proof

open Idealize.ShloMosaic Idealize.ShloMosaic.TcCoe Idealize.ShloMosaic.Tactic Idealize.SL.Sem

/-! The kernel and its reading over the extended reals are one text. -/

set_option maxHeartbeats 4000000 in
theorem bodies_eq4 : Cert.Kernel4.defs₀ (F := Bits) = Cert.Kernel4Ideal.defs₀ (F := Bits) := by
  funext p l
  cases p with
  | tc =>
    match l with
    | ⟨0, _⟩ => rfl
    | ⟨_ + 1, h⟩ => exact absurd h (by omega)
  | _ => rfl

theorem defs_eq4 : Cert.Kernel4.defs (F := Bits) = Cert.Kernel4Ideal.defs (F := Bits) :=
  congrArg (Pipeline.defs Cert.Kernel4Ideal.pcfgs) bodies_eq4

set_option maxHeartbeats 4000000 in
theorem main_eq4 : Cert.Kernel4.main (F := Bits) = Cert.Kernel4Ideal.main (F := Bits) := by
  unfold Cert.Kernel4.main Cert.Kernel4Ideal.main
  rfl

theorem frame_kernel4 : Cert.quiescent_Kernel4 := by
  intro m ρ _
  rw [defs_eq4, main_eq4]
  exact (θ_run Cert.Kernel4Ideal.defs _ _).mono (fun _ h => ⟨fun c => (h.1 c).1, h.2⟩) (Cert.Kernel4Ideal.Normed.run_results (F := Bits) m ρ)

theorem frame_kernel4Ideal : Cert.quiescent_Kernel4Ideal := fun m ρ _ =>
  (θ_run Cert.Kernel4Ideal.defs _ _).mono (fun _ h => ⟨fun c => (h.1 c).1, h.2⟩) (Cert.Kernel4Ideal.Normed.run_results (F := Ideal) m ρ)

theorem frame_reference4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Read.run_results m ρ)

theorem algebraic4 : Cert.algebraic_Kernel4Ideal_Reference4Ideal := by
  intro m ρ m' ρ' _ hargs
  refine ⟨fun c => (Cert.Kernel4Ideal.Normed.dats m 0 c).arrAt 5 Cert.Kernel4Ideal.cfg0.N, fun c => (Cert.Kernel4Ideal.Normed.dats m 0 c).arrAt 6 Cert.Kernel4Ideal.cfg0.N, ?_, ?_⟩
  · refine (θ_run Cert.Kernel4Ideal.defs _ _).mono (fun r h c => ?_) (Cert.Kernel4Ideal.Normed.run_results (F := Ideal) m ρ)
    obtain ⟨hin, h0, h1⟩ := h.1 c
    exact ⟨h0, h1, hin⟩
  · refine (θ_run Cert.Reference4Ideal.defs _ _).mono (fun r h c => ?_) (Cert.Reference4Ideal.Read.run_results m' ρ')
    obtain ⟨h0, h1, hin⟩ := h c
    obtain ⟨a0, a1, a2, a3, a4, a5⟩ := hargs c
    rw [a0, a1, a2, a3, a4, a5] at h0
    rw [a0, a2, a3, a5] at h1
    exact ⟨h0.trans (Cert.Kernel4Ideal.Normed.dx_eq m c).symm, h1.trans (Cert.Kernel4Ideal.Normed.dg_eq m c).symm, hin⟩

end Cert.Proof

end
-- ==== Proof.Loss.lean ====
/- The end of the step's forward pass over the extended reals, row by row: the out-projection's row rescaled and added to the
   residual row, the error against the target, the loss, and the gradients that set off from it. -/
module

public import proofs.«01_k».proof.Proof.Merge
public import proofs.«01_k».proof.Proof.Rescale

@[expose] public section

noncomputable section

namespace Cert.Loss

open Idealize.ShloMosaic
open Cert.Merge (Mat gate up)

/-! ### The constants -/

theorem share : Ideal.ofBits .f32 0x3A800000#32 = ((1 / 1024 : ℝ) : EReal) := by
  simp [Ideal.ofBits, Ideal.ieee, -EReal.coe_mul]; norm_num
theorem half : Ideal.ofBits .f32 0x3F000000#32 = ((1 / 2 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num

/-- Differentiating half the mean of the squares: a half, shared among the row's entries, of twice the error. -/
theorem share_eq (e : EReal) : Ideal.div (Ideal.ofBits .f32 0x3F000000#32) (Ideal.ofBits .f32 0x44800000#32)
    * (Ideal.ofBits .f32 0x40000000#32 * e) = e * Ideal.ofBits .f32 0x3A800000#32 := by
  rw [share, half, two, Rescale.count, Ideal.div_coe (by norm_num), ← mul_assoc, ← EReal.coe_mul, ← EReal.coe_mul, mul_comm]
  congr 2
  norm_num

/-! ### One row -/

section Row
variable (o x t g : Fin 1024 → EReal)

/-- The out-projection's row, rescaled. -/
def normed (k : Fin 1024) : EReal := o k * Rescale.factor o
/-- The error: the residual row plus the rescaled row under the gain, less the target. -/
def err (k : Fin 1024) : EReal := x k + normed o k * g k - t k
/-- The row's mean square error. -/
def meanErr : EReal := Ideal.div (∑ k, err o x t g k * err o x t g k) (Ideal.ofBits .f32 0x44800000#32)
/-- The loss's gradient with respect to the residual row. -/
def dErr (k : Fin 1024) : EReal := err o x t g k * Ideal.ofBits .f32 0x3A800000#32
/-- What the row adds to the gain's gradient. -/
def gain (k : Fin 1024) : EReal := dErr o x t g k * normed o k
/-- The gradient of the out-projection's row, as the kernel groups it. -/
def dOut (k : Fin 1024) : EReal := Rescale.fused o (fun j => dErr o x t g j * g j) k
end Row

/-! ### The whole arrays -/

/-- The three branches projected up, each under its gate, added. -/
def merged (ya yb ym : Mat 4096 512) (proj : Mat 4096 7424) (wa wb wm : Mat 512 1024) : Mat 4096 1024 := fun i =>
  gate proj 0 (i 0) (i 1) * up ya wa (i 0) (i 1) + gate proj 1 (i 0) (i 1) * up yb wb (i 0) (i 1) + gate proj 2 (i 0) (i 1) * up ym wm (i 0) (i 1)
/-- The out-projection. -/
def out (mg : Mat 4096 1024) (w : Mat 1024 1024) : Mat 4096 1024 := fun i => ∑ n : Fin 1024, mg (ix2 (i 0) n) * w (ix2 n (i 1))

/-- A row of a matrix. -/
abbrev rowOf {R : ℕ} (a : Mat R 1024) (s : Fin R) (k : Fin 1024) : EReal := a (ix2 s k)

section Arrays
variable (o x t : Mat 4096 1024) (g : Mat 1 1024)

def dErrAll : Mat 4096 1024 := fun i => dErr (rowOf o (i 0)) (rowOf x (i 0)) (rowOf t (i 0)) (rowOf g 0) (i 1)
def dOutAll : Mat 4096 1024 := fun i => dOut (rowOf o (i 0)) (rowOf x (i 0)) (rowOf t (i 0)) (rowOf g 0) (i 1)
/-- The gain's gradient: a sum over the rows. -/
def gainAll : Mat 1 1024 := fun i => ∑ s : Fin 4096, gain (rowOf o s) (rowOf x s) (rowOf t s) (rowOf g 0) (i 1)
/-- Half the sum of the rows' mean square errors, in every lane. -/
def lossAll : Mat 1 128 := fun _ => Ideal.ofBits .f32 0x3F000000#32 * ∑ s : Fin 4096, meanErr (rowOf o s) (rowOf x s) (rowOf t s) (rowOf g 0)

theorem dOutAll_at (s : Fin 4096) (k : Fin 1024) : dOutAll o x t g (ix2 s k)
    = Rescale.termwise (rowOf o s) (fun j => dErr (rowOf o s) (rowOf x s) (rowOf t s) (rowOf g 0) j * g (ix2 0 j)) k :=
  Rescale.fused_eq_termwise (rowOf o s) (fun j => dErr (rowOf o s) (rowOf x s) (rowOf t s) (rowOf g 0) j * g (ix2 0 j)) k
end Arrays

/-- A half moves out of a sum. -/
theorem half_sum {ι : Type*} (s : Finset ι) (f : ι → EReal) :
    ∑ j ∈ s, Ideal.ofBits .f32 0x3F000000#32 * f j = Ideal.ofBits .f32 0x3F000000#32 * ∑ j ∈ s, f j := by
  rw [half, mul_comm (_ : EReal) (∑ j ∈ s, f j), ← Rescale.sum_mul_real s f (by norm_num)]
  exact Finset.sum_congr rfl fun j _ => mul_comm _ _

end Cert.Loss

end
-- ==== Proof.LossReference.lean ====
/- The reference of the merge, the last normalisation and the loss, read at an index. -/
module

public import proofs.«01_k».proof.Proof.Loss
public import proofs.«01_k».proof.Proof.Gen.Reference5Ideal.Read

@[expose] public section

set_option maxRecDepth 16384

noncomputable section

namespace Cert.Reference5Ideal.Read

open Cert.Reference5Ideal.Gen
open Idealize.ShloMosaic Idealize.ShloMosaic.TcCoe Idealize.ShloMosaic.Tactic
open Cert.Loss

/-! ### The merge and the out-projection -/

section Merge
variable (ya yb ym : (⟨S4096x512, .f32⟩ : BufTy).Contents (Elt Ideal)) (proj : (⟨S4096x7424, .f32⟩ : BufTy).Contents (Elt Ideal))
  (wa wb wm : (⟨S512x1024, .f32⟩ : BufTy).Contents (Elt Ideal)) (wOut : (⟨S1024x1024, .f32⟩ : BufTy).Contents (Elt Ideal))

theorem gate_at (r : Fin 4096) (q : Fin 3072) :
    val_main_v6 (F := Ideal) proj (ix2 r q) = Ideal.logistic (proj (ix2 r ⟨3072 + q.val, by omega⟩)) := by
  unfold val_main_v6 val_main_v5 val_main_v4 val_main_v3 val_main_v2 val_main_v1 val_main_v0 val_main_cst val_main_cst_0
  pointwise [Ideal.logistic]
theorem gateA_at (r : Fin 4096) (n : Fin 1024) : val_main_v9 (F := Ideal) proj (ix2 r n) = Merge.gate proj 0 r n := by
  unfold val_main_v9 val_main_v8 val_main_v7
  pointwise [Merge.gate]
  simp only [gate_at]
theorem gateB_at (r : Fin 4096) (n : Fin 1024) : val_main_v13 (F := Ideal) proj (ix2 r n) = Merge.gate proj 1 r n := by
  unfold val_main_v13 val_main_v12 val_main_v7
  pointwise [Merge.gate]
  simp only [gate_at]
  pointwise []
  exact congrArg (fun q => Ideal.logistic (proj (ix2 r q))) (Fin.ext (by simp; omega))
theorem gateM_at (r : Fin 4096) (n : Fin 1024) : val_main_v18 (F := Ideal) proj (ix2 r n) = Merge.gate proj 2 r n := by
  unfold val_main_v18 val_main_v17 val_main_v7
  pointwise [Merge.gate]
  simp only [gate_at]
  pointwise []
  exact congrArg (fun q => Ideal.logistic (proj (ix2 r q))) (Fin.ext (by simp; omega))

theorem up_at (y : (⟨S4096x512, .f32⟩ : BufTy).Contents (Elt Ideal)) (w : (⟨S512x1024, .f32⟩ : BufTy).Contents (Elt Ideal)) (r : Fin 4096) (n : Fin 1024) :
    val_main_v10 (F := Ideal) y w (ix2 r n) = Merge.up y w r n := by
  unfold val_main_v10
  pointwise [Merge.up]

theorem merged_eq : val_main_v21 (F := Ideal) ya yb ym proj wa wb wm = merged ya yb ym proj wa wb wm := by
  funext i
  obtain ⟨s, n, rfl⟩ : ∃ (s : Fin 4096) (n : Fin 1024), i = ix2 s n := ⟨i 0, i 1, eq_ix2 i⟩
  show _ = Merge.gate proj 0 s n * Merge.up ya wa s n + Merge.gate proj 1 s n * Merge.up yb wb s n + Merge.gate proj 2 s n * Merge.up ym wm s n
  rw [← gateA_at, ← gateB_at, ← gateM_at, ← up_at, ← up_at, ← up_at]
  rfl

theorem out_eq : val_main_v22 (F := Ideal) ya yb ym proj wa wb wm wOut = out (merged ya yb ym proj wa wb wm) wOut := by
  funext i
  obtain ⟨s, k, rfl⟩ : ∃ (s : Fin 4096) (k : Fin 1024), i = ix2 s k := ⟨i 0, i 1, eq_ix2 i⟩
  unfold val_main_v22
  rw [merged_eq]
  generalize merged ya yb ym proj wa wb wm = mg
  pointwise [out]
end Merge

/-! ### The loss and its gradients -/

section Loss
variable (ya yb ym : (⟨S4096x512, .f32⟩ : BufTy).Contents (Elt Ideal)) (proj : (⟨S4096x7424, .f32⟩ : BufTy).Contents (Elt Ideal))
  (x t : (⟨S4096x1024, .f32⟩ : BufTy).Contents (Elt Ideal))
  (wa wb wm : (⟨S512x1024, .f32⟩ : BufTy).Contents (Elt Ideal)) (wOut : (⟨S1024x1024, .f32⟩ : BufTy).Contents (Elt Ideal))
  (g : (⟨S1x1024, .f32⟩ : BufTy).Contents (Elt Ideal))

/-- The out-projection. -/
abbrev o : Merge.Mat 4096 1024 := val_main_v22 (F := Ideal) ya yb ym proj wa wb wm wOut

theorem factor_at (s : Fin 4096) (z : Fin 1) : val_main_v30 (F := Ideal) ya yb ym proj wa wb wm wOut (ix2 s z)
    = Rescale.factor (rowOf (o ya yb ym proj wa wb wm wOut) s) := by
  unfold val_main_v30 val_main_v29 val_main_v28 val_main_v27 val_main_v26 val_main_v25 val_main_v24 val_main_v23 val_main_cst_1 val_main_cst_2 val_main_cst_3
  pointwise [Rescale.factor, Rescale.meanSq]

theorem meanSq_at (s : Fin 4096) (z : Fin 1) : val_main_v29 (F := Ideal) ya yb ym proj wa wb wm wOut (ix2 s z)
    = Rescale.meanSq (rowOf (o ya yb ym proj wa wb wm wOut) s) := by
  unfold val_main_v29 val_main_v28 val_main_v27 val_main_v26 val_main_v25 val_main_v24 val_main_v23 val_main_cst_1 val_main_cst_2 val_main_cst_3
  pointwise [Rescale.meanSq]

theorem normed_at (s : Fin 4096) (k : Fin 1024) : val_main_v35 (F := Ideal) ya yb ym proj wa wb wm wOut (ix2 s k)
    = normed (rowOf (o ya yb ym proj wa wb wm wOut) s) k := by
  unfold val_main_v35 val_main_v34
  pointwise [normed]
  rw [factor_at]

theorem err_at (s : Fin 4096) (k : Fin 1024) : val_main_v39 (F := Ideal) ya yb ym proj x t wa wb wm wOut g (ix2 s k)
    = err (rowOf (o ya yb ym proj wa wb wm wOut) s) (rowOf x s) (rowOf t s) (rowOf g 0) k := by
  unfold val_main_v39 val_main_v38 val_main_v37 val_main_v36
  pointwise [err]
  rw [normed_at]

theorem dErr_at (s : Fin 4096) (k : Fin 1024) : val_main_v53 (F := Ideal) ya yb ym proj x t wa wb wm wOut g (ix2 s k)
    = dErr (rowOf (o ya yb ym proj wa wb wm wOut) s) (rowOf x s) (rowOf t s) (rowOf g 0) k := by
  unfold val_main_v53 val_main_v52 val_main_v51 val_main_v50 val_main_v49 val_main_v48 val_main_v42 val_main_v41 val_main_cst_5 val_main_cst_10 val_main_cst_11 val_main_cst_12
  pointwise [dErr]
  rw [err_at]
  exact share_eq _

theorem dErr_eq : val_main_v53 (F := Ideal) ya yb ym proj x t wa wb wm wOut g = dErrAll (o ya yb ym proj wa wb wm wOut) x t g := by
  funext i
  obtain ⟨s, k, rfl⟩ : ∃ (s : Fin 4096) (k : Fin 1024), i = ix2 s k := ⟨i 0, i 1, eq_ix2 i⟩
  exact dErr_at ..

theorem gain_eq : val_main_v56 (F := Ideal) ya yb ym proj x t wa wb wm wOut g = gainAll (o ya yb ym proj wa wb wm wOut) x t g := by
  funext i
  obtain ⟨z, k, rfl⟩ : ∃ (z : Fin 1) (k : Fin 1024), i = ix2 z k := ⟨i 0, i 1, eq_ix2 i⟩
  unfold val_main_v56 val_main_v55 val_main_v54 val_main_cst_13
  pointwise [gainAll]
  simp only [normed_at, dErr_at]
  exact Finset.sum_congr rfl fun s _ => mul_comm _ _

theorem loss_eq : val_main_v75 (F := Ideal) ya yb ym proj x t wa wb wm wOut g = lossAll (o ya yb ym proj wa wb wm wOut) x t g := by
  funext i
  obtain ⟨z, k, rfl⟩ : ∃ (z : Fin 1) (k : Fin 128), i = ix2 z k := ⟨i 0, i 1, eq_ix2 i⟩
  unfold val_main_v75 val_main_v47 val_main_v46 val_main_v45 val_main_v44 val_main_v43 val_main_v40 val_main_cst_6 val_main_cst_7 val_main_cst_8 val_main_cst_9
  pointwise [lossAll, meanErr]
  simp only [err_at]

theorem dOut_eq : val_main_v72 (F := Ideal) ya yb ym proj x t wa wb wm wOut g = dOutAll (o ya yb ym proj wa wb wm wOut) x t g := by
  funext i
  obtain ⟨s, k, rfl⟩ : ∃ (s : Fin 4096) (k : Fin 1024), i = ix2 s k := ⟨i 0, i 1, eq_ix2 i⟩
  rw [dOutAll_at]
  unfold val_main_v72 val_main_v71 val_main_v70 val_main_v69 val_main_v68 val_main_v67 val_main_v66 val_main_v65 val_main_v64 val_main_v63 val_main_v62 val_main_v61 val_main_v60 val_main_v59 val_main_v58 val_main_v57 val_main_v33 val_main_v32 val_main_v31 val_main_cst_4 val_main_cst_14 val_main_cst_15 val_main_cst_16
  pointwise [Rescale.termwise, Rescale.throughMean]
  simp only [factor_at, meanSq_at, dErr_at, Fin.sum_univ_one]

/-! ### The results -/

theorem result_merged : val_main_v73 (F := Ideal) ya yb ym proj wa wb wm = merged ya yb ym proj wa wb wm := by
  unfold val_main_v73
  rw [merged_eq]
  rfl
theorem result_dOut : val_main_v74 (F := Ideal) ya yb ym proj x t wa wb wm wOut g = dOutAll (out (merged ya yb ym proj wa wb wm) wOut) x t g := by
  unfold val_main_v74
  rw [dOut_eq, ← out_eq]
  rfl
theorem result_dErr : val_main_v53 (F := Ideal) ya yb ym proj x t wa wb wm wOut g = dErrAll (out (merged ya yb ym proj wa wb wm) wOut) x t g := by
  rw [dErr_eq, ← out_eq]
theorem result_gain : val_main_v56 (F := Ideal) ya yb ym proj x t wa wb wm wOut g = gainAll (out (merged ya yb ym proj wa wb wm) wOut) x t g := by
  rw [gain_eq, ← out_eq]
theorem result_loss : val_main_v75 (F := Ideal) ya yb ym proj x t wa wb wm wOut g = lossAll (out (merged ya yb ym proj wa wb wm) wOut) x t g := by
  rw [loss_eq, ← out_eq]

end Loss

end Cert.Reference5Ideal.Read

end
-- ==== Proof.LossBlocks.lean ====
/- The kernel of the merge, the last normalisation and the loss over the extended reals: what one point leaves of its block of
   rows, at an index. -/
module

public import proofs.«01_k».proof.Proof.Loss
public import proofs.«01_k».proof.Proof.Gen.Kernel5Ideal.Value

@[expose] public section

set_option maxRecDepth 16384

noncomputable section

namespace Cert.Kernel5Ideal.Loss

open Cert.Kernel5Ideal.Gen
open Idealize.ShloMosaic Idealize.ShloMosaic.TcCoe Idealize.ShloMosaic.Tactic
open Cert.Loss

/-- The three slabs of the stacked up-projections. -/
abbrev slabA : Rect S3x512x1024 := Rect.unit (s := S3x512x1024) ![0, 0, 0] S1x512x1024.size inb_S3x512x1024_S1x512x1024_0_0_0
abbrev slabB : Rect S3x512x1024 := Rect.unit (s := S3x512x1024) ![1, 0, 0] S1x512x1024.size inb_S3x512x1024_S1x512x1024_1_0_0
abbrev slabM : Rect S3x512x1024 := Rect.unit (s := S3x512x1024) ![2, 0, 0] S1x512x1024.size inb_S3x512x1024_S1x512x1024_2_0_0

section Merge
variable (gates : Vec Ideal S256x3072 .f32) (ya yb ym : Vec Ideal S256x512 .bf16) (wUp : Vec Ideal S3x512x1024 .bf16)
  (wOut : Vec Ideal S1024x1024 .bf16)

/-- Branch `b`'s gate in a block of rows. -/
def gateOf (b : Fin 3) (r : Fin 256) (n : Fin 1024) : EReal :=
  Ideal.logistic (gates (ix2 r ⟨1024 * b.val + n.val, by omega⟩))
/-- Branch `b`'s slab of the stacked up-projections. -/
def slabOf (b : Fin 3) : Merge.Mat 512 1024 := fun j => wUp (ix3 b (j 0) (j 1))

/-- The block's branches merged. -/
abbrev mergedBlk : Vec Ideal S256x1024 .bf16 := k0_pay2 gates ya (View.ld wUp slabA) yb (View.ld wUp slabB) ym (View.ld wUp slabM)
/-- The block's out-projection. -/
abbrev outBlk : Vec Ideal S256x1024 .f32 := k0_pay3 gates ya (View.ld wUp slabA) yb (View.ld wUp slabB) ym (View.ld wUp slabM) wOut

theorem mergedBlk_at (r : Fin 256) (n : Fin 1024) : mergedBlk gates ya yb ym wUp (ix2 r n)
    = gateOf gates 0 r n * Merge.up ya (slabOf wUp 0) r n + gateOf gates 1 r n * Merge.up yb (slabOf wUp 1) r n
      + gateOf gates 2 r n * Merge.up ym (slabOf wUp 2) r n := by
  pointwise [k0_pay2, gateOf, slabOf, Merge.up]

theorem outBlk_at (r : Fin 256) (k : Fin 1024) : outBlk gates ya yb ym wUp wOut (ix2 r k)
    = ∑ n : Fin 1024, mergedBlk gates ya yb ym wUp (ix2 r n) * wOut (ix2 n k) := by
  simp only [outBlk, mergedBlk, k0_pay3]
  generalize k0_pay2 gates ya (View.ld wUp slabA) yb (View.ld wUp slabB) ym (View.ld wUp slabM) = mg
  pointwise []
end Merge

section Rows
variable (o : FVec Ideal S256x1024 .f32) (x t : Vec Ideal S256x1024 .f32) (g : Vec Ideal S1x1024 .f32)

/-- The block's out-projection squared. -/
abbrev sq : FVec Ideal S256x1024 .f32 := mulf o o

theorem dErr_at (r : Fin 256) (k : Fin 1024) : k0_pay9 o (sq o) g x t (ix2 r k) = dErr (rowOf o r) (rowOf x r) (rowOf t r) (rowOf g 0) k := by
  pointwise [k0_pay9, k0_pay7, k0_pay6, k0_pay5, dErr, err, normed, Rescale.factor, Rescale.meanSq]

theorem gain_at (z : Fin 1) (k : Fin 1024) : k0_pay10 o (sq o) g x t (ix2 z k)
    = ∑ r : Fin 256, gain (rowOf o r) (rowOf x r) (rowOf t r) (rowOf g 0) k := by
  pointwise [k0_pay10, k0_pay9, k0_pay7, k0_pay6, k0_pay5, gain, dErr, err, normed, Rescale.factor, Rescale.meanSq]

theorem loss_at (z : Fin 1) (k : Fin 128) : k0_pay11 o (sq o) g x t (ix2 z k)
    = Ideal.ofBits .f32 0x3F000000#32 * ∑ r : Fin 256, meanErr (rowOf o r) (rowOf x r) (rowOf t r) (rowOf g 0) := by
  pointwise [k0_pay11, k0_pay8, k0_pay7, k0_pay6, k0_pay5, meanErr, err, normed, Rescale.factor, Rescale.meanSq]

theorem gain_add (old : Vec Ideal S1x1024 .f32) (z : Fin 1) (k : Fin 1024) : k0_pay12 o (sq o) g x t old (ix2 z k)
    = old (ix2 z k) + ∑ r : Fin 256, gain (rowOf o r) (rowOf x r) (rowOf t r) (rowOf g 0) k := by
  rw [← gain_at o x t g z k]
  pointwise [k0_pay12]
theorem loss_add (old : Vec Ideal S1x128 .f32) (z : Fin 1) (k : Fin 128) : k0_pay13 o (sq o) g x t old (ix2 z k)
    = old (ix2 z k) + Ideal.ofBits .f32 0x3F000000#32 * ∑ r : Fin 256, meanErr (rowOf o r) (rowOf x r) (rowOf t r) (rowOf g 0) := by
  rw [← loss_at o x t g z k]
  pointwise [k0_pay13, k0_pay11]

theorem dOut_at (r : Fin 256) (k : Fin 1024) : k0_pay1 (k0_pay5 (sq o)) (k0_pay6 o (sq o)) (k0_pay14 o (sq o) g x t) (ix2 r k)
    = dOut (rowOf o r) (rowOf x r) (rowOf t r) (rowOf g 0) k := by
  simp only [dOut, Rescale.fused, ← dErr_at]
  generalize hd : k0_pay9 o (sq o) g x t = d
  have h : k0_pay14 o (sq o) g x t = mulf d (broadcastTo S256x1024 g broadcasts_S1x1024_S256x1024) := by rw [← hd]; rfl
  rw [h]
  pointwise [k0_pay1, k0_pay6, k0_pay5, Rescale.factor, Rescale.meanSq]

end Rows

end Cert.Kernel5Ideal.Loss

end
-- ==== Proof.LossPoints.lean ====
/- The kernel of the merge, the last normalisation and the loss, point by point. -/
module

public import proofs.«01_k».proof.Proof.LossBlocks
public import Idealize.ShloMosaic.Lib.Pipeline.ValueKit

@[expose] public section

set_option maxRecDepth 16384

noncomputable section

namespace Cert.Kernel5Ideal.Loss

open Cert.Kernel5Ideal.Gen
open Idealize.ShloMosaic Idealize.ShloMosaic.TcCoe Idealize.ShloMosaic.Tactic
open Idealize.SL Idealize.SL.Sem
open Cert.Loss

variable (m : (ℓ : Loc nD τ sig) → Buf (Elt Ideal) ℓ) (c : Dev nD)

/-- Point `t`'s block of rows: the branches merged, and the out-projection. -/
abbrev mergedAt (t : Fin cfg0.N) : Vec Ideal S256x1024 .bf16 :=
  mergedBlk (X0_3 m c t) (iblk m c 0 t) (iblk m c 1 t) (iblk m c 2 t) (iblk m c 6 t)
abbrev outAt (t : Fin cfg0.N) : FVec Ideal S256x1024 .f32 :=
  outBlk (X0_3 m c t) (iblk m c 0 t) (iblk m c 1 t) (iblk m c 2 t) (iblk m c 6 t) (iblk m c 7 t)
/-- The other blocks it reads: the residual rows, the target's and the gain. -/
abbrev xAt (t : Fin cfg0.N) : Vec Ideal S256x1024 .f32 := iblk m c 4 t
abbrev tAt (t : Fin cfg0.N) : Vec Ideal S256x1024 .f32 := iblk m c 5 t
abbrev gAt (t : Fin cfg0.N) : Vec Ideal S1x1024 .f32 := iblk m c 8 t

theorem later (t : Fin cfg0.N) (h : ¬ t.val % 16 = 0) : 1 ≤ t.val := by omega
theorem first (t : Fin cfg0.N) (h : t.val % 16 = 0) : ¬ 1 ≤ t.val := by
  have : t.val < 16 := lt_of_lt_of_eq t.isLt N_0
  omega

set_option maxHeartbeats 2000000 in
theorem merged_after (t : Fin cfg0.N) : (outsAt0 m c t.val t.isLt).1 = mergedAt m c t := by
  by_cases h0 : t.val % 16 = 0
  · rw [outsAt0_A m c t h0 (first t h0)]
    frame_out
  · rw [outsAt0_B m c t h0 (later t h0)]
    frame_out

set_option maxHeartbeats 2000000 in
theorem dOut_after (t : Fin cfg0.N) : (outsAt0 m c t.val t.isLt).2.1
    = k0_pay1 (k0_pay5 (sq (outAt m c t))) (k0_pay6 (outAt m c t) (sq (outAt m c t))) (k0_pay14 (outAt m c t) (sq (outAt m c t)) (gAt m c t) (xAt m c t) (tAt m c t)) := by
  by_cases h0 : t.val % 16 = 0
  · rw [outsAt0_A m c t h0 (first t h0)]
    frame_out
    rfl
  · rw [outsAt0_B m c t h0 (later t h0)]
    frame_out
    rfl

set_option maxHeartbeats 2000000 in
theorem dErr_after (t : Fin cfg0.N) : (outsAt0 m c t.val t.isLt).2.2.1 = k0_pay9 (outAt m c t) (sq (outAt m c t)) (gAt m c t) (xAt m c t) (tAt m c t) := by
  by_cases h0 : t.val % 16 = 0
  · rw [outsAt0_A m c t h0 (first t h0)]
    frame_out
    rfl
  · rw [outsAt0_B m c t h0 (later t h0)]
    frame_out
    rfl

set_option maxHeartbeats 2000000 in
theorem gain_first (t : Fin cfg0.N) (h0 : t.val % 16 = 0) : (outsAt0 m c t.val t.isLt).2.2.2.1
    = k0_pay10 (outAt m c t) (sq (outAt m c t)) (gAt m c t) (xAt m c t) (tAt m c t) := by
  rw [outsAt0_A m c t h0 (first t h0)]
  frame_out
  rfl
set_option maxHeartbeats 2000000 in
theorem gain_later (t : Fin cfg0.N) (h0 : ¬ t.val % 16 = 0) : (outsAt0 m c t.val t.isLt).2.2.2.1
    = k0_pay12 (outAt m c t) (sq (outAt m c t)) (gAt m c t) (xAt m c t) (tAt m c t)
        (outsAt0 m c (t.val - 1) (Nat.lt_of_le_of_lt (Nat.sub_le _ _) t.isLt)).2.2.2.1 := by
  rw [outsAt0_B m c t h0 (later t h0)]
  frame_out
  rfl

set_option maxHeartbeats 2000000 in
theorem loss_first (t : Fin cfg0.N) (h0 : t.val % 16 = 0) : (outsAt0 m c t.val t.isLt).2.2.2.2
    = k0_pay11 (outAt m c t) (sq (outAt m c t)) (gAt m c t) (xAt m c t) (tAt m c t) := by
  rw [outsAt0_A m c t h0 (first t h0)]
  frame_out
  rfl
set_option maxHeartbeats 2000000 in
theorem loss_later (t : Fin cfg0.N) (h0 : ¬ t.val % 16 = 0) : (outsAt0 m c t.val t.isLt).2.2.2.2
    = k0_pay13 (outAt m c t) (sq (outAt m c t)) (gAt m c t) (xAt m c t) (tAt m c t)
        (outsAt0 m c (t.val - 1) (Nat.lt_of_le_of_lt (Nat.sub_le _ _) t.isLt)).2.2.2.2 := by
  rw [outsAt0_B m c t h0 (later t h0)]
  frame_out
  rfl

end Cert.Kernel5Ideal.Loss

end
-- ==== Proof.LossValues.lean ====
/- The arrays the run of the merge, the last normalisation and the loss leaves, as functions of the arguments. -/
module

public import proofs.«01_k».proof.Proof.LossPoints

@[expose] public section

set_option maxRecDepth 16384

noncomputable section

namespace Cert.Kernel5Ideal.Loss

open Cert.Kernel5Ideal.Gen
open Idealize.ShloMosaic Idealize.ShloMosaic.TcCoe Idealize.ShloMosaic.Tactic
open Idealize.SL Idealize.SL.Sem
open Cert.Loss

variable (m : (ℓ : Loc nD τ sig) → Buf (Elt Ideal) ℓ) (c : Dev nD)

/-- The arguments, as matrices. -/
abbrev aYa : S4096x512.Idx → EReal := m ((c : Thread nD τ).loc main_arg0)
abbrev aYb : S4096x512.Idx → EReal := m ((c : Thread nD τ).loc main_arg1)
abbrev aYm : S4096x512.Idx → EReal := m ((c : Thread nD τ).loc main_arg2)
abbrev aProj : S4096x7424.Idx → EReal := m ((c : Thread nD τ).loc main_arg3)
abbrev aX : S4096x1024.Idx → EReal := m ((c : Thread nD τ).loc main_arg4)
abbrev aT : S4096x1024.Idx → EReal := m ((c : Thread nD τ).loc main_arg5)
abbrev aWa : S512x1024.Idx → EReal := m ((c : Thread nD τ).loc main_arg6)
abbrev aWb : S512x1024.Idx → EReal := m ((c : Thread nD τ).loc main_arg7)
abbrev aWm : S512x1024.Idx → EReal := m ((c : Thread nD τ).loc main_arg8)
abbrev aWOut : S1024x1024.Idx → EReal := m ((c : Thread nD τ).loc main_arg9)
abbrev aG : S1x1024.Idx → EReal := m ((c : Thread nD τ).loc main_arg10)

/-! ### What the host code brings in -/

theorem V_ya : V m c main_v5 = aYa m c := by
  unfold V; after_results_simp <;> (try dsimp only [Matrix.cons_val]) <;> (try after_results_simp) <;> rfl
theorem V_yb : V m c main_v6 = aYb m c := by
  unfold V; after_results_simp <;> (try dsimp only [Matrix.cons_val]) <;> (try after_results_simp) <;> rfl
theorem V_ym : V m c main_v7 = aYm m c := by
  unfold V; after_results_simp <;> (try dsimp only [Matrix.cons_val]) <;> (try after_results_simp) <;> rfl
theorem V_wOut : V m c main_v8 = aWOut m c := by
  unfold V; after_results_simp <;> (try dsimp only [Matrix.cons_val]) <;> (try after_results_simp) <;> rfl
theorem V_wUp : V m c main_v4 = truncf (F := Ideal) (φ := .f32) .bf16 (concatenate S3x512x1024 0
      [⟨S1x512x1024, broadcastInDim S1x512x1024 ![1, 2] bcast_S512x1024_S1x512x1024_1_2 (m ((c : Thread nD τ).loc main_arg6))⟩,
       ⟨S1x512x1024, broadcastInDim S1x512x1024 ![1, 2] bcast_S512x1024_S1x512x1024_1_2 (m ((c : Thread nD τ).loc main_arg7))⟩,
       ⟨S1x512x1024, broadcastInDim S1x512x1024 ![1, 2] bcast_S512x1024_S1x512x1024_1_2 (m ((c : Thread nD τ).loc main_arg8))⟩]
      concatenates_S1x512x1024_S1x512x1024_S1x512x1024_S3x512x1024_d0) bitsLt_bf16_f32 := by
  unfold V; after_results_simp <;> (try dsimp only [Matrix.cons_val]) <;> (try after_results_simp) <;> rfl

/-! ### A point's blocks, read in the arrays -/

/-- Row `r` of point `t`'s block, as a row of the whole array. -/
def row (t : Fin cfg0.N) (r : Fin 256) : Fin 4096 := ⟨256 * t.val + r.val, by have : t.val < 16 := lt_of_lt_of_eq t.isLt N_0; omega⟩

theorem idx_rows : ∀ t : Fin cfg0.N, win0_0.index t = ![t.val, 0] ∧ win0_1.index t = ![t.val, 0] ∧ win0_2.index t = ![t.val, 0]
    ∧ win0_3.index t = ![t.val, 1] ∧ win0_4.index t = ![t.val, 0] ∧ win0_5.index t = ![t.val, 0] ∧ win0_6.index t = ![0, 0, 0]
    ∧ win0_7.index t = ![0, 0] ∧ win0_8.index t = ![0, 0] ∧ win0_9.index t = ![t.val, 0] ∧ win0_10.index t = ![t.val, 0]
    ∧ win0_11.index t = ![t.val, 0] ∧ win0_12.index t = ![0, 0] ∧ win0_13.index t = ![0, 0] := by
  decide +kernel

theorem ya_at (t : Fin cfg0.N) (r : Fin 256) (k : Fin 512) : iblk m c 0 t (ix2 r k) = aYa m c (ix2 (row t r) k) := by
  have h : iblk m c 0 t (ix2 r k) = V m c main_v5 (ix2 (row t r) k) := by blk_ext [iblk, row, idx_rows t]
  rw [h, V_ya]
theorem yb_at (t : Fin cfg0.N) (r : Fin 256) (k : Fin 512) : iblk m c 1 t (ix2 r k) = aYb m c (ix2 (row t r) k) := by
  have h : iblk m c 1 t (ix2 r k) = V m c main_v6 (ix2 (row t r) k) := by blk_ext [iblk, row, idx_rows t]
  rw [h, V_yb]
theorem ym_at (t : Fin cfg0.N) (r : Fin 256) (k : Fin 512) : iblk m c 2 t (ix2 r k) = aYm m c (ix2 (row t r) k) := by
  have h : iblk m c 2 t (ix2 r k) = V m c main_v7 (ix2 (row t r) k) := by blk_ext [iblk, row, idx_rows t]
  rw [h, V_ym]
theorem x_at (t : Fin cfg0.N) (r : Fin 256) (k : Fin 1024) : iblk m c 4 t (ix2 r k) = aX m c (ix2 (row t r) k) := by
  have h : iblk m c 4 t (ix2 r k) = V m c main_arg4 (ix2 (row t r) k) := by blk_ext [iblk, row, idx_rows t]
  rw [h, V_main_arg4]
theorem t_at (t : Fin cfg0.N) (r : Fin 256) (k : Fin 1024) : iblk m c 5 t (ix2 r k) = aT m c (ix2 (row t r) k) := by
  have h : iblk m c 5 t (ix2 r k) = V m c main_arg5 (ix2 (row t r) k) := by blk_ext [iblk, row, idx_rows t]
  rw [h, V_main_arg5]
theorem wOut_at (t : Fin cfg0.N) (n k : Fin 1024) : iblk m c 7 t (ix2 n k) = aWOut m c (ix2 n k) := by
  have h : iblk m c 7 t (ix2 n k) = V m c main_v8 (ix2 n k) := by blk_ext [iblk, idx_rows t]
  rw [h, V_wOut]
theorem g_at (t : Fin cfg0.N) (k : Fin 1024) : iblk m c 8 t (ix2 0 k) = aG m c (ix2 0 k) := by
  have h : iblk m c 8 t (ix2 0 k) = V m c main_arg10 (ix2 0 k) := by blk_ext [iblk, idx_rows t]
  rw [h, V_main_arg10]

theorem gates_at (t : Fin cfg0.N) (r : Fin 256) (q : Fin 3072) : X0_3 m c t (ix2 r q) = aProj m c (ix2 (row t r) ⟨3072 + q.val, by omega⟩) := by
  have h : X0_3 m c t (ix2 r q) = V m c main_arg3 (ix2 (row t r) ⟨3072 + q.val, by omega⟩) := by
    unfold X0_3 Pipeline.Window.fill
    rw [dif_pos (moved0_3 t _)]
    blk_ext [iblk, row, idx_rows t]
  rw [h, V_main_arg3]

theorem wUp_at (t : Fin cfg0.N) (k : Fin 3) (i : Fin 512) (j : Fin 1024) :
    iblk m c 6 t (ix3 k i j) = (![aWa m c, aWb m c, aWm m c] k : S512x1024.Idx → EReal) (ix2 i j) := by
  have h : iblk m c 6 t (ix3 k i j) = V m c main_v4 (ix3 k i j) := by blk_ext [iblk, idx_rows t]
  rw [h, V_wUp]
  pointwise []
  fin_vals k with hk
  · obtain rfl : k = 0 := Fin.ext hk
    rfl
  · obtain rfl : k = 1 := Fin.ext hk
    rfl
  · obtain rfl : k = 2 := Fin.ext hk
    rfl

/-! ### The merge and the out-projection -/

/-- The branches merged, and the out-projection, over all the rows. -/
abbrev rMerged : S4096x1024.Idx → EReal := merged (aYa m c) (aYb m c) (aYm m c) (aProj m c) (aWa m c) (aWb m c) (aWm m c)
abbrev rOut : S4096x1024.Idx → EReal := out (rMerged m c) (aWOut m c)

theorem gate_row (t : Fin cfg0.N) (b : Fin 3) (r : Fin 256) (n : Fin 1024) :
    gateOf (X0_3 m c t) b r n = Merge.gate (aProj m c) b (row t r) n := by
  refine congrArg Ideal.logistic ((gates_at m c t r _).trans ?_)
  exact congrArg (fun q => aProj m c (ix2 (row t r) q)) (Fin.ext (Nat.add_assoc ..).symm)
theorem slab_eq (t : Fin cfg0.N) (b : Fin 3) : slabOf (iblk m c 6 t) b = (![aWa m c, aWb m c, aWm m c] b : S512x1024.Idx → EReal) :=
  funext fun j => (wUp_at m c t b (j 0) (j 1)).trans (congrArg (![aWa m c, aWb m c, aWm m c] b : S512x1024.Idx → EReal) (eq_ix2 j).symm)

theorem upA_row (t : Fin cfg0.N) (r : Fin 256) (n : Fin 1024) :
    Merge.up (iblk m c 0 t) (slabOf (iblk m c 6 t) 0) r n = Merge.up (aYa m c) (aWa m c) (row t r) n := by
  rw [slab_eq]
  exact Finset.sum_congr rfl fun k _ => congrArg (fun e : EReal => e * aWa m c (ix2 k n)) (ya_at m c t r k)
theorem upB_row (t : Fin cfg0.N) (r : Fin 256) (n : Fin 1024) :
    Merge.up (iblk m c 1 t) (slabOf (iblk m c 6 t) 1) r n = Merge.up (aYb m c) (aWb m c) (row t r) n := by
  rw [slab_eq]
  exact Finset.sum_congr rfl fun k _ => congrArg (fun e : EReal => e * aWb m c (ix2 k n)) (yb_at m c t r k)
theorem upM_row (t : Fin cfg0.N) (r : Fin 256) (n : Fin 1024) :
    Merge.up (iblk m c 2 t) (slabOf (iblk m c 6 t) 2) r n = Merge.up (aYm m c) (aWm m c) (row t r) n := by
  rw [slab_eq]
  exact Finset.sum_congr rfl fun k _ => congrArg (fun e : EReal => e * aWm m c (ix2 k n)) (ym_at m c t r k)

theorem merged_row (t : Fin cfg0.N) (r : Fin 256) (n : Fin 1024) : mergedAt m c t (ix2 r n) = rMerged m c (ix2 (row t r) n) := by
  refine (mergedBlk_at _ _ _ _ _ r n).trans ?_
  rw [gate_row, gate_row, gate_row, upA_row, upB_row, upM_row]
  rfl

theorem out_row (t : Fin cfg0.N) (r : Fin 256) : rowOf (outAt m c t) r = rowOf (rOut m c) (row t r) := by
  funext k
  refine (outBlk_at _ _ _ _ _ _ r k).trans ?_
  exact Finset.sum_congr rfl fun n _ => congrArg₂ (fun a b : EReal => a * b) (merged_row m c t r n) (wOut_at m c t n k)
theorem x_row (t : Fin cfg0.N) (r : Fin 256) : rowOf (xAt m c t) r = rowOf (aX m c) (row t r) := funext fun k => x_at m c t r k
theorem t_row (t : Fin cfg0.N) (r : Fin 256) : rowOf (tAt m c t) r = rowOf (aT m c) (row t r) := funext fun k => t_at m c t r k
theorem g_row (t : Fin cfg0.N) : rowOf (gAt m c t) 0 = rowOf (aG m c) 0 := funext fun k => g_at m c t k

/-! ### The results written back block by block -/

theorem merged_eq : (dats m 0 c).arrAt 9 cfg0.N = rMerged m c := by
  refine (dats m 0 c).arrAt_eq_of_covers 9 _ (by decide +kernel) fun t hf y => ?_
  blk_simp
  rw [after0_9, merged_after]
  obtain ⟨a, b, rfl⟩ : ∃ (a : Fin 256) (b : Fin 1024), y = ix2 a b := ⟨y 0, y 1, eq_ix2 y⟩
  refine (merged_row m c t a b).trans ?_
  blk_ext [row, idx_rows t]

theorem dOut_row (t : Fin cfg0.N) (r : Fin 256) (k : Fin 1024) : (outsAt0 m c t.val t.isLt).2.1 (ix2 r k)
    = dOutAll (rOut m c) (aX m c) (aT m c) (aG m c) (ix2 (row t r) k) := by
  rw [dOut_after, dOut_at, out_row, x_row, t_row, g_row]
  rfl
theorem dErr_row (t : Fin cfg0.N) (r : Fin 256) (k : Fin 1024) : (outsAt0 m c t.val t.isLt).2.2.1 (ix2 r k)
    = dErrAll (rOut m c) (aX m c) (aT m c) (aG m c) (ix2 (row t r) k) := by
  rw [dErr_after, dErr_at, out_row, x_row, t_row, g_row]
  rfl

theorem dOut_eq : (dats m 0 c).arrAt 10 cfg0.N = dOutAll (rOut m c) (aX m c) (aT m c) (aG m c) := by
  refine (dats m 0 c).arrAt_eq_of_covers 10 _ (by decide +kernel) fun t hf y => ?_
  blk_simp
  rw [after0_10]
  obtain ⟨a, b, rfl⟩ : ∃ (a : Fin 256) (b : Fin 1024), y = ix2 a b := ⟨y 0, y 1, eq_ix2 y⟩
  refine (dOut_row m c t a b).trans ?_
  blk_ext [row, idx_rows t]
theorem dErr_eq : (dats m 0 c).arrAt 11 cfg0.N = dErrAll (rOut m c) (aX m c) (aT m c) (aG m c) := by
  refine (dats m 0 c).arrAt_eq_of_covers 11 _ (by decide +kernel) fun t hf y => ?_
  blk_simp
  rw [after0_11]
  obtain ⟨a, b, rfl⟩ : ∃ (a : Fin 256) (b : Fin 1024), y = ix2 a b := ⟨y 0, y 1, eq_ix2 y⟩
  refine (dErr_row m c t a b).trans ?_
  blk_ext [row, idx_rows t]

/-! ### The gain's gradient and the loss, summed over the points -/

/-- What is added up over the points is the sum over all the rows. -/
theorem sum_points (f : Fin 4096 → EReal) (x : (n : ℕ) → n < cfg0.N → EReal)
    (h0 : ∀ t : Fin cfg0.N, t.val % 16 = 0 → x t.val t.isLt = ∑ r : Fin 256, f (row t r))
    (hx : ∀ t : Fin cfg0.N, ¬ t.val % 16 = 0 → x t.val t.isLt = x (t.val - 1) (Nat.lt_of_le_of_lt (Nat.sub_le _ _) t.isLt) + ∑ r : Fin 256, f (row t r))
    (t : Fin cfg0.N) (h15 : t.val = 15) : x t.val t.isLt = ∑ r, f r := by
  have hs : ∀ (k : ℕ) (hk : k < cfg0.N), x k hk = ∑ t ∈ Finset.range (k + 1), if h : t < 16 then ∑ r : Fin 256, f ⟨256 * t + r.val, by omega⟩ else 0 := by
    intro k
    induction k with
    | zero => intro hk; rw [h0 ⟨0, hk⟩ rfl]; simp [row]
    | succ k ih =>
      intro hk
      have hk' : k + 1 < 16 := lt_of_lt_of_eq hk N_0
      rw [Finset.sum_range_succ, ← ih (by omega), dif_pos hk']
      exact hx ⟨k + 1, hk⟩ (by simp only; omega)
  rw [hs t.val t.isLt, h15, Finset.sum_range]
  refine (Finset.sum_congr rfl fun t _ => dif_pos t.isLt).trans ?_
  refine (Finset.sum_congr rfl fun t _ => Finset.sum_congr rfl fun r _ => ?_).trans (Fin.sum_mul_add_fin 16 256 f)
  exact congrArg f (Fin.ext (by simp only; omega))

theorem gain_end (t : Fin cfg0.N) (h15 : t.val = 15) (k : Fin 1024) : (outsAt0 m c t.val t.isLt).2.2.2.1 (ix2 0 k)
    = ∑ s, gain (rowOf (rOut m c) s) (rowOf (aX m c) s) (rowOf (aT m c) s) (rowOf (aG m c) 0) k := by
  refine sum_points (fun s => gain (rowOf (rOut m c) s) (rowOf (aX m c) s) (rowOf (aT m c) s) (rowOf (aG m c) 0) k)
    (fun n hn => (outsAt0 m c n hn).2.2.2.1 (ix2 0 k)) (fun t h0 => ?_) (fun t h0 => ?_) t h15
  · rw [gain_first m c t h0, gain_at]
    simp only [out_row, x_row, t_row, g_row]
  · rw [gain_later m c t h0, gain_add]
    simp only [out_row, x_row, t_row, g_row]

theorem loss_end (t : Fin cfg0.N) (h15 : t.val = 15) (k : Fin 128) : (outsAt0 m c t.val t.isLt).2.2.2.2 (ix2 0 k)
    = Ideal.ofBits .f32 0x3F000000#32 * ∑ s, meanErr (rowOf (rOut m c) s) (rowOf (aX m c) s) (rowOf (aT m c) s) (rowOf (aG m c) 0) := by
  rw [← half_sum]
  refine sum_points (fun s => Ideal.ofBits .f32 0x3F000000#32 * meanErr (rowOf (rOut m c) s) (rowOf (aX m c) s) (rowOf (aT m c) s) (rowOf (aG m c) 0))
    (fun n hn => (outsAt0 m c n hn).2.2.2.2 (ix2 0 k)) (fun t h0 => ?_) (fun t h0 => ?_) t h15
  · rw [loss_first m c t h0, loss_at, half_sum]
    simp only [out_row, x_row, t_row, g_row]
  · rw [loss_later m c t h0, loss_add, half_sum]
    simp only [out_row, x_row, t_row, g_row]

theorem gain_eq : (dats m 0 c).arrAt 12 cfg0.N = gainAll (rOut m c) (aX m c) (aT m c) (aG m c) := by
  refine (dats m 0 c).arrAt_eq_of_covers 12 _ (by decide +kernel) fun t hf y => ?_
  have h15 : t.val = 15 := by revert hf; revert t; decide +kernel
  blk_simp
  rw [after0_12]
  obtain ⟨a, b, rfl⟩ : ∃ (a : Fin 1) (b : Fin 1024), y = ix2 a b := ⟨y 0, y 1, eq_ix2 y⟩
  obtain rfl : a = 0 := Subsingleton.elim _ _
  refine (gain_end m c t h15 b).trans ?_
  have e : ∑ s, gain (rowOf (rOut m c) s) (rowOf (aX m c) s) (rowOf (aT m c) s) (rowOf (aG m c) 0) b
    = gainAll (rOut m c) (aX m c) (aT m c) (aG m c) (ix2 0 b) := rfl
  rw [e]
  blk_ext [idx_rows t]
theorem loss_eq : (dats m 0 c).arrAt 13 cfg0.N = lossAll (rOut m c) (aX m c) (aT m c) (aG m c) := by
  refine (dats m 0 c).arrAt_eq_of_covers 13 _ (by decide +kernel) fun t hf y => ?_
  have h15 : t.val = 15 := by revert hf; revert t; decide +kernel
  blk_simp
  rw [after0_13]
  obtain ⟨a, b, rfl⟩ : ∃ (a : Fin 1) (b : Fin 128), y = ix2 a b := ⟨y 0, y 1, eq_ix2 y⟩
  obtain rfl : a = 0 := Subsingleton.elim _ _
  exact loss_end m c t h15 b

end Cert.Kernel5Ideal.Loss

end
-- ==== Proof.LossClaims.lean ====
/- The claims of the merge's forward pass, the last normalisation and the loss. -/
module

public import proofs.«01_k».proof.Defs
public import proofs.«01_k».proof.Proof.LossReference
public import proofs.«01_k».proof.Proof.LossValues
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import Idealize.ShloMosaic.Lib.Quiescent
public import Idealize.ShloMosaic.Adequacy

@[expose] public section

noncomputable section

namespace Cert.Proof

open Idealize.ShloMosaic Idealize.ShloMosaic.TcCoe Idealize.ShloMosaic.Tactic Idealize.SL.Sem

theorem frame_kernel5 : Cert.quiescent_Kernel5 := fun m ρ _ => Cert.Kernel5.Gen.frame (F := Bits) m ρ

theorem frame_kernel5Ideal : Cert.quiescent_Kernel5Ideal := fun m ρ _ => Cert.Kernel5Ideal.Gen.frame (F := Ideal) m ρ

theorem frame_reference5 : Cert.quiescent_Reference5Ideal := fun m ρ _ =>
  (θ_run Cert.Reference5Ideal.defs _ _).mono (fun r h => ⟨fun c => (h c).2.2.2.2.2, sem_eq_zero_of_no_sems (by decide) r.2⟩)
    (Cert.Reference5Ideal.Value.run (F := Ideal) m ρ)

set_option maxHeartbeats 4000000 in
open Cert.Reference5Ideal.Read in
theorem algebraic5 : Cert.algebraic_Kernel5Ideal_Reference5Ideal := by
  intro m ρ m' ρ' _ hargs
  refine ⟨fun c => (Cert.Kernel5Ideal.Gen.dats m 0 c).arrAt 9 Cert.Kernel5Ideal.cfg0.N, fun c => (Cert.Kernel5Ideal.Gen.dats m 0 c).arrAt 10 Cert.Kernel5Ideal.cfg0.N,
    fun c => (Cert.Kernel5Ideal.Gen.dats m 0 c).arrAt 11 Cert.Kernel5Ideal.cfg0.N, fun c => (Cert.Kernel5Ideal.Gen.dats m 0 c).arrAt 12 Cert.Kernel5Ideal.cfg0.N,
    fun c => (Cert.Kernel5Ideal.Gen.dats m 0 c).arrAt 13 Cert.Kernel5Ideal.cfg0.N, Cert.Kernel5Ideal.Value.run_blocks (F := Ideal) m ρ, ?_⟩
  refine (θ_run Cert.Reference5Ideal.defs _ _).mono (fun r h c => ?_) (Cert.Reference5Ideal.Value.run (F := Ideal) m' ρ')
  obtain ⟨h0, h1, h2, h3, h4, hin⟩ := h c
  obtain ⟨a0, a1, a2, a3, a4, a5, a6, a7, a8, a9, a10⟩ := hargs c
  rw [val_main_v73_eq, a0, a1, a2, a3, a6, a7, a8, result_merged] at h0
  rw [val_main_v74_eq, a0, a1, a2, a3, a4, a5, a6, a7, a8, a9, a10, result_dOut] at h1
  rw [val_main_v53_eq, a0, a1, a2, a3, a4, a5, a6, a7, a8, a9, a10, result_dErr] at h2
  rw [val_main_v56_eq, a0, a1, a2, a3, a4, a5, a6, a7, a8, a9, a10, result_gain] at h3
  rw [val_main_v75_eq, a0, a1, a2, a3, a4, a5, a6, a7, a8, a9, a10, result_loss] at h4
  exact ⟨h0.trans (Cert.Kernel5Ideal.Loss.merged_eq m c).symm, h1.trans (Cert.Kernel5Ideal.Loss.dOut_eq m c).symm,
    h2.trans (Cert.Kernel5Ideal.Loss.dErr_eq m c).symm, h3.trans (Cert.Kernel5Ideal.Loss.gain_eq m c).symm,
    h4.trans (Cert.Kernel5Ideal.Loss.loss_eq m c).symm, hin⟩

end Cert.Proof

end
-- ==== Proof.Far.lean ====
/- The kernel of the in-projection's columns whose weights come from two sources, one point run: at the first point the rows of the
   weights are brought in, a window of one source and the other over its rows; at every point one block of columns is multiplied
   out. -/
module

public import proofs.«01_k».proof.Proof.Gen.Kernel6Ideal.Launch
public import proofs.«01_k».proof.Proof.Gen.Kernel6Ideal.Skeleton
public import Idealize.ShloMosaic.Lib.Tactic
public import Idealize.ShloMosaic.Lib.Pipeline.FrameBody
public import Idealize.ShloMosaic.Lib.Pipeline.ValueKit

@[expose] public section

set_option maxRecDepth 16384

noncomputable section

namespace Cert.Kernel6Ideal.Far

open Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-- The contents of a memref's buffer on core `c`, and the buffer held whole at them. -/
abbrev BufOf (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : BufOf (F := F) c M) : sProp 𝕄 :=
  M.view.loc (c : Thread nD τ) ↦{fullShare} f

/-- The weights' two sources in HBM, the buffer their rows are brought into, the table and the array the result is written over. -/
abbrev nearM : Memref sig .tc .hbm S7424x1024 .bf16 := Memref.whole main_v1
abbrev farM : Memref sig .tc .hbm S1856x1024 .bf16 := Memref.whole main_v2
abbrev wM : Memref sig .tc .vmem S2048x1024 .bf16 := Memref.whole cc0_scratch0
abbrev tableM : Memref sig .tc .smem S3 .i32 := Memref.whole main_v8
abbrev intoM : Memref sig .tc .hbm S4096x7424 .f32 := Memref.whole main_arg3

/-! ## What a point computes -/

/-- The rows of the first source that are brought in, and those of the buffer that the other source goes over. -/
abbrev nearRows : Rect S7424x1024 := Rect.unit (s := S7424x1024) ![5376, 0] S2048x1024.size (by decide)
abbrev farRows : Rect S2048x1024 := Rect.unit (s := S2048x1024) ![192, 0] S1856x1024.size (by decide)

/-- The rows of the weights brought in. -/
def joined (near : Vec F S7424x1024 .bf16) (far : Vec F S1856x1024 .bf16) : Vec F S2048x1024 .bf16 :=
  View.canon [⟨farRows, far⟩, ⟨Rect.whole S2048x1024, View.ld near nearRows⟩]

/-- The block of columns a point multiplies out. -/
def times (i : grid0.Coords) (h : Vec F S4096x1024 .bf16) (w : Vec F S2048x1024 .bf16) : Vec F S4096x256 .f32 :=
  k0_pay1 (View.ld w (Rect.unit (s := S2048x1024) (k0_off3 i) S256x1024.size (k0_off3_inb i))) h

theorem ld_h (X : Vec F S4096x1024 .bf16) (h) : View.ld X (Rect.unit (s := S4096x1024) ![0, 0] ![4096, 1024] h) = X := View.ld_unit_lit h X (by decide)
theorem read_w (X : Vec F S2048x1024 .bf16) (h) : View.read (Elt F) (View.whole cc0_scratch0) (Memref.IsWhole.unread (m := Memref.whole cc0_scratch0) h X) = X := h.read_unread X

theorem read_nearRows (o : Fin 2 → ℕ) (h : ∀ a, o a + S2048x1024.size a ≤ S7424x1024.size a) (e : o = ![5376, 0]) (near : nearM.view.ty.Contents (Elt F)) :
    View.read (Elt F) (nearM.slice (Rect.unit (s := S7424x1024) o S2048x1024.size h) (fun _ => rfl)).view near = View.ld near nearRows := by
  subst e
  rfl

theorem read_over (o : Fin 2 → ℕ) (h : ∀ a, o a + S1856x1024.size a ≤ S2048x1024.size a) (e : o = ![192, 0]) (f : wM.view.ty.Contents (Elt F))
    (near : Vec F S2048x1024 .bf16) (far : Vec F S1856x1024 .bf16) :
    wM.view.read (Elt F) (View.write (Elt F) (wM.slice (Rect.unit (s := S2048x1024) o S1856x1024.size h) (fun _ => rfl)).view
      (wM.view.writes (Elt F) f [⟨Rect.whole S2048x1024, near⟩]) far Finset.univ) = View.canon [⟨farRows, far⟩, ⟨Rect.whole S2048x1024, near⟩] := by
  subst e
  exact View.read_writes_eq_canon wM.view f [⟨farRows, far⟩, ⟨Rect.whole S2048x1024, near⟩]
    fun y => ⟨_, List.mem_cons_of_mem _ (List.mem_singleton_self _), by rw [Rect.set_whole]; exact Finset.mem_univ y⟩

section Body
variable (i : grid0.Coords)
variable (arg2 : Memref sig .tc .smem S3 .i32) (harg2 : arg2.IsWhole)
variable (arg3 : Memref sig .tc .vmem S4096x1024 .bf16) (harg3 : arg3.IsWhole)
variable (arg7 : Memref sig .tc .vmem S4096x256 .f32) (harg7 : arg7.IsWhole)

/-- The body, its memrefs other than the windows' filled in. -/
abbrev body : Prog (TpuEff nD τ sig (Elt F) Λ₀ .tc) PUnit :=
  cc0_proj_far i tableM (Memref.isWhole_whole _) arg2 harg2 arg3 harg3 nearM (Memref.isWhole_whole _) farM (Memref.isWhole_whole _) intoM (Memref.isWhole_whole _) arg7 harg7 wM (Memref.isWhole_whole _) cc0_scratch1

/-- The inputs' buffers at their blocks. -/
abbrev inputsAre (c : Dev nD) (wd : Vec F S3 .i32) (h : Vec F S4096x1024 .bf16) : sProp 𝕄 :=
  iprop(owns (c : Thread nD τ) arg2 fullShare wd ∗ owns (c : Thread nD τ) arg3 fullShare h)

set_option maxHeartbeats 2000000 in
/-- A point other than the first. -/
theorem next_run (c : Dev nD) (h1 : ¬ k0_cond1 i = 1#1)
    (wd : Vec F S3 .i32) (h : Vec F S4096x1024 .bf16) (w : Vec F S2048x1024 .bf16) (K : PUnit → sProp 𝕄) :
    iprop(inputsAre arg2 arg3 c wd h ∗ (∃ d, owns (c : Thread nD τ) arg7 fullShare d) ∗ owns (c : Thread nD τ) wM fullShare w
      ∗ (iprop(inputsAre arg2 arg3 c wd h ∗ owns (c : Thread nD τ) arg7 fullShare (times i h w) ∗ owns (c : Thread nD τ) wM fullShare w) -∗ K ⟨⟩))
    ⊢ wp frame (wpE (defs₀ (F := F)) Variants.none c none) Set.univ (body i arg2 harg2 arg3 harg3 arg7 harg7) K := by
  haveI : Fact (¬ k0_cond1 i = 1#1) := ⟨h1⟩
  unfold body
  simp only [cc0_proj_far_eq_skeleton]
  unfold cc0_proj_far_skel
  unfold inputsAre owns
  iintro ⟨⟨⟨%f2, %hf2, H2⟩, ⟨%f3, %hf3, H3⟩⟩, ⟨%d7, %f7, -, H7⟩, ⟨%fw, %hfw, HW⟩, Hk⟩
  obtain rfl := harg2.eq_unread hf2; obtain rfl := harg3.eq_unread hf3
  obtain rfl := (Memref.isWhole_whole _).eq_unread hfw
  sl_exec (disch := first | sl_exact h1)
  sl_step
  iapply Hk
  isplitl [H2 H3]
  · isplitl [H2]; · iexists _; isplitr; swap; · iexact H2
                    ipureintro; exact hf2
    iexists _; isplitr; swap; · iexact H3
    ipureintro; exact hf3
  isplitl [H7]
  · iexists _; isplitr; swap; · iexact H7
    ipureintro
    refine (View.read_writes_eq_canon _ _ _ (View.cover_of_tiled _ ![4096, 256] rfl)).trans ?_
    refine (View.canon_cons_unit_lit _ _ _ (by decide)).trans ?_
    sl_unfold_run_names
    simp only [View.readAt_eq_ld, Memref.IsWhole.read_unread, read_w, ld_h]
    rfl
  iexists _; isplitr; swap; · iexact HW
  ipureintro; exact hfw

set_option maxHeartbeats 2000000 in
/-- The first point. -/
theorem first_run (c : Dev nD) (h1 : k0_cond1 i = 1#1)
    (wd : Vec F S3 .i32) (hwd : View.ld wd (Rect.unit (s := S3) ![2] S1.size inb_S3_S1_2) = fun _ => 3#32) (h : Vec F S4096x1024 .bf16)
    (near : BufOf (F := F) c nearM) (far : BufOf (F := F) c farM) (Q : Waits sig Unit) (K : PUnit → sProp 𝕄) :
    iprop(inputsAre arg2 arg3 c wd h ∗ (∃ d, owns (c : Thread nD τ) arg7 fullShare d) ∗ (∃ d, owns (c : Thread nD τ) wM fullShare d)
      ∗ held c nearM near ∗ held c farM far ∗ semVal ((c : Thread nD τ), SemLoc.dma 4) 0 ∗ owes (c : Thread nD τ) 0 Q
      ∗ (iprop(inputsAre arg2 arg3 c wd h ∗ owns (c : Thread nD τ) arg7 fullShare (times i h (joined near far)) ∗ owns (c : Thread nD τ) wM fullShare (joined near far)
          ∗ held c nearM near ∗ held c farM far ∗ semVal ((c : Thread nD τ), SemLoc.dma 4) 0 ∗ (∃ Q', owes (c : Thread nD τ) 0 Q')) -∗ K ⟨⟩))
    ⊢ wp frame (wpE (defs₀ (F := F)) Variants.none c none) Set.univ (body i arg2 harg2 arg3 harg3 arg7 harg7) K := by
  haveI : Fact (k0_cond1 i = 1#1) := ⟨h1⟩
  unfold body
  simp only [cc0_proj_far_eq_skeleton]
  unfold cc0_proj_far_skel
  unfold inputsAre owns
  iintro ⟨⟨⟨%f2, %hf2, H2⟩, ⟨%f3, %hf3, H3⟩⟩, ⟨%d7, %f7, -, H7⟩, ⟨%dw, %fw, -, HW⟩, HN, HF, HS, HQ, Hk⟩
  obtain rfl := harg2.eq_unread hf2; obtain rfl := harg3.eq_unread hf3
  sl_exec (disch := first | sl_exact h1)
  have hr : first_run.sl.r arg2 harg2 c wd = 3#32 := by
    sl_unfold_run_names
    simp only [View.readAt_eq_ld, Memref.IsWhole.read_unread]
    exact congrFun hwd _
  have hk : k0_chk1 i (first_run.sl.r arg2 harg2 c wd) := by
    rw [hr]
    exact ⟨fun _ => by decide, fun _ => by decide, fun _ _ => .inl (Affine.packed_dvd (of_decide_eq_true rfl) (by decide) (by decide)),
      fun _ => by decide, fun _ => by decide, fun _ _ => .inl (Affine.packed_dvd (of_decide_eq_true rfl) (by decide) (by decide))⟩
  haveI : ClosedOff (k0_off1 (first_run.sl.r arg2 harg2 c wd)) := ⟨![5376, 0], by rw [hr]; rfl⟩
  haveI : ClosedOff (k0_off2 (first_run.sl.r arg2 harg2 c wd)) := ⟨![192, 0], by rw [hr]; rfl⟩
  sl_exec (disch := first | sl_exact hk | sl_exact h1)
  have hw : wM.view.read (Elt F) (first_run.sl.HW_w1 i arg2 harg2 c h1 wd near far fw hk) = joined near far := by
    unfold first_run.sl.HW_w1 first_run.sl.dma0 first_run.sl.dma0_1
    refine (read_over _ (k0_off2_inb i _ hk h1) ((congrArg k0_off2 hr).trans rfl) fw _ far).trans ?_
    exact congrArg (fun v => View.canon [⟨farRows, far⟩, ⟨Rect.whole S2048x1024, v⟩])
      (read_nearRows _ (k0_off1_inb i _ hk h1) ((congrArg k0_off1 hr).trans rfl) near)
  sl_step
  iapply Hk
  isplitl [H2 H3]
  · isplitl [H2]; · iexists _; isplitr; swap; · iexact H2
                    ipureintro; exact hf2
    iexists _; isplitr; swap; · iexact H3
    ipureintro; exact hf3
  isplitl [H7]
  · iexists _; isplitr; swap; · iexact H7
    ipureintro
    refine (View.read_writes_eq_canon _ _ _ (View.cover_of_tiled _ ![4096, 256] rfl)).trans ?_
    refine (View.canon_cons_unit_lit _ _ _ (by decide)).trans ?_
    simp only [View.readAt_eq_ld, Memref.IsWhole.read_unread, ld_h]
    rw [hw]
    rfl
  isplitl [HW]
  · iexists _; isplitr; swap; · iexact HW
    ipureintro; exact hw
  isplitl [HN]; · iexact HN
  isplitl [HF]; · iexact HF
  isplitl [HS]; · iexact HS
  iexists _; iexact HQ
end Body
end Cert.Kernel6Ideal.Far

end
-- ==== Proof.FarLaunch.lean ====
/- The launch of the in-projection's columns whose weights come from two sources: the table that says which columns they are, what
   the pipeline's buffers hold before and after every grid point, the body's obligation, and the run of the whole program. -/
module

public import proofs.«01_k».proof.Proof.Far

@[expose] public section

set_option maxRecDepth 16384

noncomputable section

namespace Cert.Kernel6Ideal.Far

open Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers when the pipeline is entered -/

/-- Core `c`'s buffers after the host's operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem enters : Pipeline.HMainP (Ix := Unit) (Name := ℕ) (U := Pipeline.UD sig nD τ) (Lvl := ℕ) pcfgs 0 defs₀ Variants.none m (main (F := F)) (V m) :=
  Pipeline.hmainP_prefix pcfgs 0 defs₀ Variants.none m main hostOps0 hostOps0_sub hostOps0_fresh main_chain

/-- An argument is as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-! ## The table -/

/-- The table: two zeros and the last place. -/
abbrev table : (⟨S3, .i32⟩ : BufTy).Contents (Elt F) :=
  concatenate S3 0 [⟨S1, (broadcastInDim S1 ![] bcast_S_S1 (constantI S_ 32 0#32) : (⟨S1, .i32⟩ : BufTy).Contents (Elt F))⟩,
    ⟨S1, (broadcastInDim S1 ![] bcast_S_S1 (constantI S_ 32 0#32) : (⟨S1, .i32⟩ : BufTy).Contents (Elt F))⟩,
    ⟨S1, (broadcastInDim S1 ![] bcast_S_S1 (constantI S_ 32 3#32) : (⟨S1, .i32⟩ : BufTy).Contents (Elt F))⟩] concatenates_S1_S1_S1_S3_d0

theorem V_table (c : Dev nD) : V m c main_v6 = table := by
  unfold V; after_results_simp <;> (try dsimp only [Matrix.cons_val]) <;> (try after_results_simp) <;> rfl
theorem V_again (c : Dev nD) : V m c main_v8 = addi (table (F := F)) (broadcastInDim S3 ![] bcast_S_S3 (constantI S_ 32 0#32) : (⟨S3, .i32⟩ : BufTy).Contents (Elt F)) := by
  unfold V; after_results_simp <;> (try dsimp only [Matrix.cons_val]) <;> (try after_results_simp) <;> rfl

/-- The tables the index maps read, when the pipeline is entered. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl

/-- The table's last word, as the index map reads it. -/
theorem place (h1 : ∀ a, (![2] : Fin 1 → Nat) a + S1.size a ≤ S3.size a) (h2 : S1.numel = 1) :
    (tbl m).at 0 (Rect.unit (s := S3) ![2] S1.size h1) h2 = 3#32 := by
  have e : (tbl m 0 : (⟨S3, .i32⟩ : BufTy).Contents (Elt F)) = addi (table (F := F)) (broadcastInDim S3 ![] bcast_S_S3 (constantI S_ 32 0#32) : (⟨S3, .i32⟩ : BufTy).Contents (Elt F)) :=
    V_again m 0
  show (tbl m 0 : (⟨S3, .i32⟩ : BufTy).Contents (Elt F)) _ = _
  rw [e]
  rfl

/-- The block of columns written at a point. -/
theorem index_map (i : grid0.Coords) (h1) (h2) : cc0_transform_5 (F := F) h1 h2 (tbl m) i = ![0, (i 0).val + 16] := by
  unfold cc0_transform_5
  rw [place]
  revert i; decide

theorem ok : ok0 (F := F) (tbl m) := by
  intro i
  refine ⟨fun a => ?_, .inl rfl⟩
  rw [index_map]
  revert a i; decide

abbrev adm : (pcfg0 (F := F)).Adm := ⟨tbl m, ok m⟩
abbrev cfgM : Pipeline.Cfg sig Λ₀ := cfg0 (adm m)

/-! ## The windows' buffers at a point, and which point it is -/

abbrev stg0 (t : Fin (cfgM m).N) : Memref sig .tc .smem S3 .i32 := spec0_0.stage ((cfgM m).slots t 0)
abbrev stg1 (t : Fin (cfgM m).N) : Memref sig .tc .vmem S4096x1024 .bf16 := spec0_1.stage ((cfgM m).slots t 1)
abbrev stg2 (t : Fin (cfgM m).N) : Memref sig .tc .vmem S4096x256 .f32 := spec0_2.stage ((cfgM m).slots t 2)
theorem whole0 (t : Fin (cfgM m).N) : (stg0 m t).IsWhole := hstage0_0 (((cfgM m).slots t 0).cast nbuf0_0)
theorem whole1 (t : Fin (cfgM m).N) : (stg1 m t).IsWhole := hstage0_1 (((cfgM m).slots t 1).cast nbuf0_1)
theorem whole2 (t : Fin (cfgM m).N) : (stg2 m t).IsWhole := hstage0_2 (((cfgM m).slots t 2).cast nbuf0_2)

theorem cond1_iff : ∀ t : Fin grid0.N, k0_cond1 (grid0.coords t) = 1#1 ↔ t.val = 0 := by decide +kernel
theorem points : (cfgM m).N = 8 := N_0

/-- A window's block at a point, read off its array. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-! ## What the points leave -/

/-- The weights as they are brought in. -/
def weights (c : Dev nD) : Vec F S2048x1024 .bf16 := joined (V m c main_v1) (V m c main_v2)
/-- The block of columns left at point `t`. -/
def outAt (c : Dev nD) (t : Fin (cfgM m).N) : Vec F S4096x256 .f32 := times (grid0.coords t) (iblk m c 1 t) (weights m c)

/-- The invariant before point `k`: the weights in place after the first point; the weights' sources, the cell of the copies and the
    generator register, which no point changes. -/
def inv (c : Dev nD) (k : ℕ) : sProp 𝕄 :=
  iprop((∃ w, ⌜k ≠ 0 → w = weights m c⌝ ∗ owns (c : Thread nD τ) wM fullShare w)
    ∗ held c nearM (V m c main_v1) ∗ held c farM (V m c main_v2) ∗ semVal ((c : Thread nD τ), SemLoc.dma 4) 0 ∗ (∃ r, prngReg c r))

/-- The proof data of the pipeline on core `c`. -/
def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => outAt m c t
  Φ t := inv m c t.val
  q _ := fullShare
  owed _ := 0

theorem A_eq (c : Dev nD) (w : Fin (cfgM m).W) : (dats m 0 c).A w = V m c (Pipeline.arrRef spec0 w) := by dsimp only [dats]
theorem inv_castSucc (c : Dev nD) (t : Fin (cfgM m).N) : (dats m 0 c).Φ t.castSucc = inv m c t.val := by
  dsimp only [dats]; simp only [Fin.coe_castSucc]
theorem inv_succ (c : Dev nD) (t : Fin (cfgM m).N) : (dats m 0 c).Φ t.succ = inv m c (t.val + 1) := by
  dsimp only [dats]; simp only [Fin.val_succ]

theorem after0 (c : Dev nD) (t : Fin (cfgM m).N) : (dats m 0 c).after 0 t = iblk m c 0 t := rfl
theorem after1 (c : Dev nD) (t : Fin (cfgM m).N) : (dats m 0 c).after 1 t = iblk m c 1 t := rfl
theorem after2 (c : Dev nD) (t : Fin (cfgM m).N) : (dats m 0 c).after 2 t = outAt m c t := rfl

/-- An input's buffer holds its block at every point, fetched there or not. -/
theorem before0 (c : Dev nD) (t : Fin (cfgM m).N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfgM m).N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

/-! ## The body at a point -/

/-- The table's last word, as the body reads it. -/
theorem word (c : Dev nD) (t : Fin (cfgM m).N) : View.ld (iblk m c 0 t) (Rect.unit (s := S3) ![2] S1.size inb_S3_S1_2) = fun _ => 3#32 := by
  refine (congrArg (fun X : (⟨S3, .i32⟩ : BufTy).Contents (Elt F) => View.ld (View.read (Elt F) (((cfgM m).win 0).blk t).view X) (Rect.unit (s := S3) ![2] S1.size inb_S3_S1_2)) (V_table m c)).trans ?_
  funext y
  change S1.Idx at y
  obtain rfl : y = fun a => ⟨0, (by decide : ∀ a, 0 < S1.size a) a⟩ := funext fun a => by fin_cases a; exact Subsingleton.elim (α := Fin 1) _ _
  rfl

/-- The body as the pipeline calls it. -/
abbrev bodyAt (t : Fin (cfgM m).N) : Prog (TpuEff nD τ sig (Elt F) Λ₀ .tc) PUnit :=
  body (grid0.coords t) (stg0 m t) (whole0 m t) (stg1 m t) (whole1 m t) (stg2 m t) (whole2 m t)

/-- The inputs' buffers at their blocks. -/
abbrev ins (c : Dev nD) (t : Fin (cfgM m).N) : sProp 𝕄 := inputsAre (stg0 m t) (stg1 m t) c (iblk m c 0 t) (iblk m c 1 t)

/-- What a point leaves. -/
abbrev leaves (c : Dev nD) (t : Fin (cfgM m).N) : sProp 𝕄 :=
  iprop(inv m c (t.val + 1) ∗ (∃ Q, owes (c : Thread nD τ) 0 Q) ∗ ins m c t ∗ owns (c : Thread nD τ) (stg2 m t) fullShare (outAt m c t))

set_option maxHeartbeats 1000000 in
theorem body_run (c : Dev nD) (t : Fin (cfgM m).N) :
    iprop(inv m c t.val ∗ (∃ Q, owes (c : Thread nD τ) 0 Q) ∗ ins m c t ∗ (∃ d, owns (c : Thread nD τ) (stg2 m t) fullShare d))
    ⊢ wp frame (wpE (defs₀ (F := F)) Variants.none c none) Set.univ (bodyAt m t) (fun _ => leaves m c t) := by
  unfold leaves inv
  by_cases h0 : t.val = 0
  · iintro ⟨⟨⟨%w, -, HW⟩, Hn, Hf, Hs, Hp⟩, ⟨%Q, HQ⟩, Hi, H2⟩
    iapply (first_run (grid0.coords t) (stg0 m t) (whole0 m t) (stg1 m t) (whole1 m t) (stg2 m t) (whole2 m t) c
      ((cond1_iff t).2 h0) _ (word m c t) _ (V m c main_v1) (V m c main_v2) Q _)
    isplitl [Hi]; · iexact Hi
    isplitl [H2]; · iexact H2
    isplitl [HW]; · iexists _; iexact HW
    isplitl [Hn]; · iexact Hn
    isplitl [Hf]; · iexact Hf
    isplitl [Hs]; · iexact Hs
    isplitl [HQ]; · iexact HQ
    iintro ⟨Hi, H2, HW, Hn, Hf, Hs, HQ⟩
    isplitl [HW Hn Hf Hs Hp]
    · isplitl [HW]
      · iexists _; isplitr; swap; · iexact HW
        ipureintro; exact fun _ => rfl
      isplitl [Hn]; · iexact Hn
      isplitl [Hf]; · iexact Hf
      isplitl [Hs]; · iexact Hs
      iexact Hp
    isplitl [HQ]; · iexact HQ
    isplitl [Hi]; · iexact Hi
    iexact H2
  · iintro ⟨⟨⟨%w, %hw, HW⟩, Hn, Hf, Hs, Hp⟩, HQ, Hi, H2⟩
    obtain rfl := hw h0
    iapply (next_run (grid0.coords t) (stg0 m t) (whole0 m t) (stg1 m t) (whole1 m t) (stg2 m t) (whole2 m t) c
      (fun h => h0 ((cond1_iff t).1 h)) _ _ _ _)
    isplitl [Hi]; · iexact Hi
    isplitl [H2]; · iexact H2
    isplitl [HW]; · iexact HW
    iintro ⟨Hi, H2, HW⟩
    isplitl [HW Hn Hf Hs Hp]
    · isplitl [HW]
      · iexists _; isplitr; swap; · iexact HW
        ipureintro; exact fun _ => rfl
      isplitl [Hn]; · iexact Hn
      isplitl [Hf]; · iexact Hf
      isplitl [Hs]; · iexact Hs
      iexact Hp
    isplitl [HQ]; · iexact HQ
    isplitl [Hi]; · iexact Hi
    iexact H2

/-- What the pipeline calls the body with, window by window, and what it expects back. -/
def bodyPre (c : Dev nD) (t : Fin (cfgM m).N) : sProp 𝕄 :=
  iprop((dats m 0 c).Φ t.castSucc ∗ (dats m 0 c).owesAt () t.castSucc
    ∗ (∃ d, owns (c : Thread nD τ) (stg0 m t) fullShare ((dats m 0 c).before 0 t d))
    ∗ (∃ d, owns (c : Thread nD τ) (stg1 m t) fullShare ((dats m 0 c).before 1 t d))
    ∗ (∃ d, owns (c : Thread nD τ) (stg2 m t) fullShare ((dats m 0 c).before 2 t d)))
def bodyPost (c : Dev nD) (t : Fin (cfgM m).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem pre_in (c : Dev nD) (t : Fin (cfgM m).N) : bodyPre m c t ⊢ iprop(inv m c t.val ∗ (∃ Q, owes (c : Thread nD τ) 0 Q) ∗ ins m c t
    ∗ (∃ d, owns (c : Thread nD τ) (stg2 m t) fullShare d)) := by
  unfold bodyPre
  simp only [before0, before1]
  rw [inv_castSucc m c t]
  unfold Dat.owesAt Pipeline.owesWithin
  rw [show (dats m 0 c).owed t.castSucc = 0 from rfl]
  iintro ⟨HI, ⟨%Q, -, HQ⟩, ⟨%d0, H0⟩, ⟨%d1, H1⟩, ⟨%d2, H2⟩⟩
  isplitl [HI]; · iexact HI
  isplitl [HQ]; · iexists _; iexact HQ
  isplitl [H0 H1]
  · isplitl [H0]; · iexact H0
    iexact H1
  iexists _; iexact H2
theorem post_out (c : Dev nD) (t : Fin (cfgM m).N) : leaves m c t ⊢ bodyPost m c t := by
  unfold bodyPost
  rw [show (dats m 0 c).leavesExact 0 t = owns (c : Thread nD τ) (stg0 m t) fullShare ((dats m 0 c).after 0 t) from by
    unfold Dat.leavesExact; rw [show (cfgM m).idle 0 (grid0.coords t) = false from rfl]; rfl, after0]
  rw [show (dats m 0 c).leavesExact 1 t = owns (c : Thread nD τ) (stg1 m t) fullShare ((dats m 0 c).after 1 t) from by
    unfold Dat.leavesExact; rw [show (cfgM m).idle 1 (grid0.coords t) = false from rfl]; rfl, after1]
  rw [show (dats m 0 c).leavesExact 2 t = owns (c : Thread nD τ) (stg2 m t) fullShare ((dats m 0 c).after 2 t) from by
    unfold Dat.leavesExact; rw [show (cfgM m).idle 2 (grid0.coords t) = false from rfl]; rfl, after2]
  rw [inv_succ m c t]
  unfold Dat.owesAt Pipeline.owesWithin
  rw [show (dats m 0 c).owed t.succ = 0 from rfl]
  iintro ⟨HI, ⟨%Q, HQ⟩, ⟨H0, H1⟩, H2⟩
  isplitl [HI]; · iexact HI
  isplitl [HQ]
  · iexists Q; isplitr; · ipureintro; exact fun _ _ => Or.inl trivial
    iexact HQ
  isplitl [H0]; · iexact H0
  isplitl [H1]; · iexact H1
  iexact H2

theorem defs₀_row (t : Fin (cfgM m).N) : defs₀ (F := F) .tc (cfgM m).body ((cfgM m).bodyArgs t ((cfgM m).slots t)) = bodyAt m t := by
  unfold defs₀; rw [Defs.onTc_tc]
theorem body_obligation (c : Dev nD) : BodyObligation (dats (F := F) m 0 c) (defs₀ (F := F)) Variants.none () Set.univ := fun t => by
  rw [bigSep_W0, bigSep_W0, defs₀_row m]
  exact triple_restated (P := bodyPre m c t) (Q := fun _ => bodyPost m c t) ((pre_in m c t).trans ((body_run m c t).trans ((wp frame (wpE (defs₀ (F := F)) Variants.none c none) Set.univ (bodyAt m t)).mono fun _ => post_out m c t))) rfl .rfl fun _ => .rfl

/-! ## The launch -/

/-- The kernel's own semaphore cell. -/
abbrev osem : Fin 1 → SemLoc sig := fun _ => SemLoc.dma 4
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = semVal ((c : Thread nD τ), SemLoc.dma 4) 0 := by
  rw [Pipeline.ownSems0_eq_of_list c osem [0] (by decide) (by decide)]; rfl
/-- The weights' two sources, read by the copies. -/
def readRefs : Finset (Ref sig .tc) := {main_v1, main_v2}
theorem readRefs_sub : readRefs ⊆ Pipeline.restRefsP sig pre0 spec0 := by decide

theorem handed (c : Dev nD) :
    (Pipeline.ΦD osem spec0 readRefs (V m) c : sProp 𝕄)
      = iprop((∃ d, owns (c : Thread nD τ) wM fullShare d)
          ∗ (∃ r, prngReg c r) ∗ semVal ((c : Thread nD τ), SemLoc.dma 4) 0
          ∗ iprop(held c nearM (V m c main_v1) ∗ held c farM (V m c main_v2))) := by
  rw [Pipeline.ΦD_eq, scopedRest0_eq, ownSems_eq, show (bigSep readRefs fun b => ((c : Thread nD τ).loc b) ↦{fullShare} V m c b : sProp 𝕄) = iprop(held c nearM (V m c main_v1) ∗ held c farM (V m c main_v2)) from by
    rw [BI.bigSep_eq_bigSepL_of_eq [main_v1, main_v2] (by decide) (by decide)]; rfl]
  simp only [wM, owns_whole]; try rfl

theorem hin (c : Dev nD) : iprop(Pipeline.ΦD osem spec0 readRefs (V m) c ∗ Pipeline.ΦT pre0 (tbl m) c) ⊢ (dats m 0 c).Φ 0 := by
  rw [handed, show (dats m 0 c).Φ 0 = inv m c 0 from rfl]
  unfold inv
  iintro ⟨⟨⟨%w, HW⟩, Hp, Hs, ⟨Hn, Hf⟩⟩, -⟩
  isplitl [HW]
  · iexists w; isplitr; · ipureintro; exact fun h => absurd rfl h
    iexact HW
  isplitl [Hn]; · iexact Hn
  isplitl [Hf]; · iexact Hf
  isplitl [Hs]; · iexact Hs
  iexact Hp
theorem hout (c : Dev nD) : (dats m 0 c).Φ (Fin.last (cfgM m).N) ⊢ Pipeline.ΦD osem spec0 readRefs (V m) c := by
  rw [handed, show (dats m 0 c).Φ (Fin.last (cfgM m).N) = inv m c grid0.N from rfl]
  unfold inv
  iintro ⟨⟨%w, -, HW⟩, Hn, Hf, Hs, Hp⟩
  isplitl [HW]; · iexists _; iexact HW
  isplitl [Hp]; · iexact Hp
  isplitl [Hs]; · iexact Hs
  isplitl [Hn]; · iexact Hn
  iexact Hf

-- the theorem's implicit arguments are found by unifying its conclusion with this one
set_option backward.isDefEq.respectTransparency.types false in
/-- The run of the whole program: every array of the pipeline, every other buffer and the semaphores. -/
theorem run_main : θ_run defs (onTc (τ := τ) (main (F := F))) (s₀ m ρ)
    (fun r => Pipeline.FramePost (Pipeline.pin pcfgs fun _ => adm m) (dats m) 0 (V m) r ∧ r.2.sem = fun _ => 0) :=
  Pipeline.θ_run_frameP_dma (Q' := _) pcfgs (fun _ => adm m) (dats m) (0 : Fin 1) launch0 osem defs₀ Variants.none ownSemFacts readRefs readRefs_sub m ρ main
    (hbody := fun c => (body_obligation m c).loose) (hshare := fun c => (dats m 0 c).share_full fun _ => rfl)
    (howed := fun _ _ => rfl) (V := V m) (hmain := enters m) (hA := A_eq m) (hpf := V_pre m) (hin := hin m) (hout := hout m)

/-- The run, said of the program's arguments and results. -/
theorem run_results : θ_run defs (onTc (τ := τ) (main (F := F))) ⟨m, fun _ => 0, ρ⟩ (fun r => (∀ c : Dev nD,
      (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.mem ((c.tc : Thread nD τ).loc main_v9) = (dats m 0 c).arrAt 2 (cfgM m).N) ∧ r.2.sem = fun _ => 0) :=
  (θ_run defs _ _).mono (fun r h => ⟨fun c => ⟨⟨
      ((h.1 c).2 main_arg0 (by decide : main_arg0 ∈ Pipeline.restRefs sig spec0)).trans (V_main_arg0 m c),
      ((h.1 c).2 main_arg1 (by decide : main_arg1 ∈ Pipeline.restRefs sig spec0)).trans (V_main_arg1 m c),
      ((h.1 c).2 main_arg2 (by decide : main_arg2 ∈ Pipeline.restRefs sig spec0)).trans (V_main_arg2 m c),
      ((h.1 c).2 main_arg3 (by decide : main_arg3 ∈ Pipeline.restRefs sig spec0)).trans (V_main_arg3 m c)⟩,
      (h.1 c).1 2⟩, h.2⟩) (run_main m ρ)

end Cert.Kernel6Ideal.Far

end
-- ==== Proof.FarReference.lean ====
/- The reference of the in-projection's columns whose weights come from two sources, read at an index. -/
module

public import proofs.«01_k».proof.Proof.Gen.Reference6Ideal.Run
public import proofs.«01_k».proof.Proof.Gen.Reference6Ideal.Read
public import Idealize.ShloMosaic.Lib.Pointwise

@[expose] public section

set_option maxRecDepth 200000

noncomputable section

namespace Cert.Reference6Ideal.Read

open Cert.Reference6Ideal
open Idealize.ShloMosaic Idealize.ShloMosaic.TcCoe Idealize.ShloMosaic.Tactic
open Idealize.SL Idealize.SL.Sem

/-- Row `q` of the weights, from the source it is taken from. -/
def weightAt (near : S7424x1024.Idx → EReal) (far : S1856x1024.Idx → EReal) (q : Fin 7424) (k : Fin 1024) : EReal :=
  if h : q.val < 5568 then near (ix2 q k) else far (ix2 ⟨q.val - 5568, by omega⟩ k)

/-- The array given, columns 4096 to 6143 set to the rows times the weights' last 2048 rows. -/
def placed (h : S4096x1024.Idx → EReal) (near : S7424x1024.Idx → EReal) (far : S1856x1024.Idx → EReal) (into : S4096x7424.Idx → EReal)
    (s : Fin 4096) (j : Fin 7424) : EReal :=
  if g : 4096 ≤ j.val ∧ j.val < 6144 then ∑ k : Fin 1024, h (ix2 s k) * weightAt near far ⟨j.val + 1280, by omega⟩ k else into (ix2 s j)

variable (m : (ℓ : Loc nD τ sig) → Buf (Elt Ideal) ℓ) (c : Dev nD)

set_option maxHeartbeats 4000000 in
/-- The run, its result read. -/
theorem run_results (ρ : Dev nD → PrngReg) : θ_run defs (onTc (τ := τ) (main (F := Ideal))) ⟨m, fun _ => 0, ρ⟩ fun r => ∀ c : Dev nD,
    r.2.mem ((c : Thread nD τ).loc main_v7) = (fun i : S4096x7424.Idx => placed (m ((c : Thread nD τ).loc main_arg0)) (m ((c : Thread nD τ).loc main_arg1))
      (m ((c : Thread nD τ).loc main_arg2)) (m ((c : Thread nD τ).loc main_arg3)) (i 0) (i 1))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) := by
  refine (θ_run defs _ _).mono (fun r h c => ⟨(h c).1.trans ?_, (h c).2⟩) (Value.run (F := Ideal) m ρ)
  funext i
  obtain ⟨s, j, rfl⟩ : ∃ (s : Fin 4096) (j : Fin 7424), i = ix2 s j := ⟨i 0, i 1, eq_ix2 i⟩
  generalize m ((c : Thread nD τ).loc main_arg0) = x
  generalize m ((c : Thread nD τ).loc main_arg1) = near
  generalize m ((c : Thread nD τ).loc main_arg2) = far
  generalize m ((c : Thread nD τ).loc main_arg3) = into
  show _ = placed x near far into s j
  pointwise []
  unfold placed
  by_cases h1 : j.val < 4096
  · rw [dif_pos h1, dif_neg (by omega)]
  by_cases h2 : j.val - 4096 < 2048
  · rw [dif_neg h1, dif_pos h2, dif_pos ⟨by omega, by omega⟩]
    refine Finset.sum_congr rfl fun k _ => congrArg _ ?_
    unfold weightAt
    by_cases h3 : 5376 + (j.val - 4096) < 5568
    · rw [dif_pos h3, dif_pos (show j.val + 1280 < 5568 by omega)]
      exact congrArg near (congrArg (fun q => ix2 q k) (Fin.ext (show 5376 + (j.val - 4096) = j.val + 1280 by omega)))
    · rw [dif_neg h3, dif_neg (show ¬ j.val + 1280 < 5568 by omega)]
      exact congrArg far (congrArg (fun q => ix2 q k) (Fin.ext (show 5376 + (j.val - 4096) - 5568 = j.val + 1280 - 5568 by omega)))
  · rw [dif_neg h1, dif_neg h2, dif_neg (by omega)]
    exact congrArg into (congrArg (ix2 s) (Fin.ext (show 6144 + (j.val - 4096 - 2048) = j.val by omega)))

end Cert.Reference6Ideal.Read

end
-- ==== Proof.FarValues.lean ====
/- The in-projection's columns whose weights come from two sources, over the extended reals: the array the kernel leaves is the one it
   was given, columns 4096 to 6143 set to the rows times the weights. -/
module

public import proofs.«01_k».proof.Proof.FarLaunch
public import proofs.«01_k».proof.Proof.FarReference
public import Idealize.ShloMosaic.Lib.Pointwise
public import Idealize.ShloMosaic.Lib.Pipeline.ReadBack
public import Idealize.ShloMosaic.Lib.Pipeline.Covers

@[expose] public section

set_option maxRecDepth 16384

noncomputable section

namespace Cert.Kernel6Ideal.Far

open Cert.Kernel6Ideal.Gen
open Idealize.ShloMosaic Idealize.ShloMosaic.TcCoe Idealize.ShloMosaic.Tactic
open Idealize.SL Idealize.SL.Sem
open Cert.Reference6Ideal.Read (weightAt placed)

variable (m : (ℓ : Loc nD τ sig) → Buf (Elt Ideal) ℓ) (c : Dev nD)

/-- The arguments, as matrices: the rows, the weights' two sources and the array written over. -/
abbrev aH : S4096x1024.Idx → EReal := m ((c : Thread nD τ).loc main_arg0)
abbrev aNear : S7424x1024.Idx → EReal := m ((c : Thread nD τ).loc main_arg1)
abbrev aFar : S1856x1024.Idx → EReal := m ((c : Thread nD τ).loc main_arg2)
abbrev aInto : S4096x7424.Idx → EReal := m ((c : Thread nD τ).loc main_arg3)

theorem V_h : V m c main_v0 = aH m c := by
  unfold V; after_results_simp <;> (try dsimp only [Matrix.cons_val]) <;> (try after_results_simp) <;> rfl
theorem V_near : V m c main_v1 = aNear m c := by
  unfold V; after_results_simp <;> (try dsimp only [Matrix.cons_val]) <;> (try after_results_simp) <;> rfl
theorem V_far : V m c main_v2 = aFar m c := by
  unfold V; after_results_simp <;> (try dsimp only [Matrix.cons_val]) <;> (try after_results_simp) <;> rfl
theorem V_into : V m c main_v9 = aInto m c := by
  unfold V; after_results_simp <;> (try dsimp only [Matrix.cons_val]) <;> (try after_results_simp) <;> rfl

theorem idx_blocks : ∀ t : Fin grid0.N, cc0_transform_1 (grid0.coords t) = ![0, 0] ∧ k0_off3 (grid0.coords t) = ![256 * t.val, 0] ∧ ((grid0.coords t) 0).val = t.val := by
  decide +kernel
theorem index_h (t : Fin (cfgM m).N) : ((cfgM m).win 1).index t = ![0, 0] := (idx_blocks t).1
theorem index_out (t : Fin (cfgM m).N) : ((cfgM m).win 2).index t = ![0, t.val + 16] := by
  refine (index_map m (grid0.coords t) _ _).trans ?_
  rw [(idx_blocks t).2.2]
theorem point_lt (t : Fin (cfgM m).N) : t.val < 8 := lt_of_lt_of_eq t.isLt (points m)

/-- Row `q` of the weights brought in. -/
theorem joined_at (near : Vec Ideal S7424x1024 .bf16) (far : Vec Ideal S1856x1024 .bf16) (q : Fin 2048) (k : Fin 1024) :
    joined near far (ix2 q k) = weightAt near far ⟨5376 + q.val, by omega⟩ k := by
  unfold joined weightAt
  by_cases h : q.val < 192
  · rw [dif_pos (show 5376 + q.val < 5568 by omega), View.canon_cons_of_not_mem]
    · have e : (ix2 q k : S2048x1024.Idx) = (Rect.whole S2048x1024).emb (ix2 q k) := by
        funext a; apply Fin.ext
        fin_cases a
        · show q.val = 0 + 1 * q.val; omega
        · show k.val = 0 + 1 * k.val; omega
      refine (congrArg _ e).trans ((View.canon_cons_emb (Val := Elt Ideal) (Rect.whole S2048x1024) (View.ld near nearRows) [] (ix2 q k)).trans ?_)
      refine congrArg near ?_
      funext a; apply Fin.ext
      fin_cases a
      · show 5376 + 1 * q.val = 5376 + q.val; omega
      · show 0 + 1 * k.val = k.val; omega
    · intro hm
      obtain ⟨x, hx⟩ := farRows.exists_idx_of_mem hm
      have h0 : 192 + 1 * (x 0).val = q.val := congrArg (fun i : S2048x1024.Idx => (i 0).val) hx
      omega
  · rw [dif_neg (show ¬ 5376 + q.val < 5568 by omega)]
    have e : (ix2 q k : S2048x1024.Idx) = farRows.emb (ix2 (⟨q.val - 192, by omega⟩ : Fin 1856) k) := by
      funext a; apply Fin.ext
      rw [show farRows.emb (ix2 (⟨q.val - 192, by omega⟩ : Fin 1856) k) = farRows.idx (ix2 (⟨q.val - 192, by omega⟩ : Fin 1856) k) from rfl, Rect.idx_unit_val]
      fin_cases a
      · show q.val = 192 + (q.val - 192); omega
      · show k.val = 0 + k.val; omega
    rw [e]
    refine (View.canon_cons_emb _ _ _ _).trans (congrArg far (congrArg (fun r => ix2 r k) (Fin.ext ?_)))
    show q.val - 192 = 5376 + q.val - 5568
    omega

theorem h_at (t : Fin (cfgM m).N) (s : Fin 4096) (k : Fin 1024) : iblk m c 1 t (ix2 s k) = aH m c (ix2 s k) := by
  have e : iblk m c 1 t (ix2 s k) = V m c main_v0 (ix2 s k) := by
    blk_ext [iblk]
    all_goals rw [index_h]; simp
  rw [e, V_h]

/-- A point's rows of the weights. -/
theorem ld_at (t : Fin (cfgM m).N) (w : Vec Ideal S2048x1024 .bf16) (r : Fin 256) (k : Fin 1024) :
    View.ld w (Rect.unit (s := S2048x1024) (k0_off3 (grid0.coords t)) S256x1024.size (k0_off3_inb (grid0.coords t))) (ix2 r k)
      = w (ix2 ⟨256 * t.val + r.val, by have := point_lt m t; omega⟩ k) := by
  refine congrArg w ?_
  funext a; apply Fin.ext
  have h := (idx_blocks t).2.1
  fin_cases a
  · show k0_off3 (grid0.coords t) 0 + 1 * r.val = 256 * t.val + r.val
    rw [h]; simp
  · show k0_off3 (grid0.coords t) 1 + 1 * k.val = k.val
    rw [h]; simp

theorem pay_at (w : Vec Ideal S256x1024 .bf16) (h : Vec Ideal S4096x1024 .bf16) (s : Fin 4096) (r : Fin 256) :
    k0_pay1 w h (ix2 s r) = ∑ k : Fin 1024, h (ix2 s k) * w (ix2 r k) := by
  unfold k0_pay1
  pointwise []

theorem out_at (t : Fin (cfgM m).N) (s : Fin 4096) (r : Fin 256) :
    outAt m c t (ix2 s r) = ∑ k : Fin 1024, aH m c (ix2 s k) * weightAt (aNear m c) (aFar m c) ⟨5376 + (256 * t.val + r.val), by have := point_lt m t; omega⟩ k := by
  unfold outAt times
  refine (pay_at _ _ s r).trans (Finset.sum_congr rfl fun k _ => congrArg₂ _ (h_at m c t s k) ?_)
  refine (ld_at m t _ r k).trans ?_
  unfold weights
  rw [joined_at, V_near, V_far]

/-- The blocks of columns written. -/
abbrev Written (β : Fin 2 → ℕ) : Prop := 16 ≤ β 1 ∧ β 1 < 24

theorem covers : ((cfgM m).win 2).CoversWhere Written := by
  have n0 : ((cfgM m).win 2).nblk (0 : Fin 2) = 1 := by show (4096 + 4096 - 1) / 4096 = 1; decide
  refine ⟨fun a => (by decide : ∀ a : Fin 2, 0 < S4096x256.size a) a, fun t _ => ⟨?_, fun a => ((cfgM m).win 2).xsize_eq_or_end rfl _ a⟩, fun β hβ => ?_⟩
  · rw [index_out]
    have := point_lt m t
    show 16 ≤ t.val + 16 ∧ t.val + 16 < 24
    omega
  · change (a : Fin 2) → Fin _ at β
    change 16 ≤ (β 1).val ∧ (β 1).val < 24 at hβ
    obtain ⟨t, -, hf, hix⟩ := ((cfgM m).win 2).exists_flush_same_index rfl ⟨(β 1).val - 16, lt_of_lt_of_eq (show (β 1).val - 16 < 8 by omega) (points m).symm⟩
    refine ⟨t, fun a => ?_, hf⟩
    rw [hix, index_out]
    change Fin 2 at a
    fin_cases a
    · exact (Nat.lt_one_iff.mp (n0 ▸ (β 0).isLt)).symm
    · show (β 1).val - 16 + 16 = (β 1).val; omega

/-- The columns written. -/
abbrev Within (i : S4096x7424.Idx) : Prop := 4096 ≤ (i 1).val ∧ (i 1).val < 6144

/-- The product, at the columns written. -/
def productAt (s : Fin 4096) (j : Fin 7424) : EReal :=
  if g : 4096 ≤ j.val ∧ j.val < 6144 then ∑ k : Fin 1024, aH m c (ix2 s k) * weightAt (aNear m c) (aFar m c) ⟨j.val + 1280, by omega⟩ k else 0
def product (i : S4096x7424.Idx) : EReal := productAt m c (i 0) (i 1)

theorem placed_inside (s : Fin 4096) (j : Fin 7424) (g : 4096 ≤ j.val ∧ j.val < 6144) :
    placed (aH m c) (aNear m c) (aFar m c) (aInto m c) s j = productAt m c s j := by
  unfold placed productAt
  rw [dif_pos g, dif_pos g]
theorem placed_outside (s : Fin 4096) (j : Fin 7424) (g : ¬ (4096 ≤ j.val ∧ j.val < 6144)) :
    placed (aH m c) (aNear m c) (aFar m c) (aInto m c) s j = aInto m c (ix2 s j) := by
  unfold placed
  rw [dif_neg g]

theorem result : (dats m 0 c).arrAt 2 (cfgM m).N = fun i : S4096x7424.Idx => placed (aH m c) (aNear m c) (aFar m c) (aInto m c) (i 0) (i 1) := by
  refine ((dats m 0 c).arrAt_eq_of_coversWhere (P := Within) 2 (product m c) Written (covers m) (fun t hf y => ?_) fun j => ?_).trans ?_
  · blk_simp
    rw [after2]
    obtain ⟨s, r, rfl⟩ : ∃ (s : Fin 4096) (r : Fin 256), (y : S4096x256.Idx) = ix2 s r := ⟨_, _, eq_ix2 (y : S4096x256.Idx)⟩
    refine (out_at m c t s r).trans ?_
    have ht := point_lt m t
    have e : product m c ((((cfgM m).win 2).blk t).view.emb (ix2 s r)) = product m c (ix2 s ⟨4096 + (256 * t.val + r.val), by omega⟩) := by
      blk_ext []
      all_goals rw [index_out]; simp
      try omega
    refine Eq.trans ?_ e.symm
    show _ = productAt m c s ⟨4096 + (256 * t.val + r.val), by omega⟩
    unfold productAt
    rw [dif_pos (show 4096 ≤ 4096 + (256 * t.val + r.val) ∧ 4096 + (256 * t.val + r.val) < 6144 by omega)]
    refine Finset.sum_congr rfl fun k _ => congrArg _ (congrArg (fun q => weightAt (aNear m c) (aFar m c) q k) (Fin.ext ?_))
    show 5376 + (256 * t.val + r.val) = 4096 + (256 * t.val + r.val) + 1280
    omega
  · change S4096x7424.Idx at j
    show 4096 ≤ (j 1).val ∧ (j 1).val < 6144 ↔ 16 ≤ (j 1).val / 256 ∧ (j 1).val / 256 < 24
    omega
  · funext i
    change S4096x7424.Idx at i
    by_cases g : Within i
    · exact (if_pos g).trans (placed_inside m c (i 0) (i 1) g).symm
    · refine (if_neg g).trans (Eq.trans ?_ (placed_outside m c (i 0) (i 1) g).symm)
      exact (congrFun (V_into m c) i).trans (congrArg (aInto m c) (eq_ix2 i))

end Cert.Kernel6Ideal.Far

end
-- ==== Proof.FarClaims.lean ====
/- The claims of the in-projection's columns whose weights come from two sources. -/
module

public import proofs.«01_k».proof.Defs
public import proofs.«01_k».proof.Proof.FarValues
public import proofs.«01_k».proof.Proof.Gen.Kernel6
public import proofs.«01_k».proof.Proof.Gen.Kernel6Ideal
public import proofs.«01_k».proof.Proof.Gen.Reference6Ideal
public import Idealize.ShloMosaic.Lib.Quiescent
public import Idealize.ShloMosaic.Adequacy

@[expose] public section

noncomputable section

namespace Cert.Proof

open Idealize.ShloMosaic Idealize.ShloMosaic.TcCoe Idealize.ShloMosaic.Tactic Idealize.SL.Sem

/-! The kernel and its reading over the extended reals are one text. -/

set_option maxHeartbeats 4000000 in
theorem bodies_eq6 : Cert.Kernel6.defs₀ (F := Bits) = Cert.Kernel6Ideal.defs₀ (F := Bits) := by
  funext p l
  cases p with
  | tc =>
    match l with
    | ⟨0, _⟩ => rfl
    | ⟨_ + 1, h⟩ => exact absurd h (by omega)
  | _ => rfl

theorem defs_eq6 : Cert.Kernel6.defs (F := Bits) = Cert.Kernel6Ideal.defs (F := Bits) :=
  congrArg (Pipeline.defs Cert.Kernel6Ideal.pcfgs) bodies_eq6

set_option maxHeartbeats 4000000 in
theorem main_eq6 : Cert.Kernel6.main (F := Bits) = Cert.Kernel6Ideal.main (F := Bits) := by
  unfold Cert.Kernel6.main Cert.Kernel6Ideal.main
  rfl

theorem frame_kernel6 : Cert.quiescent_Kernel6 := by
  intro m ρ _
  rw [defs_eq6, main_eq6]
  exact (θ_run Cert.Kernel6Ideal.defs _ _).mono (fun _ h => ⟨fun c => (h.1 c).1, h.2⟩) (Cert.Kernel6Ideal.Far.run_results (F := Bits) m ρ)

theorem frame_kernel6Ideal : Cert.quiescent_Kernel6Ideal := fun m ρ _ =>
  (θ_run Cert.Kernel6Ideal.defs _ _).mono (fun _ h => ⟨fun c => (h.1 c).1, h.2⟩) (Cert.Kernel6Ideal.Far.run_results (F := Ideal) m ρ)

theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Read.run_results m ρ)

theorem algebraic6 : Cert.algebraic_Kernel6Ideal_Reference6Ideal := by
  intro m ρ m' ρ' _ hargs
  refine ⟨fun c => (Cert.Kernel6Ideal.Far.dats m 0 c).arrAt 2 (Cert.Kernel6Ideal.Far.cfgM m).N, ?_, ?_⟩
  · refine (θ_run Cert.Kernel6Ideal.defs _ _).mono (fun r h c => ?_) (Cert.Kernel6Ideal.Far.run_results (F := Ideal) m ρ)
    obtain ⟨hin, h0⟩ := h.1 c
    exact ⟨h0, hin⟩
  · refine (θ_run Cert.Reference6Ideal.defs _ _).mono (fun r h c => ?_) (Cert.Reference6Ideal.Read.run_results m' ρ')
    obtain ⟨h0, hin⟩ := h c
    obtain ⟨a0, a1, a2, a3⟩ := hargs c
    rw [a0, a1, a2, a3] at h0
    exact ⟨h0.trans (Cert.Kernel6Ideal.Far.result m c).symm, hin⟩

end Cert.Proof

end
-- ==== Proof.lean ====
/- The claims (proofs.«01_k».proof.Defs) of the branch merge's backward call and of the two halves of the in-projection's weight
   gradient: the two frames of each kernel, from one run over any float values; the reference's frame, from its straight line of
   host operations; and the kernel's results against the reference's over the extended reals, the merge's gradient of the
   in-projection on the gates' columns only. Those of programs 4, 5 and 6 are in NormedClaims.lean, LossClaims.lean and FarClaims.lean,
   and are only joined here. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Launched
public import proofs.«01_k».proof.Proof.Values
public import proofs.«01_k».proof.Proof.Halves
public import proofs.«01_k».proof.Proof.NormedClaims
public import proofs.«01_k».proof.Proof.LossClaims
public import proofs.«01_k».proof.Proof.FarClaims
public import proofs.«01_k».proof.Proof.Gen.On_gate_columns
public import Idealize.ShloMosaic.Lib.Quiescent
public import Idealize.ShloMosaic.Adequacy
public import Idealize.ShloMosaic.Init

@[expose] public section

noncomputable section

namespace Cert.On_gate_columns

open Idealize.ShloMosaic

/-- Where the mask of the in-projection's gradient is set: the columns of the gates' logits. -/
theorem fn_columns {F : FTy → Type} [FloatOps F] (a : FVec F S4096x1024 .f32) (b₁ b₂ b₃ : FVec F S4096x512 .f32) (p : FVec F S4096x7424 .f32)
    (w₁ w₂ w₃ : FVec F S512x1024 .f32) (o : FVec F S1024x1024 .f32) (i : S4096x7424.Idx)
    (h : (fn a b₁ b₂ b₃ p w₁ w₂ w₃ o).1 i = 1#1) : 3072 ≤ (i 1).val ∧ (i 1).val < 6144 := by
  have key : ∀ q < 7424, IntOp.andi (IntOp.cmpi .sge (BitVec.ofNat 32 q) 3072#32) (IntOp.cmpi .slt (BitVec.ofNat 32 q) 6144#32) = 1#1
      → 3072 ≤ q ∧ q < 6144 := by decide +kernel
  exact key _ (i 1).isLt h

end Cert.On_gate_columns

namespace Cert.Proof

open Idealize.ShloMosaic Idealize.ShloMosaic.TcCoe Idealize.SL.Sem

/-! The kernel and its reading over the extended reals are one text: their tables of bodies and their programs are equal. -/

set_option maxHeartbeats 4000000 in
theorem bodies_eq : Cert.Kernel.defs₀ (F := Bits) = Cert.KernelIdeal.defs₀ (F := Bits) := by
  funext p l
  cases p with
  | tc =>
    match l with
    | ⟨0, _⟩ => rfl
    | ⟨_ + 1, h⟩ => exact absurd h (by omega)
  | _ => rfl

theorem defs_eq : Cert.Kernel.defs (F := Bits) = Cert.KernelIdeal.defs (F := Bits) :=
  congrArg (Pipeline.defs Cert.KernelIdeal.pcfgs) bodies_eq

set_option maxHeartbeats 4000000 in
theorem main_eq : Cert.Kernel.main (F := Bits) = Cert.KernelIdeal.main (F := Bits) := by
  unfold Cert.Kernel.main Cert.KernelIdeal.main
  rfl

theorem frame_kernel : Cert.quiescent_Kernel := by
  intro m ρ _
  rw [defs_eq, main_eq]
  exact (θ_run Cert.KernelIdeal.defs _ _).mono (fun _ h => ⟨fun c => (h.1 c).1, h.2⟩) (Cert.KernelIdeal.Mid.run_results (F := Bits) m ρ)

theorem frame_kernelIdeal : Cert.quiescent_KernelIdeal := fun m ρ _ =>
  (θ_run Cert.KernelIdeal.defs _ _).mono (fun _ h => ⟨fun c => (h.1 c).1, h.2⟩) (Cert.KernelIdeal.Mid.run_results (F := Ideal) m ρ)

/-- The reference's run read at its arguments; it declares no semaphore. -/
theorem frame_reference : Cert.quiescent_ReferenceIdeal := fun m ρ _ =>
  (θ_run Cert.ReferenceIdeal.defs _ _).mono (fun r h => ⟨fun c => (h c).2.2.2.2.2.2, sem_eq_zero_of_no_sems (by decide) r.2⟩)
    (Cert.ReferenceIdeal.Value.run (F := Ideal) m ρ)

open Cert.ReferenceIdeal.Read in
theorem algebraic : Cert.algebraic_KernelIdeal_ReferenceIdeal_on_gate_columns := by
  intro m ρ m' ρ' _ hargs
  refine ⟨fun c => Cert.KernelIdeal.Mid.rProj m c, fun c => (Cert.KernelIdeal.Mid.dats m 0 c).arrAt 8 Cert.KernelIdeal.cfg0.N, fun c => (Cert.KernelIdeal.Mid.dats m 0 c).arrAt 9 Cert.KernelIdeal.cfg0.N,
    fun c => (Cert.KernelIdeal.Mid.dats m 0 c).arrAt 10 Cert.KernelIdeal.cfg0.N, fun c => Cert.KernelIdeal.Mid.dUpEnd m c, fun c => Cert.KernelIdeal.Mid.dOutEnd m c, ?_, ?_⟩
  · refine (θ_run Cert.KernelIdeal.defs _ _).mono (fun r h c => ?_) (Cert.KernelIdeal.Mid.run_results (F := Ideal) m ρ)
    obtain ⟨hin, h0, h1, h2, h3, h4, h5⟩ := h.1 c
    exact ⟨fun i hi => (congrFun h0 i).trans (Cert.KernelIdeal.Mid.dproj_eq m c i (Cert.On_gate_columns.fn_columns _ _ _ _ _ _ _ _ _ i hi)),
      fun i _ => congrFun h1 i, fun i _ => congrFun h2 i, fun i _ => congrFun h3 i, fun i _ => congrFun h4 i, fun i _ => congrFun h5 i, hin⟩
  · refine (θ_run Cert.ReferenceIdeal.defs _ _).mono (fun r h c => ?_) (Cert.ReferenceIdeal.Value.run (F := Ideal) m' ρ')
    obtain ⟨h0, h1, h2, h3, h4, h5, hin⟩ := h c
    obtain ⟨a0, a1, a2, a3, a4, a5, a6, a7, a8⟩ := hargs c
    rw [val_main_v55_eq, a0, a1, a2, a3, a4, a5, a6, a7, a8] at h0
    rw [val_main_v48_eq, a0, a4, a5, a8] at h1
    rw [val_main_v40_eq, a0, a4, a6, a8] at h2
    rw [val_main_v33_eq, a0, a4, a7, a8] at h3
    rw [val_main_v60_eq, a0, a1, a2, a3, a4, a8] at h4
    rw [val_main_v61_eq, a0, a1, a2, a3, a4, a5, a6, a7] at h5
    exact ⟨fun i _ => congrFun h0 i, fun i _ => congrFun (h1.trans (Cert.KernelIdeal.Mid.dya_eq m c).symm) i,
      fun i _ => congrFun (h2.trans (Cert.KernelIdeal.Mid.dyb_eq m c).symm) i, fun i _ => congrFun (h3.trans (Cert.KernelIdeal.Mid.dym_eq m c).symm) i,
      fun i _ => congrFun (h4.trans (Cert.KernelIdeal.Mid.dUp_eq m c).symm) i, fun i _ => congrFun (h5.trans (Cert.KernelIdeal.Mid.dOut_eq m c).symm) i, hin⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.On_gate_columns.Gen.facts,
    frame_kernel, frame_kernelIdeal, frame_reference, frame_kernel2, frame_kernel2Ideal, frame_reference2, frame_kernel3, frame_kernel3Ideal,
    frame_reference3, frame_kernel4, frame_kernel4Ideal, frame_reference4, frame_kernel5, frame_kernel5Ideal, frame_reference5,
    frame_kernel6, frame_kernel6Ideal, frame_reference6, trivial, algebraic, trivial, algebraic2, trivial, algebraic3,
    trivial, algebraic4, trivial, algebraic5, trivial, algebraic6⟩

end Cert.Proof

end
